-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tiles_and_finite [hPre_tiles_and_finite : Cert.Pre_tiles_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_tiles_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tiles_and_finite [hPre_tiles_and_finite : Cert.Pre_tiles_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_tiles_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_tiles_and_finite [hKernelIdeal : Cert.KernelIdeal.Facts] [hPre_tiles_and_finite : Cert.Pre_tiles_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tiles_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_tiles_and_finite [hReferenceIdeal : Cert.ReferenceIdeal.Facts] [hPre_tiles_and_finite : Cert.Pre_tiles_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tiles_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_tiles_and_finite [hKernelIdeal : Cert.KernelIdeal.Facts] [hReferenceIdeal : Cert.ReferenceIdeal.Facts] [hPre_tiles_and_finite : Cert.Pre_tiles_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tiles_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_tiles_and_finite : Cert.Pre_tiles_and_finite.Facts),
    quiescent_Kernel (hKernel := hKernel)
    ∧ quiescent_KernelIdeal (hKernelIdeal := hKernelIdeal)
    ∧ quiescent_KernelIdeal_pre_tiles_and_finite (hKernelIdeal := hKernelIdeal) (hPre_tiles_and_finite := hPre_tiles_and_finite)
    ∧ quiescent_ReferenceIdeal (hReferenceIdeal := hReferenceIdeal)
    ∧ quiescent_ReferenceIdeal_pre_tiles_and_finite (hReferenceIdeal := hReferenceIdeal) (hPre_tiles_and_finite := hPre_tiles_and_finite)
    ∧ preserves_Kernel_KernelIdeal
    ∧ algebraic_KernelIdeal_ReferenceIdeal_pre_tiles_and_finite (hKernelIdeal := hKernelIdeal) (hReferenceIdeal := hReferenceIdeal) (hPre_tiles_and_finite := hPre_tiles_and_finite)
-- ==== Pre_tiles_and_finite.lean ====
abbrev S16384x4 : Shape := ⟨2, ![16384, 4]⟩
abbrev S9 : Shape := ⟨1, ![9]⟩
abbrev S4x64 : Shape := ⟨2, ![4, 64]⟩
abbrev S64 : Shape := ⟨1, ![64]⟩
abbrev S64x64 : Shape := ⟨2, ![64, 64]⟩
abbrev S1x64x64 : Shape := ⟨3, ![1, 64, 64]⟩
abbrev S4096x256 : Shape := ⟨2, ![4096, 256]⟩
abbrev S256 : Shape := ⟨1, ![256]⟩
abbrev S256x256 : Shape := ⟨2, ![256, 256]⟩
abbrev S1 : Shape := ⟨1, ![1]⟩
abbrev S_ : Shape := ⟨0, ![]⟩
abbrev S8 : Shape := ⟨1, ![8]⟩

class Facts : Prop where
  slices_S9_S1_0 : S9.Slices ![0] S1
  bcast_S_S1 : S_.BroadcastsInDim S1 (![] : Fin 0 → Fin S1.rank)
  slices_S9_S1_8 : S9.Slices ![8] S1
  bcast_S_S9 : S_.BroadcastsInDim S9 (![] : Fin 0 → Fin S9.rank)
  slices_S9_S8_1 : S9.Slices ![1] S8
  slices_S9_S8_0 : S9.Slices ![0] S8
  bcast_S_S8 : S_.BroadcastsInDim S8 (![] : Fin 0 → Fin S8.rank)
  bcast_S_S16384x4 : S_.BroadcastsInDim S16384x4 (![] : Fin 0 → Fin S16384x4.rank)
  bcast_S_S4x64 : S_.BroadcastsInDim S4x64 (![] : Fin 0 → Fin S4x64.rank)
  bcast_S_S64 : S_.BroadcastsInDim S64 (![] : Fin 0 → Fin S64.rank)
  bcast_S_S64x64 : S_.BroadcastsInDim S64x64 (![] : Fin 0 → Fin S64x64.rank)

variable [Facts]

def fn_part2 {F : FTy → Type} [FloatOps F] (main_v2 : IVec S1 1) (main_v5 : IVec S1 1) (main_v9 : IVec S9 1) (main_v12 : IVec S8 1) (main_v17 : IVec S8 1) (main_v20 : IVec S16384x4 1) (main_v23 : IVec S4x64 1) (main_v26 : IVec S64 1) (main_v29 : IVec S64x64 1) (main_v32 : IVec S64 1) (main_v35 : IVec S64x64 1) (main_v36 : FVec F S64 .f32) : IVec S1 1 × IVec S1 1 × IVec S9 1 × IVec S8 1 × IVec S8 1 × IVec S16384x4 1 × IVec S4x64 1 × IVec S64 1 × IVec S64x64 1 × IVec S64 1 × IVec S64x64 1 × IVec S64 1 :=
  let main_cst_9 : FVec F S_ .f32 := constant S_ .f32 0x7F800000#32
  let main_v37 : FVec F S64 .f32 := broadcastInDim S64 ![] bcast_S_S64 main_cst_9
  let main_v38 : IVec S64 1 := cmpf .olt main_v36 main_v37
  (main_v2, main_v5, main_v9, main_v12, main_v17, main_v20, main_v23, main_v26, main_v29, main_v32, main_v35, main_v38)

def fn_part1 {F : FTy → Type} [FloatOps F] (main_arg2 : FVec F S4x64 .f32) (main_arg3 : FVec F S64 .f32) (main_arg4 : FVec F S64x64 .f32) (main_arg5 : FVec F S64 .f32) (main_arg6 : FVec F S64x64 .f32) (main_arg9 : FVec F S64 .f32) (main_v2 : IVec S1 1) (main_v5 : IVec S1 1) (main_v9 : IVec S9 1) (main_v12 : IVec S8 1) (main_v17 : IVec S8 1) (main_v18 : FVec F S16384x4 .f32) : IVec S1 1 × IVec S1 1 × IVec S9 1 × IVec S8 1 × IVec S8 1 × IVec S16384x4 1 × IVec S4x64 1 × IVec S64 1 × IVec S64x64 1 × IVec S64 1 × IVec S64x64 1 × IVec S64 1 :=
  let main_cst : FVec F S_ .f32 := constant S_ .f32 0x7F800000#32
  let main_v19 : FVec F S16384x4 .f32 := broadcastInDim S16384x4 ![] bcast_S_S16384x4 main_cst
  let main_v20 : IVec S16384x4 1 := cmpf .olt main_v18 main_v19
  let main_v21 : FVec F S4x64 .f32 := Host.absf main_arg2
  let main_cst_4 : FVec F S_ .f32 := constant S_ .f32 0x7F800000#32
  let main_v22 : FVec F S4x64 .f32 := broadcastInDim S4x64 ![] bcast_S_S4x64 main_cst_4
  let main_v23 : IVec S4x64 1 := cmpf .olt main_v21 main_v22
  let main_v24 : FVec F S64 .f32 := Host.absf main_arg3
  let main_cst_5 : FVec F S_ .f32 := constant S_ .f32 0x7F800000#32
  let main_v25 : FVec F S64 .f32 := broadcastInDim S64 ![] bcast_S_S64 main_cst_5
  let main_v26 : IVec S64 1 := cmpf .olt main_v24 main_v25
  let main_v27 : FVec F S64x64 .f32 := Host.absf main_arg4
  let main_cst_6 : FVec F S_ .f32 := constant S_ .f32 0x7F800000#32
  let main_v28 : FVec F S64x64 .f32 := broadcastInDim S64x64 ![] bcast_S_S64x64 main_cst_6
  let main_v29 : IVec S64x64 1 := cmpf .olt main_v27 main_v28
  let main_v30 : FVec F S64 .f32 := Host.absf main_arg5
  let main_cst_7 : FVec F S_ .f32 := constant S_ .f32 0x7F800000#32
  let main_v31 : FVec F S64 .f32 := broadcastInDim S64 ![] bcast_S_S64 main_cst_7
  let main_v32 : IVec S64 1 := cmpf .olt main_v30 main_v31
  let main_v33 : FVec F S64x64 .f32 := Host.absf main_arg6
  let main_cst_8 : FVec F S_ .f32 := constant S_ .f32 0x7F800000#32
  let main_v34 : FVec F S64x64 .f32 := broadcastInDim S64x64 ![] bcast_S_S64x64 main_cst_8
  let main_v35 : IVec S64x64 1 := cmpf .olt main_v33 main_v34
  let main_v36 : FVec F S64 .f32 := Host.absf main_arg9
  fn_part2 (F := F) main_v2 main_v5 main_v9 main_v12 main_v17 main_v20 main_v23 main_v26 main_v29 main_v32 main_v35 main_v36

def fn {F : FTy → Type} [FloatOps F] (main_arg0 : FVec F S16384x4 .f32) (main_arg1 : IVec S9 32) (main_arg2 : FVec F S4x64 .f32) (main_arg3 : FVec F S64 .f32) (main_arg4 : FVec F S64x64 .f32) (main_arg5 : FVec F S64 .f32) (main_arg6 : FVec F S64x64 .f32) (main_arg7 : FVec F S1x64x64 .f32) (main_arg8 : FVec F S4096x256 .f32) (main_arg9 : FVec F S64 .f32) (main_arg10 : FVec F S64 .f32) (main_arg11 : FVec F S256 .f32) (main_arg12 : FVec F S256 .f32) (main_arg13 : FVec F S256x256 .f32) (main_arg14 : FVec F S256 .f32) (main_arg15 : FVec F S256 .f32) : IVec S1 1 × IVec S1 1 × IVec S9 1 × IVec S8 1 × IVec S8 1 × IVec S16384x4 1 × IVec S4x64 1 × IVec S64 1 × IVec S64x64 1 × IVec S64 1 × IVec S64x64 1 × IVec S64 1 :=
  let main_v0 : IVec S1 32 := (extractStridedSlice S1 ![0] · slices_S9_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S1 32 := (extractStridedSlice S1 ![8] · slices_S9_S1_8) main_arg1
  let main_c_0 : IVec S_ 32 := constantI S_ 32 16384#32
  let main_v4 : IVec S1 32 := broadcastInDim S1 ![] bcast_S_S1 main_c_0
  let main_v5 : IVec S1 1 := cmpi .eq main_v3 main_v4
  let main_c_1 : IVec S_ 32 := constantI S_ 32 511#32
  let main_v6 : IVec S9 32 := broadcastInDim S9 ![] bcast_S_S9 main_c_1
  let main_v7 : IVec S9 32 := andi main_arg1 main_v6
  let main_c_2 : IVec S_ 32 := constantI S_ 32 0#32
  let main_v8 : IVec S9 32 := broadcastInDim S9 ![] bcast_S_S9 main_c_2
  let main_v9 : IVec S9 1 := cmpi .eq main_v7 main_v8
  let main_v10 : IVec S8 32 := (extractStridedSlice S8 ![1] · slices_S9_S8_1) main_arg1
  let main_v11 : IVec S8 32 := (extractStridedSlice S8 ![0] · slices_S9_S8_0) main_arg1
  let main_v12 : IVec S8 1 := cmpi .sge main_v10 main_v11
  let main_v13 : IVec S8 32 := (extractStridedSlice S8 ![1] · slices_S9_S8_1) main_arg1
  let main_v14 : IVec S8 32 := (extractStridedSlice S8 ![0] · slices_S9_S8_0) main_arg1
  let main_v15 : IVec S8 32 := subi main_v13 main_v14
  let main_c_3 : IVec S_ 32 := constantI S_ 32 4096#32
  let main_v16 : IVec S8 32 := broadcastInDim S8 ![] bcast_S_S8 main_c_3
  let main_v17 : IVec S8 1 := cmpi .sle main_v15 main_v16
  let main_v18 : FVec F S16384x4 .f32 := Host.absf main_arg0
  fn_part1 (F := F) main_arg2 main_arg3 main_arg4 main_arg5 main_arg6 main_arg9 main_v2 main_v5 main_v9 main_v12 main_v17 main_v18
-- ==== Kernel.lean ====
abbrev S16384x4 : Shape := ⟨2, ![16384, 4]⟩
abbrev S9 : Shape := ⟨1, ![9]⟩
abbrev S4x64 : Shape := ⟨2, ![4, 64]⟩
abbrev S64 : Shape := ⟨1, ![64]⟩
abbrev S64x64 : Shape := ⟨2, ![64, 64]⟩
abbrev S1x64x64 : Shape := ⟨3, ![1, 64, 64]⟩
abbrev S4096x256 : Shape := ⟨2, ![4096, 256]⟩
abbrev S256 : Shape := ⟨1, ![256]⟩
abbrev S256x256 : Shape := ⟨2, ![256, 256]⟩
abbrev S64x64x256 : Shape := ⟨3, ![64, 64, 256]⟩
abbrev S1x64 : Shape := ⟨2, ![1, 64]⟩
abbrev S1x256 : Shape := ⟨2, ![1, 256]⟩
abbrev S8x256 : Shape := ⟨2, ![8, 256]⟩
abbrev S4096x4 : Shape := ⟨2, ![4096, 4]⟩
abbrev S16384x64 : Shape := ⟨2, ![16384, 64]⟩
abbrev S_ : Shape := ⟨0, ![]⟩
abbrev S32x64x64 : Shape := ⟨3, ![32, 64, 64]⟩
abbrev S32x64 : Shape := ⟨2, ![32, 64]⟩
abbrev S512x4 : Shape := ⟨2, ![512, 4]⟩
abbrev S512x64 : Shape := ⟨2, ![512, 64]⟩
abbrev S512 : Shape := ⟨1, ![512]⟩
abbrev S512x1 : Shape := ⟨2, ![512, 1]⟩
abbrev S32x1 : Shape := ⟨2, ![32, 1]⟩
abbrev S1 : Shape := ⟨1, ![1]⟩
abbrev S32x8 : Shape := ⟨2, ![32, 8]⟩
abbrev S8x64x64 : Shape := ⟨3, ![8, 64, 64]⟩
abbrev S8x64 : Shape := ⟨2, ![8, 64]⟩
abbrev S8x1 : Shape := ⟨2, ![8, 1]⟩
abbrev S1x1 : Shape := ⟨2, ![1, 1]⟩
abbrev S8x1x64 : Shape := ⟨3, ![8, 1, 64]⟩
abbrev S8 : Shape := ⟨1, ![8]⟩
abbrev S8x1x1 : Shape := ⟨3, ![8, 1, 1]⟩
abbrev S64x8x256 : Shape := ⟨3, ![64, 8, 256]⟩

abbrev nBuf : Space → Nat
  | .hbm => 27
  | .vmem => 23
  | .smem => 1
  | _ => 0

abbrev bufTy : (tb : Table) → Fin (tcTables nBuf tb) → BufTy
  | .hbm, ⟨0, _⟩ => ⟨S16384x4, .f32⟩
  | .hbm, ⟨1, _⟩ => ⟨S9, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S1x64x64, .f32⟩
  | .hbm, ⟨8, _⟩ => ⟨S4096x256, .f32⟩
  | .hbm, ⟨9, _⟩ => ⟨S64, .f32⟩
  | .hbm, ⟨10, _⟩ => ⟨S64, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S64x64x256, .f32⟩
  | .hbm, ⟨17, _⟩ => ⟨S64x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S8x256, .f32⟩
  | .local _ .vmem, ⟨0, _⟩ => ⟨S4096x4, .f32⟩
  | .local _ .vmem, ⟨1, _⟩ => ⟨S4096x4, .f32⟩
  | .local _ .vmem, ⟨2, _⟩ => ⟨S4x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S1x256, .f32⟩
  | .local _ .vmem, ⟨15, _⟩ => ⟨S8x256, .f32⟩
  | .local _ .vmem, ⟨16, _⟩ => ⟨S16384x64, .f32⟩
  | .local _ .vmem, ⟨17, _⟩ => ⟨S16384x64, .f32⟩
  | .local _ .vmem, ⟨18, _⟩ => ⟨S1x64, .f32⟩
  | .local _ .vmem, ⟨19, _⟩ => ⟨S1x64, .f32⟩
  | .local _ .vmem, ⟨20, _⟩ => ⟨S64x64x256, .f32⟩
  | .local _ .vmem, ⟨21, _⟩ => ⟨S32x64x64, .f32⟩
  | .local _ .vmem, ⟨22, _⟩ => ⟨S32x64, .f32⟩
  | .local _ .smem, ⟨0, _⟩ => ⟨S9, .i32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_v0 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch6 : Ref sig .tc := ⟨.vmem, 21, rfl⟩
abbrev cc0_scratch7 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_13 : BitVec 32 := 0#32
  let c2_i32 : BitVec 32 := 2#32
  let v17 : BitVec 32 := Scalar.addi c0_i32_13 c2_i32
  let c1_i32 : BitVec 32 := 1#32
  ⟨c0_i32_13, v17, c1_i32⟩
def k0_off1 (k0_t1 : Fin k0_t1_loop.trips) : Fin 2 → Nat :=
  let c4_i32_19 : BitVec 32 := 4#32
  let c0_i32_13 : BitVec 32 := 0#32
  let c1_i32 : BitVec 32 := 1#32
  let arg26 : BitVec 32 := Scf.iv c0_i32_13 c1_i32 k0_t1
  let v25 : BitVec 32 := Scalar.muli c4_i32_19 arg26
  let c512_i32 : BitVec 32 := 512#32
  let v26 : BitVec 32 := Scalar.muli v25 c512_i32
  let v27 : Index := Scalar.indexCast v26
  let c0_20 : Index := 0#32
  ![v27.toNat, 0]
def k0_off2 (i : grid0.Coords) (k0_t1 : Fin k0_t1_loop.trips) : Fin 2 → Nat :=
  let arg0 : BitVec 32 := BitVec.ofNat 32 (i 0).val
  let c4096_i32 : BitVec 32 := 4096#32
  let v40 : BitVec 32 := Scalar.muli arg0 c4096_i32
  let c4_i32_19 : BitVec 32 := 4#32
  let c0_i32_13 : BitVec 32 := 0#32
  let c1_i32 : BitVec 32 := 1#32
  let arg26 : BitVec 32 := Scf.iv c0_i32_13 c1_i32 k0_t1
  let v25 : BitVec 32 := Scalar.muli c4_i32_19 arg26
  let c512_i32_26 : BitVec 32 := 512#32
  let v41 : BitVec 32 := Scalar.muli v25 c512_i32_26
  let v42 : BitVec 32 := Scalar.addi v40 v41
  let v43 : Index := Scalar.indexCast v42
  let c0_27 : Index := 0#32
  ![v43.toNat, 0]
def k0_off3 (k0_t1 : Fin k0_t1_loop.trips) (c1_i32_32 : BitVec 32) : Fin 2 → Nat :=
  let c4_i32_31 : BitVec 32 := 4#32
  let c0_i32_13 : BitVec 32 := 0#32
  let c1_i32 : BitVec 32 := 1#32
  let arg26 : BitVec 32 := Scf.iv c0_i32_13 c1_i32 k0_t1
  let v56 : BitVec 32 := Scalar.muli c4_i32_31 arg26
  let v57 : BitVec 32 := Scalar.addi v56 c1_i32_32
  let c512_i32_33 : BitVec 32 := 512#32
  let v58 : BitVec 32 := Scalar.muli v57 c512_i32_33
  let v59 : Index := Scalar.indexCast v58
  let c0_34 : Index := 0#32
  ![v59.toNat, 0]
def k0_off4 (i : grid0.Coords) (k0_t1 : Fin k0_t1_loop.trips) (c1_i32_32 : BitVec 32) : Fin 2 → Nat :=
  let arg0 : BitVec 32 := BitVec.ofNat 32 (i 0).val
  let c4096_i32_40 : BitVec 32 := 4096#32
  let v72 : BitVec 32 := Scalar.muli arg0 c4096_i32_40
  let c4_i32_31 : BitVec 32 := 4#32
  let c0_i32_13 : BitVec 32 := 0#32
  let c1_i32 : BitVec 32 := 1#32
  let arg26 : BitVec 32 := Scf.iv c0_i32_13 c1_i32 k0_t1
  let v56 : BitVec 32 := Scalar.muli c4_i32_31 arg26
  let v57 : BitVec 32 := Scalar.addi v56 c1_i32_32
  let c512_i32_41 : BitVec 32 := 512#32
  let v73 : BitVec 32 := Scalar.muli v57 c512_i32_41
  let v74 : BitVec 32 := Scalar.addi v72 v73
  let v75 : Index := Scalar.indexCast v74
  let c0_42 : Index := 0#32
  ![v75.toNat, 0]
def k0_cond5 (i : grid0.Coords) : BitVec 1 :=
  let arg0 : BitVec 32 := BitVec.ofNat 32 (i 0).val
  let c4_i32_2 : BitVec 32 := 4#32
  let v6 : BitVec 1 := Scalar.cmpi .eq arg0 c4_i32_2
  let v7 : BitVec 32 := Scalar.extui v6
  let c0_i32_3 : BitVec 32 := 0#32
  let v8 : BitVec 1 := Scalar.cmpi .ne v7 c0_i32_3
  v8

@[reducible] def k0_t2_loop : Scf.Loop 32 :=
  let c0_i32_13 : BitVec 32 := 0#32
  let c4_i32_14 : BitVec 32 := 4#32
  let v27 : BitVec 32 := Scalar.addi c0_i32_13 c4_i32_14
  let c1_i32 : BitVec 32 := 1#32
  ⟨c0_i32_13, v27, c1_i32⟩
def k0_off5 (k0_t2 : Fin k0_t2_loop.trips) (c0_i32_75 : BitVec 32) : Fin 2 → Nat :=
  let c8_i32 : BitVec 32 := 8#32
  let c0_i32_13 : BitVec 32 := 0#32
  let c1_i32 : BitVec 32 := 1#32
  let arg26 : BitVec 32 := Scf.iv c0_i32_13 c1_i32 k0_t2
  let v224 : BitVec 32 := Scalar.muli c8_i32 arg26
  let v225 : BitVec 32 := Scalar.addi v224 c0_i32_75
  let c512_i32_76 : BitVec 32 := 512#32
  let v226 : BitVec 32 := Scalar.muli v225 c512_i32_76
  let v227 : Index := Scalar.indexCast v226
  let c0_77 : Index := 0#32
  ![v227.toNat, 0]
def k0_off6 (k0_t2 : Fin k0_t2_loop.trips) (c0_i32_75 : BitVec 32) : Fin 3 → Nat :=
  let c8_i32 : BitVec 32 := 8#32
  let c0_i32_13 : BitVec 32 := 0#32
  let c1_i32 : BitVec 32 := 1#32
  let arg26 : BitVec 32 := Scf.iv c0_i32_13 c1_i32 k0_t2
  let v224 : BitVec 32 := Scalar.muli c8_i32 arg26
  let v225 : BitVec 32 := Scalar.addi v224 c0_i32_75
  let v246 : Index := Scalar.indexCast v225
  let c0_83 : Index := 0#32
  let c0_84 : Index := 0#32
  ![v246.toNat, 0, 0]
def k0_off7 (k0_t2 : Fin k0_t2_loop.trips) (c0_i32_75 : BitVec 32) : Fin 2 → Nat :=
  let c8_i32 : BitVec 32 := 8#32
  let c0_i32_13 : BitVec 32 := 0#32
  let c1_i32 : BitVec 32 := 1#32
  let arg26 : BitVec 32 := Scf.iv c0_i32_13 c1_i32 k0_t2
  let v224 : BitVec 32 := Scalar.muli c8_i32 arg26
  let v225 : BitVec 32 := Scalar.addi v224 c0_i32_75
  let v252 : Index := Scalar.indexCast v225
  let c0_86 : Index := 0#32
  ![v252.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S16384x4 : Shape := ⟨2, ![16384, 4]⟩
abbrev S9 : Shape := ⟨1, ![9]⟩
abbrev S4x64 : Shape := ⟨2, ![4, 64]⟩
abbrev S64 : Shape := ⟨1, ![64]⟩
abbrev S64x64 : Shape := ⟨2, ![64, 64]⟩
abbrev S1x64x64 : Shape := ⟨3, ![1, 64, 64]⟩
abbrev S4096x256 : Shape := ⟨2, ![4096, 256]⟩
abbrev S256 : Shape := ⟨1, ![256]⟩
abbrev S256x256 : Shape := ⟨2, ![256, 256]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S1x9 : Shape := ⟨2, ![1, 9]⟩
abbrev S16384x1 : Shape := ⟨2, ![16384, 1]⟩
abbrev S16384x9 : Shape := ⟨2, ![16384, 9]⟩
abbrev S8x4096x64 : Shape := ⟨3, ![8, 4096, 64]⟩
abbrev S16384x2 : Shape := ⟨2, ![16384, 2]⟩
abbrev S32768x64 : Shape := ⟨2, ![32768, 64]⟩
abbrev S8x4096 : Shape := ⟨2, ![8, 4096]⟩
abbrev S8x4096x1 : Shape := ⟨3, ![8, 4096, 1]⟩
abbrev S8x64 : Shape := ⟨2, ![8, 64]⟩
abbrev S8x1x64 : Shape := ⟨3, ![8, 1, 64]⟩
abbrev S8x64x64 : Shape := ⟨3, ![8, 64, 64]⟩
abbrev S8 : Shape := ⟨1, ![8]⟩
abbrev S8x1 : Shape := ⟨2, ![8, 1]⟩
abbrev S8x256 : Shape := ⟨2, ![8, 256]⟩
abbrev S1x256 : Shape := ⟨2, ![1, 256]⟩

abbrev nBuf : Space → Nat
  | .hbm => 262
  | .vmem => 0
  | .smem => 0
  | _ => 0

abbrev hbmTy0_0 (i : Nat) : BufTy := match i % 128 with
  | 0 => ⟨S16384x4, .f32⟩
  | 1 => ⟨S9, .i32⟩
  | 2 => ⟨S4x64, .f32⟩
  | 3 => ⟨S64, .f32⟩
  | 4 => ⟨S64x64, .f32⟩
  | 5 => ⟨S64, .f32⟩
  | 6 => ⟨S64x64, .f32⟩
  | 7 => ⟨S1x64x64, .f32⟩
  | 8 => ⟨S4096x256, .f32⟩
  | 9 => ⟨S64, .f32⟩
  | 10 => ⟨S64, .f32⟩
  | 11 => ⟨S256, .f32⟩
  | 12 => ⟨S256, .f32⟩
  | 13 => ⟨S256x256, .f32⟩
  | 14 => ⟨S256, .f32⟩
  | 15 => ⟨S256, .f32⟩
  | 16 => ⟨S16384x64, .f32⟩
  | 17 => ⟨S1x64, .f32⟩
  | 18 => ⟨S16384x64, .f32⟩
  | 19 => ⟨S16384x64, .f32⟩
  | 20 => ⟨S_, .f32⟩
  | 21 => ⟨S16384x64, .f32⟩
  | 22 => ⟨S16384x64, .f32⟩
  | 23 => ⟨S16384x64, .f32⟩
  | 24 => ⟨S1x64, .f32⟩
  | 25 => ⟨S16384x64, .f32⟩
  | 26 => ⟨S16384x64, .f32⟩
  | 27 => ⟨S_, .f32⟩
  | 28 => ⟨S16384x64, .f32⟩
  | 29 => ⟨S16384x64, .f32⟩
  | 30 => ⟨S16384, .i32⟩
  | 31 => ⟨S1x9, .i32⟩
  | 32 => ⟨S16384x1, .i32⟩
  | 33 => ⟨S16384x9, .i32⟩
  | 34 => ⟨S16384x9, .i32⟩
  | 35 => ⟨S16384x9, .i1⟩
  | 36 => ⟨S16384x9, .i32⟩
  | 37 => ⟨S_, .i32⟩
  | 38 => ⟨S16384, .i32⟩
  | 39 => ⟨S_, .i32⟩
  | 40 => ⟨S16384, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S16384, .i32⟩
  | 51 => ⟨S16384, .i32⟩
  | 52 => ⟨S_, .f32⟩
  | 53 => ⟨S8x4096x64, .f32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S16384x1, .i32⟩
  | 70 => ⟨S16384x2, .i32⟩
  | 71 => ⟨S8x4096x64, .f32⟩
  | 72 => ⟨S8x4096x64, .f32⟩
  | 73 => ⟨S32768x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S32768x64, .f32⟩
  | 87 => ⟨S32768x64, .f32⟩
  | 88 => ⟨S32768x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S32768x64, .f32⟩
  | 104 => ⟨S32768x64, .f32⟩
  | 105 => ⟨S_, .f32⟩
  | 106 => ⟨S64, .f32⟩
  | 107 => ⟨S64, .f32⟩
  | 108 => ⟨S64, .f32⟩
  | 109 => ⟨S1x64, .f32⟩
  | 110 => ⟨S32768x64, .f32⟩
  | 111 => ⟨S32768x64, .f32⟩
  | 112 => ⟨S1x64, .f32⟩
  | 113 => ⟨S32768x64, .f32⟩
  | 114 => ⟨S32768x64, .f32⟩
  | 115 => ⟨S1x64, .f32⟩
  | 116 => ⟨S32768x64, .f32⟩
  | 117 => ⟨S32768x64, .f32⟩
  | 118 => ⟨S8x4096x64, .f32⟩
  | 119 => ⟨S_, .f32⟩
  | 120 => ⟨S8x4096, .f32⟩
  | 121 => ⟨S_, .f32⟩
  | 122 => ⟨S8x4096, .f32⟩
  | 123 => ⟨S8x4096, .f32⟩
  | 124 => ⟨S8x4096x1, .f32⟩
  | 125 => ⟨S8x4096x64, .f32⟩
  | 126 => ⟨S8x4096x64, .f32⟩
  | 127 => ⟨S8x4096x64, .f32⟩
  | _ => ⟨S16384x4, .f32⟩

abbrev hbmTy0_1 (i : Nat) : BufTy := match i % 128 with
  | 0 => ⟨S_, .f32⟩
  | 1 => ⟨S8x4096, .f32⟩
  | 2 => ⟨S8x4096x1, .f32⟩
  | 3 => ⟨S8x4096x64, .f32⟩
  | 4 => ⟨S8x4096x64, .f32⟩
  | 5 => ⟨S_, .f32⟩
  | 6 => ⟨S8x64, .f32⟩
  | 7 => ⟨S8x1x64, .f32⟩
  | 8 => ⟨S8x64x64, .f32⟩
  | 9 => ⟨S8x64x64, .f32⟩
  | 10 => ⟨S8x64x64, .f32⟩
  | 11 => ⟨S8x64x64, .f32⟩
  | 12 => ⟨S8x64x64, .f32⟩
  | 13 => ⟨S8x64x64, .f32⟩
  | 14 => ⟨S8x64x64, .f32⟩
  | 15 => ⟨S_, .f32⟩
  | 16 => ⟨S8x64, .f32⟩
  | 17 => ⟨S8x1x64, .f32⟩
  | 18 => ⟨S8x1x64, .f32⟩
  | 19 => ⟨S_, .f32⟩
  | 20 => ⟨S8x1x64, .f32⟩
  | 21 => ⟨S8x1x64, .f32⟩
  | 22 => ⟨S8x64x64, .f32⟩
  | 23 => ⟨S8x64x64, .f32⟩
  | 24 => ⟨S8x4096, .f32⟩
  | 25 => ⟨S8x4096, .f32⟩
  | 26 => ⟨S_, .f32⟩
  | 27 => ⟨S8, .f32⟩
  | 28 => ⟨S8x1, .f32⟩
  | 29 => ⟨S8x1, .f32⟩
  | 30 => ⟨S_, .f32⟩
  | 31 => ⟨S8x1, .f32⟩
  | 32 => ⟨S8x1, .f32⟩
  | 33 => ⟨S8x4096, .f32⟩
  | 34 => ⟨S8x4096, .f32⟩
  | 35 => ⟨S8x256, .f32⟩
  | 36 => ⟨S_, .f32⟩
  | 37 => ⟨S256, .f32⟩
  | 38 => ⟨S_, .f32⟩
  | 39 => ⟨S256, .f32⟩
  | 40 => ⟨S256, .f32⟩
  | 41 => ⟨S_, .i32⟩
  | 42 => ⟨S_, .f32⟩
  | 43 => ⟨S256, .f32⟩
  | 44 => ⟨S1x256, .f32⟩
  | 45 => ⟨S_, .f32⟩
  | 46 => ⟨S1x256, .f32⟩
  | 47 => ⟨S1x256, .f32⟩
  | 48 => ⟨S8x256, .f32⟩
  | 49 => ⟨S8x256, .f32⟩
  | 50 => ⟨S8x256, .f32⟩
  | 51 => ⟨S_, .f32⟩
  | 52 => ⟨S_, .f32⟩
  | 53 => ⟨S_, .f32⟩
  | 54 => ⟨S_, .f32⟩
  | 55 => ⟨S256, .f32⟩
  | 56 => ⟨S256, .f32⟩
  | 57 => ⟨S256, .f32⟩
  | 58 => ⟨S_, .f32⟩
  | 59 => ⟨S_, .i1⟩
  | 60 => ⟨S_, .f32⟩
  | 61 => ⟨S_, .f32⟩
  | 62 => ⟨S256, .f32⟩
  | 63 => ⟨S256, .f32⟩
  | 64 => ⟨S1x256, .f32⟩
  | 65 => ⟨S8x256, .f32⟩
  | 66 => ⟨S8x256, .f32⟩
  | 67 => ⟨S_, .f32⟩
  | 68 => ⟨S256, .f32⟩
  | 69 => ⟨S256, .f32⟩
  | 70 => ⟨S256, .f32⟩
  | 71 => ⟨S1x256, .f32⟩
  | 72 => ⟨S8x256, .f32⟩
  | 73 => ⟨S8x256, .f32⟩
  | 74 => ⟨S1x256, .f32⟩
  | 75 => ⟨S8x256, .f32⟩
  | 76 => ⟨S8x256, .f32⟩
  | 77 => ⟨S1x256, .f32⟩
  | 78 => ⟨S8x256, .f32⟩
  | 79 => ⟨S8x256, .f32⟩
  | 80 => ⟨S8x256, .f32⟩
  | 81 => ⟨S_, .f32⟩
  | 82 => ⟨S256, .f32⟩
  | 83 => ⟨S_, .f32⟩
  | 84 => ⟨S256, .f32⟩
  | 85 => ⟨S256, .f32⟩
  | 86 => ⟨S_, .i32⟩
  | 87 => ⟨S_, .f32⟩
  | 88 => ⟨S256, .f32⟩
  | 89 => ⟨S1x256, .f32⟩
  | 90 => ⟨S_, .f32⟩
  | 91 => ⟨S1x256, .f32⟩
  | 92 => ⟨S1x256, .f32⟩
  | 93 => ⟨S8x256, .f32⟩
  | 94 => ⟨S8x256, .f32⟩
  | 95 => ⟨S8x256, .f32⟩
  | 96 => ⟨S_, .f32⟩
  | 97 => ⟨S_, .f32⟩
  | 98 => ⟨S_, .f32⟩
  | 99 => ⟨S_, .f32⟩
  | 100 => ⟨S256, .f32⟩
  | 101 => ⟨S256, .f32⟩
  | 102 => ⟨S256, .f32⟩
  | 103 => ⟨S_, .f32⟩
  | 104 => ⟨S_, .i1⟩
  | 105 => ⟨S_, .f32⟩
  | 106 => ⟨S_, .f32⟩
  | 107 => ⟨S256, .f32⟩
  | 108 => ⟨S256, .f32⟩
  | 109 => ⟨S1x256, .f32⟩
  | 110 => ⟨S8x256, .f32⟩
  | 111 => ⟨S8x256, .f32⟩
  | 112 => ⟨S_, .f32⟩
  | 113 => ⟨S256, .f32⟩
  | 114 => ⟨S256, .f32⟩
  | 115 => ⟨S256, .f32⟩
  | 116 => ⟨S1x256, .f32⟩
  | 117 => ⟨S8x256, .f32⟩
  | 118 => ⟨S8x256, .f32⟩
  | 119 => ⟨S1x256, .f32⟩
  | 120 => ⟨S8x256, .f32⟩
  | 121 => ⟨S8x256, .f32⟩
  | 122 => ⟨S1x256, .f32⟩
  | 123 => ⟨S8x256, .f32⟩
  | 124 => ⟨S8x256, .f32⟩
  | 125 => ⟨S8x256, .f32⟩
  | 126 => ⟨S8x256, .f32⟩
  | 127 => ⟨S_, .f32⟩
  | _ => ⟨S16384x4, .f32⟩

abbrev hbmTy0_2 (i : Nat) : BufTy := match i % 128 with
  | 0 => ⟨S8x256, .f32⟩
  | 1 => ⟨S8x256, .f32⟩
  | 2 => ⟨S_, .f32⟩
  | 3 => ⟨S8x256, .f32⟩
  | 4 => ⟨S8x256, .f32⟩
  | 5 => ⟨S8x256, .f32⟩
  | _ => ⟨S16384x4, .f32⟩

abbrev hbmTy (i : Nat) : BufTy := match i / 128 with
  | 0 => hbmTy0_0 i
  | 1 => hbmTy0_1 i
  | 2 => hbmTy0_2 i
  | _ => ⟨S16384x4, .f32⟩

abbrev bufTy : (tb : Table) → Fin (tcTables nBuf tb) → BufTy
  | .hbm, ⟨i, _⟩ => hbmTy i
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_c_0 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_c_9 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_10 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_11 : Ref sig .tc := ⟨.hbm, 119, rfl⟩
abbrev main_v65 : Ref sig .tc := ⟨.hbm, 120, rfl⟩
abbrev main_cst_12 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_13 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_14 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_15 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_16 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_17 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_18 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_19 : Ref sig .tc := ⟨.hbm, 164, rfl⟩
abbrev main_v102 : Ref sig .tc := ⟨.hbm, 165, rfl⟩
abbrev main_cst_20 : Ref sig .tc := ⟨.hbm, 166, rfl⟩
abbrev main_v103 : Ref sig .tc := ⟨.hbm, 167, rfl⟩
abbrev main_v104 : Ref sig .tc := ⟨.hbm, 168, rfl⟩
abbrev main_c_21 : Ref sig .tc := ⟨.hbm, 169, rfl⟩
abbrev main_call3_cst : Ref sig .tc := ⟨.hbm, 170, rfl⟩
abbrev main_call3_v0 : Ref sig .tc := ⟨.hbm, 171, rfl⟩
abbrev main_call3_v1 : Ref sig .tc := ⟨.hbm, 172, rfl⟩
abbrev main_call3_cst_0 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_call3_v5 : Ref sig .tc := ⟨.hbm, 177, rfl⟩
abbrev main_call3_v6 : Ref sig .tc := ⟨.hbm, 178, rfl⟩
abbrev main_call3_v7 : Ref sig .tc := ⟨.hbm, 179, rfl⟩
abbrev main_call3_cst_1 : Ref sig .tc := ⟨.hbm, 180, rfl⟩
abbrev main_call3_v8 : Ref sig .tc := ⟨.hbm, 181, rfl⟩
abbrev main_call3_cst_2 : Ref sig .tc := ⟨.hbm, 182, rfl⟩
abbrev main_call3_v9 : Ref sig .tc := ⟨.hbm, 183, rfl⟩
abbrev main_call3_v10 : Ref sig .tc := ⟨.hbm, 184, rfl⟩
abbrev main_call3_v11 : Ref sig .tc := ⟨.hbm, 185, rfl⟩
abbrev main_call3_cst_3 : Ref sig .tc := ⟨.hbm, 186, rfl⟩
abbrev main_call3_v12 : Ref sig .tc := ⟨.hbm, 187, rfl⟩
abbrev main_call3_cst_4 : Ref sig .tc := ⟨.hbm, 188, rfl⟩
abbrev main_call3_call0_v0 : Ref sig .tc := ⟨.hbm, 189, rfl⟩
abbrev main_call3_call0_v1 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_cst_22 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_cst_23 : Ref sig .tc := ⟨.hbm, 209, rfl⟩
abbrev main_v122 : Ref sig .tc := ⟨.hbm, 210, rfl⟩
abbrev main_cst_24 : Ref sig .tc := ⟨.hbm, 211, rfl⟩
abbrev main_v123 : Ref sig .tc := ⟨.hbm, 212, rfl⟩
abbrev main_v124 : Ref sig .tc := ⟨.hbm, 213, rfl⟩
abbrev main_c_25 : Ref sig .tc := ⟨.hbm, 214, rfl⟩
abbrev main_call4_cst : Ref sig .tc := ⟨.hbm, 215, rfl⟩
abbrev main_call4_v0 : Ref sig .tc := ⟨.hbm, 216, rfl⟩
abbrev main_call4_v1 : Ref sig .tc := ⟨.hbm, 217, rfl⟩
abbrev main_call4_cst_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_v6 : Ref sig .tc := ⟨.hbm, 223, rfl⟩
abbrev main_call4_v7 : Ref sig .tc := ⟨.hbm, 224, rfl⟩
abbrev main_call4_cst_1 : Ref sig .tc := ⟨.hbm, 225, rfl⟩
abbrev main_call4_v8 : Ref sig .tc := ⟨.hbm, 226, rfl⟩
abbrev main_call4_cst_2 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_cst_3 : Ref sig .tc := ⟨.hbm, 231, rfl⟩
abbrev main_call4_v12 : Ref sig .tc := ⟨.hbm, 232, rfl⟩
abbrev main_call4_cst_4 : Ref sig .tc := ⟨.hbm, 233, rfl⟩
abbrev main_call4_call0_v0 : Ref sig .tc := ⟨.hbm, 234, rfl⟩
abbrev main_call4_call0_v1 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_cst_26 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_cst_27 : Ref sig .tc := ⟨.hbm, 255, rfl⟩
abbrev main_v143 : Ref sig .tc := ⟨.hbm, 256, rfl⟩
abbrev main_v144 : Ref sig .tc := ⟨.hbm, 257, rfl⟩
abbrev main_cst_28 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩

abbrev nD : Nat := 1
abbrev τ : Topo := Topo.v7x

variable {F : FTy → Type} [FloatOps F]
-- ==== Proof.KernelIdealLoops.lean ====
/-
  The kernel's two counted loops run over the pipeline algebra extended by the transfer counters. One trip of each is
  executed once at a symbolic trip number; what it stores is collected in lists of written pieces, and the loops'
  invariants say that each written buffer holds the pieces of the trips before.
-/
module

public import proofs.«01_k».proof.Proof.Gen.KernelIdeal.Loops
public import Idealize.ShloMosaic.Lib.Pipeline.FrameBody
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline's beside the transfers' counters. -/
local notation "𝕄" => MT nD τ sig Unit (Elt F) ℕ (Pipeline.UD sig nD τ) ℕ

variable (𝒱 : Variants) (c : Dev nD) (bd : Option 𝒱.V)
  (i : grid0.Coords) (arg1 : Memref sig .tc .smem S9 .i32) (harg1 : arg1.IsWhole) (arg2 : Memref sig .tc .vmem S4096x4 .f32) (harg2 : arg2.IsWhole) (arg3 : Memref sig .tc .vmem S4x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x64 .f32) (harg8 : arg8.IsWhole) (arg9 : Memref sig .tc .hbm S64x64x256 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S8x256 .f32) (harg17 : arg17.IsWhole) (arg18 : Memref sig .tc .vmem S16384x64 .f32) (harg18 : arg18.IsWhole) (arg19 : Memref sig .tc .vmem S16384x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S64x64x256 .f32) (harg22 : arg22.IsWhole) (arg23 : DmaSems sig S_) (arg24 : Memref sig .tc .vmem S32x64x64 .f32) (harg24 : arg24.IsWhole) (arg25 : Memref sig .tc .vmem S32x64 .f32) (harg25 : arg25.IsWhole)

section First
variable (arg0 : BitVec 32) (k0_h2 : k0_cond2 i = 1#1) (v9 : Vec F S4x64 .f32) (v10 : Vec F S1x64 .f32) (v12 : Vec F S64x64 .f32) (v13 : Vec F S1x64 .f32) (v15 : Vec F S64x64 .f32)
  (X2 : BufTy.Contents (Elt F) arg2.view.ty)

/-- What one trip of the first loop needs: the staged rows, and the two scratch arrays it writes. -/
abbrev Res1 (f18 : BufTy.Contents (Elt F) arg18.view.ty) (f19 : BufTy.Contents (Elt F) arg19.view.ty) : sProp 𝕄 :=
  iprop((arg2.view.loc (c : Thread nD τ) ↦[arg2.view.set]{fullShare} X2) ∗ (arg18.view.loc (c : Thread nD τ) ↦[arg18.view.set]{fullShare} f18) ∗ (arg19.view.loc (c : Thread nD τ) ↦[arg19.view.set]{fullShare} f19))

/-- One trip of the first loop: it yields a value computed from the carried one and writes lists of pieces. -/
@[irreducible] def trip1 (k : Fin k0_t1_loop.trips) :
    Σ' (R : ((FVec F S1x64 .f32 × FVec F S1x64 .f32) → FVec F S1x64 .f32 × FVec F S1x64 .f32)) (L18 : List (View.Piece (Elt F) S16384x64 .f32)),
    { L19 : List (View.Piece (Elt F) S16384x64 .f32) // ∀ (E : Set ℕ) (acc : FVec F S1x64 .f32 × FVec F S1x64 .f32) (f18 : BufTy.Contents (Elt F) arg18.view.ty) (f19 : BufTy.Contents (Elt F) arg19.view.ty),
      Res1 (F := F) c arg2 arg18 arg19 X2 f18 f19
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 k acc)
          (fun y => iprop(⌜y = R acc⌝ ∗ Res1 (F := F) c arg2 arg18 arg19 X2 (arg18.view.writes (Elt F) f18 L18) (arg19.view.writes (Elt F) f19 L19))) } := by
  have hk : k.val < 2 := Nat.lt_of_lt_of_le k.isLt k0_t1_abs.2.1
  refine ⟨?_, ?_, ?_, fun E acc f18 f19 => ?run⟩
  case run =>
    unfold k0_t1_body
    iintro ⟨HX, H18, H19⟩
    sl_exec
    sl_step
    sl_close

/-- The first loop's state after trip `k`, from the state before it. -/
@[irreducible] def step1 (k : ℕ) (s : (FVec F S1x64 .f32 × FVec F S1x64 .f32) × List (View.Piece (Elt F) S16384x64 .f32) × List (View.Piece (Elt F) S16384x64 .f32)) :
    (FVec F S1x64 .f32 × FVec F S1x64 .f32) × List (View.Piece (Elt F) S16384x64 .f32) × List (View.Piece (Elt F) S16384x64 .f32) :=
  if h : k < k0_t1_loop.trips then
    ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 ⟨k, h⟩).1 s.1, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 ⟨k, h⟩).2.1 ++ s.2.1, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 ⟨k, h⟩).2.2.1 ++ s.2.2)
  else s

/-- The first loop's state before trip `k`: the carried value and the pieces written so far, last first. -/
def state1 (init : FVec F S1x64 .f32 × FVec F S1x64 .f32) : ℕ → (FVec F S1x64 .f32 × FVec F S1x64 .f32) × List (View.Piece (Elt F) S16384x64 .f32) × List (View.Piece (Elt F) S16384x64 .f32)
  | 0 => (init, [], [])
  | k + 1 => step1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k (state1 init k)

/-- The state after a trip the loop makes. -/
theorem state1_succ (init : FVec F S1x64 .f32 × FVec F S1x64 .f32) (k : Fin k0_t1_loop.trips) :
    state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init (k.val + 1)
      = ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).1 (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init k.val).1,
         (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).2.1 ++ (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init k.val).2.1,
         (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).2.2.1 ++ (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init k.val).2.2) := by
  rw [state1.eq_2]; unfold step1; exact dif_pos k.isLt

/-- Before the first trip the carried value is the initial one. -/
theorem state1_zero (init : FVec F S1x64 .f32 × FVec F S1x64 .f32) :
    (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init 0).1 = init := rfl

/-- The first loop's invariant before trip `k`. -/
abbrev loopInv1 (G18 : BufTy.Contents (Elt F) arg18.view.ty) (G19 : BufTy.Contents (Elt F) arg19.view.ty) (init : FVec F S1x64 .f32 × FVec F S1x64 .f32)
    (k : ℕ) (acc : FVec F S1x64 .f32 × FVec F S1x64 .f32) : sProp 𝕄 :=
  iprop((arg2.view.loc (c : Thread nD τ) ↦[arg2.view.set]{fullShare} X2)
    ∗ (∃ f, (arg18.view.loc (c : Thread nD τ) ↦[arg18.view.set]{fullShare} f) ∗ ⌜f = arg18.view.writes (Elt F) G18 (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init k).2.1⌝)
    ∗ (∃ f, (arg19.view.loc (c : Thread nD τ) ↦[arg19.view.set]{fullShare} f) ∗ ⌜f = arg19.view.writes (Elt F) G19 (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init k).2.2⌝)
    ∗ ⌜acc = (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init k).1⌝)

set_option warn.classDefReducibility false in
/-- The first loop goes through by its invariant. -/
@[sl_loop] def loop1 (E : Set ℕ) (G18 : BufTy.Contents (Elt F) arg18.view.ty) (G19 : BufTy.Contents (Elt F) arg19.view.ty) (init : FVec F S1x64 .f32 × FVec F S1x64 .f32) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 init where
  inv := loopInv1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 G18 G19 init
  step k acc := by
    iintro ⟨HX, ⟨%f18, H18, %h18⟩, ⟨%f19, H19, %h19⟩, %hacc⟩
    subst hacc
    iapply (wp_wand_r Idealize.ShloMosaic.frame (wpE (defs₀ (F := F)) 𝒱 (c : Thread nD τ) bd) E)
    isplitl [HX H18 H19]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).2.2.2 E (state1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init k.val).1 f18 f19)
      isplitl [HX]; · iexact HX
      isplitl [H18]; · iexact H18
      iexact H19
    · iintro %y ⟨%hy, HX, H18, H19⟩
      isplitl [HX]; · iexact HX
      simp only [state1_succ]
      isplitl [H18]
      · iexists _; isplitl [H18]; · iexact H18
        ipureintro; rw [h18, ← View.writes_append]
      isplitl [H19]
      · iexists _; isplitl [H19]; · iexact H19
        ipureintro; rw [h19, ← View.writes_append]
      ipureintro; rw [hy]

end First

section Second
variable (k0_h5 : k0_cond5 i = 1#1) (w9 : Vec F S1x64 .f32) (w12 : Vec F S1x64 .f32) (w20 : Vec F S1x64 .f32) (w22 : Vec F S1x64 .f32)
  (X18 : BufTy.Contents (Elt F) arg18.view.ty) (X19 : BufTy.Contents (Elt F) arg19.view.ty)

/-- What one trip of the second loop needs: the stored rows it reads, and the two arrays of tile sums it writes. -/
abbrev Res2 (f24 : BufTy.Contents (Elt F) arg24.view.ty) (f25 : BufTy.Contents (Elt F) arg25.view.ty) : sProp 𝕄 :=
  iprop((arg18.view.loc (c : Thread nD τ) ↦[arg18.view.set]{fullShare} X18) ∗ (arg19.view.loc (c : Thread nD τ) ↦[arg19.view.set]{fullShare} X19) ∗ (arg24.view.loc (c : Thread nD τ) ↦[arg24.view.set]{fullShare} f24) ∗ (arg25.view.loc (c : Thread nD τ) ↦[arg25.view.set]{fullShare} f25))

/-- One trip of the second loop: the pieces it writes into the two arrays of tile sums. -/
@[irreducible] def trip2 (k : Fin k0_t2_loop.trips) :
    Σ' (L24 : List (View.Piece (Elt F) S32x64x64 .f32)), { L25 : List (View.Piece (Elt F) S32x64 .f32) // ∀ (E : Set ℕ) (f24 : BufTy.Contents (Elt F) arg24.view.ty) (f25 : BufTy.Contents (Elt F) arg25.view.ty),
      Res2 (F := F) c arg18 arg19 arg24 arg25 X18 X19 f24 f25
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 k PUnit.unit)
          (fun _ => Res2 (F := F) c arg18 arg19 arg24 arg25 X18 X19 (arg24.view.writes (Elt F) f24 L24) (arg25.view.writes (Elt F) f25 L25)) } := by
  have hk : k.val < 4 := Nat.lt_of_lt_of_le k.isLt k0_t2_abs.2.1
  refine ⟨?_, ?_, fun E f24 f25 => ?run⟩
  case run =>
    unfold k0_t2_body
    iintro ⟨HX18, HX19, H24, H25⟩
    sl_exec
    sl_step
    sl_close

/-- The pieces after trip `k` of the second loop, from those before it. -/
@[irreducible] def step2 (k : ℕ) (s : List (View.Piece (Elt F) S32x64x64 .f32) × List (View.Piece (Elt F) S32x64 .f32)) :
    List (View.Piece (Elt F) S32x64x64 .f32) × List (View.Piece (Elt F) S32x64 .f32) :=
  if h : k < k0_t2_loop.trips then
    ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 ⟨k, h⟩).1 ++ s.1, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 ⟨k, h⟩).2.1 ++ s.2)
  else s

/-- The pieces the second loop has written before trip `k`, last first. -/
def state2 : ℕ → List (View.Piece (Elt F) S32x64x64 .f32) × List (View.Piece (Elt F) S32x64 .f32)
  | 0 => ([], [])
  | k + 1 => step2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k (state2 k)

/-- The pieces after a trip the loop makes. -/
theorem state2_succ (k : Fin k0_t2_loop.trips) :
    state2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 (k.val + 1)
      = ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).1 ++ (state2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k.val).1,
         (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).2.1 ++ (state2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k.val).2) := by
  rw [state2.eq_2]; unfold step2; exact dif_pos k.isLt

/-- The second loop's invariant before trip `k`. -/
abbrev loopInv2 (G24 : BufTy.Contents (Elt F) arg24.view.ty) (G25 : BufTy.Contents (Elt F) arg25.view.ty) (k : ℕ) (_u : PUnit) : sProp 𝕄 :=
  iprop((arg18.view.loc (c : Thread nD τ) ↦[arg18.view.set]{fullShare} X18) ∗ (arg19.view.loc (c : Thread nD τ) ↦[arg19.view.set]{fullShare} X19)
    ∗ (∃ f, (arg24.view.loc (c : Thread nD τ) ↦[arg24.view.set]{fullShare} f) ∗ ⌜f = arg24.view.writes (Elt F) G24 (state2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).1⌝)
    ∗ (∃ f, (arg25.view.loc (c : Thread nD τ) ↦[arg25.view.set]{fullShare} f) ∗ ⌜f = arg25.view.writes (Elt F) G25 (state2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).2⌝))

set_option warn.classDefReducibility false in
/-- The second loop goes through by its invariant. -/
@[sl_loop] def loop2 (E : Set ℕ) (G24 : BufTy.Contents (Elt F) arg24.view.ty) (G25 : BufTy.Contents (Elt F) arg25.view.ty) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 where
  inv := loopInv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 G24 G25
  step k acc := by
    iintro ⟨HX18, HX19, ⟨%f24, H24, %h24⟩, ⟨%f25, H25, %h25⟩⟩
    iapply (wp_wand_r Idealize.ShloMosaic.frame (wpE (defs₀ (F := F)) 𝒱 (c : Thread nD τ) bd) E)
    isplitl [HX18 HX19 H24 H25]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).2.2 E f24 f25)
      isplitl [HX18]; · iexact HX18
      isplitl [HX19]; · iexact HX19
      isplitl [H24]; · iexact H24
      iexact H25
    · iintro %y ⟨HX18, HX19, H24, H25⟩
      isplitl [HX18]; · iexact HX18
      isplitl [HX19]; · iexact HX19
      simp only [state2_succ]
      isplitl [H24]
      · iexists _; isplitl [H24]; · iexact H24
        ipureintro; rw [h24, ← View.writes_append]
      iexists _; isplitl [H25]; · iexact H25
      ipureintro; rw [h25, ← View.writes_append]

end Second

end Cert.KernelIdeal.Hand

end
-- ==== Proof.KernelIdealBody.lean ====
/-
  The body of the kernel at the first point of the grid, at a later point of its first phase, and at the last point.
-/
module

public import proofs.«01_k».proof.Proof.KernelIdealLoops
public import proofs.«01_k».proof.Proof.Gen.KernelIdeal.Points
public import Idealize.ShloMosaic.Lib.Ring

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline's beside the transfers' counters. -/
local notation "𝕄" => MT nD τ sig Unit (Elt F) ℕ (Pipeline.UD sig nD τ) ℕ
/-- The copy of the third weight array in flight: at its arrival the scratch array holds the source's words. -/
abbrev inflight (c : Dev nD) (arg9 : Memref sig .tc .hbm S64x64x256 .f32) (arg22 : Memref sig .tc .vmem S64x64x256 .f32) (arg23 : DmaSems sig S_)
    (X9 : BufTy.Contents (Elt F) arg9.view.ty) (f22 : BufTy.Contents (Elt F) arg22.view.ty) : sProp 𝕄 :=
  Transfers.Flight (countersEmb (U := Pipeline.UD sig nD τ)) (c : Thread nD τ) (.dma arg23.sem) () (arg22.view.amount (SemLoc.dma (sig := sig) arg23.sem))
    iprop((arg22.view.loc (c : Thread nD τ) ↦[arg22.view.set]{fullShare} arg22.view.writes (Elt F) f22 [⟨Rect.whole S64x64x256, ReadAs.same.apply (arg9.view.read (Elt F) X9)⟩])
      ∗ (arg9.view.loc (c : Thread nD τ) ↦[arg9.view.set]{fullShare} X9))

variable (c : Dev nD) (i : grid0.Coords) (arg1 : Memref sig .tc .smem S9 .i32) (harg1 : arg1.IsWhole) (arg2 : Memref sig .tc .vmem S4096x4 .f32) (harg2 : arg2.IsWhole) (arg3 : Memref sig .tc .vmem S4x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x64 .f32) (harg8 : arg8.IsWhole) (arg9 : Memref sig .tc .hbm S64x64x256 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S8x256 .f32) (harg17 : arg17.IsWhole) (arg18 : Memref sig .tc .vmem S16384x64 .f32) (harg18 : arg18.IsWhole) (arg19 : Memref sig .tc .vmem S16384x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S64x64x256 .f32) (harg22 : arg22.IsWhole) (arg23 : DmaSems sig S_) (arg24 : Memref sig .tc .vmem S32x64x64 .f32) (harg24 : arg24.IsWhole) (arg25 : Memref sig .tc .vmem S32x64 .f32) (harg25 : arg25.IsWhole)

/-- The first point: it starts the copy, stores the rows of its block and the column sums. -/
@[irreducible] def runA0 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty)
    (h1 : Scalar.cmpi .ne ((Scalar.extui (Scalar.cmpi .eq (BitVec.ofNat 32 (i 0).val) 0#32) : BitVec 32)) 0#32 = 1#1) (h2 : k0_cond2 i = 1#1) (h4 : ¬ (Scalar.cmpi .ne ((Scalar.extui (Scalar.cmpi .sgt (BitVec.ofNat 32 (i 0).val) 0#32) : BitVec 32)) 0#32 = 1#1)) (h5 : ¬ (k0_cond5 i = 1#1)) :
    Σ' (L18 L19 : List (View.Piece (Elt F) S16384x64 .f32)) (L20 : List (View.Piece (Elt F) S1x64 .f32)), { L21 : List (View.Piece (Elt F) S1x64 .f32) //
    ∀ (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (K : PUnit → sProp 𝕄),
      iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg18.view.loc (c : Thread nD τ) ↦[arg18.view.set]{fullShare} f18)
        ∗ (arg19.view.loc (c : Thread nD τ) ↦[arg19.view.set]{fullShare} f19)
        ∗ (arg20.view.loc (c : Thread nD τ) ↦[arg20.view.set]{fullShare} f20)
        ∗ (arg21.view.loc (c : Thread nD τ) ↦[arg21.view.set]{fullShare} f21)
        ∗ (arg9.view.loc (c : Thread nD τ) ↦[arg9.view.set]{fullShare} X9)
        ∗ (arg22.view.loc (c : Thread nD τ) ↦[arg22.view.set]{fullShare} f22)
        ∗ semVal ((c : Thread nD τ), SemLoc.dma arg23.sem) 0
        ∗ (iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg18.view.loc (c : Thread nD τ) ↦[arg18.view.set]{fullShare} (arg18.view.writes (Elt F) f18 L18))
        ∗ (arg19.view.loc (c : Thread nD τ) ↦[arg19.view.set]{fullShare} (arg19.view.writes (Elt F) f19 L19))
        ∗ (arg20.view.loc (c : Thread nD τ) ↦[arg20.view.set]{fullShare} (arg20.view.writes (Elt F) f20 L20))
        ∗ (arg21.view.loc (c : Thread nD τ) ↦[arg21.view.set]{fullShare} (arg21.view.writes (Elt F) f21 L21))
        ∗ inflight (F := F) c arg9 arg22 arg23 X9 f22) -∗ K ⟨⟩))
      ⊢ wp frame (wpE (defs₀ (F := F)) Variants.none (c : Thread nD τ) none) Set.univ (cc0__fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25) K } := by
  refine ⟨?_, ?_, ?_, ?_, fun f18 f19 f20 f21 f22 K => ?run⟩
  case run =>
    simp only [cc0__fused_eq_skeleton]; unfold cc0__fused_skel
    iintro ⟨HX2, HX3, HX4, HX5, HX6, HX7, H18, H19, H20, H21, H9, H22, Hs, Hk⟩
    sl_exec (disch := first | exact h1 | exact h2 | exact h4 | exact h5)
    sl_step
    iapply Hk
    sl_close

/-- A later point of the first phase: it stores the rows of its block and adds to the column sums. -/
@[irreducible] def runA1 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f20 : BufTy.Contents (Elt F) arg20.view.ty) (f21 : BufTy.Contents (Elt F) arg21.view.ty)
    (h1 : ¬ (Scalar.cmpi .ne ((Scalar.extui (Scalar.cmpi .eq (BitVec.ofNat 32 (i 0).val) 0#32) : BitVec 32)) 0#32 = 1#1)) (h2 : k0_cond2 i = 1#1) (h4 : Scalar.cmpi .ne ((Scalar.extui (Scalar.cmpi .sgt (BitVec.ofNat 32 (i 0).val) 0#32) : BitVec 32)) 0#32 = 1#1) (h5 : ¬ (k0_cond5 i = 1#1)) :
    Σ' (L18 L19 : List (View.Piece (Elt F) S16384x64 .f32)) (L20 : List (View.Piece (Elt F) S1x64 .f32)), { L21 : List (View.Piece (Elt F) S1x64 .f32) //
    ∀ (f18 : BufTy.Contents (Elt F) arg18.view.ty) (f19 : BufTy.Contents (Elt F) arg19.view.ty) (K : PUnit → sProp 𝕄),
      iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg18.view.loc (c : Thread nD τ) ↦[arg18.view.set]{fullShare} f18)
        ∗ (arg19.view.loc (c : Thread nD τ) ↦[arg19.view.set]{fullShare} f19)
        ∗ (arg20.view.loc (c : Thread nD τ) ↦[arg20.view.set]{fullShare} f20)
        ∗ (arg21.view.loc (c : Thread nD τ) ↦[arg21.view.set]{fullShare} f21)
        ∗ (iprop((arg2.view.loc (c : Thread nD τ) ↦[arg2.view.set]{fullShare} X2)
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg6.view.loc (c : Thread nD τ) ↦[arg6.view.set]{fullShare} X6)
        ∗ (arg7.view.loc (c : Thread nD τ) ↦[arg7.view.set]{fullShare} X7)
        ∗ (arg18.view.loc (c : Thread nD τ) ↦[arg18.view.set]{fullShare} (arg18.view.writes (Elt F) f18 L18))
        ∗ (arg19.view.loc (c : Thread nD τ) ↦[arg19.view.set]{fullShare} (arg19.view.writes (Elt F) f19 L19))
        ∗ (arg20.view.loc (c : Thread nD τ) ↦[arg20.view.set]{fullShare} (arg20.view.writes (Elt F) f20 L20))
        ∗ (arg21.view.loc (c : Thread nD τ) ↦[arg21.view.set]{fullShare} (arg21.view.writes (Elt F) f21 L21))) -∗ K ⟨⟩))
      ⊢ wp frame (wpE (defs₀ (F := F)) Variants.none (c : Thread nD τ) none) Set.univ (cc0__fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25) K } := by
  refine ⟨?_, ?_, ?_, ?_, fun f18 f19 K => ?run⟩
  case run =>
    simp only [cc0__fused_eq_skeleton]; unfold cc0__fused_skel
    iintro ⟨HX2, HX3, HX4, HX5, HX6, HX7, H18, H19, H20, H21, Hk⟩
    sl_exec (disch := first | exact h1 | exact h2 | exact h4 | exact h5)
    sl_step
    iapply Hk
    sl_close

/-- The last point: on the stored rows, the column sums and the copy in flight it stores the result. -/
@[irreducible] def runZ (X1 : BufTy.Contents (Elt F) arg1.view.ty) (X8 : BufTy.Contents (Elt F) arg8.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X18 : BufTy.Contents (Elt F) arg18.view.ty) (X19 : BufTy.Contents (Elt F) arg19.view.ty) (X20 : BufTy.Contents (Elt F) arg20.view.ty) (X21 : BufTy.Contents (Elt F) arg21.view.ty) (X9 : BufTy.Contents (Elt F) arg9.view.ty) (f22 : BufTy.Contents (Elt F) arg22.view.ty) (f24 : BufTy.Contents (Elt F) arg24.view.ty) (f25 : BufTy.Contents (Elt F) arg25.view.ty)
    (h1 : ¬ (Scalar.cmpi .ne ((Scalar.extui (Scalar.cmpi .eq (BitVec.ofNat 32 (i 0).val) 0#32) : BitVec 32)) 0#32 = 1#1)) (h2 : ¬ (k0_cond2 i = 1#1)) (h5 : k0_cond5 i = 1#1) :
    { L17 : List (View.Piece (Elt F) S8x256 .f32) //
    ∀ (f17 : BufTy.Contents (Elt F) arg17.view.ty) (W : Waits sig Unit) (K : PUnit → sProp 𝕄),
      iprop((arg1.view.loc (c : Thread nD τ) ↦[arg1.view.set]{fullShare} X1)
        ∗ (arg8.view.loc (c : Thread nD τ) ↦[arg8.view.set]{fullShare} X8)
        ∗ (arg10.view.loc (c : Thread nD τ) ↦[arg10.view.set]{fullShare} X10)
        ∗ (arg11.view.loc (c : Thread nD τ) ↦[arg11.view.set]{fullShare} X11)
        ∗ (arg12.view.loc (c : Thread nD τ) ↦[arg12.view.set]{fullShare} X12)
        ∗ (arg13.view.loc (c : Thread nD τ) ↦[arg13.view.set]{fullShare} X13)
        ∗ (arg14.view.loc (c : Thread nD τ) ↦[arg14.view.set]{fullShare} X14)
        ∗ (arg15.view.loc (c : Thread nD τ) ↦[arg15.view.set]{fullShare} X15)
        ∗ (arg16.view.loc (c : Thread nD τ) ↦[arg16.view.set]{fullShare} X16)
        ∗ (arg18.view.loc (c : Thread nD τ) ↦[arg18.view.set]{fullShare} X18)
        ∗ (arg19.view.loc (c : Thread nD τ) ↦[arg19.view.set]{fullShare} X19)
        ∗ (arg20.view.loc (c : Thread nD τ) ↦[arg20.view.set]{fullShare} X20)
        ∗ (arg21.view.loc (c : Thread nD τ) ↦[arg21.view.set]{fullShare} X21)
        ∗ (arg17.view.loc (c : Thread nD τ) ↦[arg17.view.set]{fullShare} f17)
        ∗ (arg24.view.loc (c : Thread nD τ) ↦[arg24.view.set]{fullShare} f24)
        ∗ (arg25.view.loc (c : Thread nD τ) ↦[arg25.view.set]{fullShare} f25)
        ∗ inflight (F := F) c arg9 arg22 arg23 X9 f22
        ∗ owes (c : Thread nD τ) 0 W
        ∗ (iprop((arg1.view.loc (c : Thread nD τ) ↦[arg1.view.set]{fullShare} X1)
        ∗ (arg8.view.loc (c : Thread nD τ) ↦[arg8.view.set]{fullShare} X8)
        ∗ (arg10.view.loc (c : Thread nD τ) ↦[arg10.view.set]{fullShare} X10)
        ∗ (arg11.view.loc (c : Thread nD τ) ↦[arg11.view.set]{fullShare} X11)
        ∗ (arg12.view.loc (c : Thread nD τ) ↦[arg12.view.set]{fullShare} X12)
        ∗ (arg13.view.loc (c : Thread nD τ) ↦[arg13.view.set]{fullShare} X13)
        ∗ (arg14.view.loc (c : Thread nD τ) ↦[arg14.view.set]{fullShare} X14)
        ∗ (arg15.view.loc (c : Thread nD τ) ↦[arg15.view.set]{fullShare} X15)
        ∗ (arg16.view.loc (c : Thread nD τ) ↦[arg16.view.set]{fullShare} X16)
        ∗ (arg18.view.loc (c : Thread nD τ) ↦[arg18.view.set]{fullShare} X18)
        ∗ (arg19.view.loc (c : Thread nD τ) ↦[arg19.view.set]{fullShare} X19)
        ∗ (arg20.view.loc (c : Thread nD τ) ↦[arg20.view.set]{fullShare} X20)
        ∗ (arg21.view.loc (c : Thread nD τ) ↦[arg21.view.set]{fullShare} X21)
        ∗ (arg17.view.loc (c : Thread nD τ) ↦[arg17.view.set]{fullShare} (arg17.view.writes (Elt F) f17 L17))
        ∗ (∃ f, (arg24.view.loc (c : Thread nD τ) ↦[arg24.view.set]{fullShare} f))
        ∗ (∃ f, (arg25.view.loc (c : Thread nD τ) ↦[arg25.view.set]{fullShare} f))
        ∗ (arg9.view.loc (c : Thread nD τ) ↦[arg9.view.set]{fullShare} X9)
        ∗ (∃ f, (arg22.view.loc (c : Thread nD τ) ↦[arg22.view.set]{fullShare} f))
        ∗ semVal ((c : Thread nD τ), SemLoc.dma arg23.sem) 0
        ∗ (∃ W, owes (c : Thread nD τ) 0 W)) -∗ K ⟨⟩))
      ⊢ wp frame (wpE (defs₀ (F := F)) Variants.none (c : Thread nD τ) none) Set.univ (cc0__fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25) K } := by
  refine ⟨?_, fun f17 W K => ?run⟩
  case run =>
    simp only [cc0__fused_eq_skeleton]; unfold cc0__fused_skel
    iintro ⟨HX1, HX8, HX10, HX11, HX12, HX13, HX14, HX15, HX16, HX18, HX19, HX20, HX21, H17, H24, H25, HF, HW, Hk⟩
    sl_exec (disch := first | exact h1 | exact h2 | exact h5)
    sl_step
    iapply Hk
    isplitl [HX1]; · iexact HX1
    isplitl [HX8]; · iexact HX8
    isplitl [HX10]; · iexact HX10
    isplitl [HX11]; · iexact HX11
    isplitl [HX12]; · iexact HX12
    isplitl [HX13]; · iexact HX13
    isplitl [HX14]; · iexact HX14
    isplitl [HX15]; · iexact HX15
    isplitl [HX16]; · iexact HX16
    isplitl [HX18]; · iexact HX18
    isplitl [HX19]; · iexact HX19
    isplitl [HX20]; · iexact HX20
    isplitl [HX21]; · iexact HX21
    isplitl [H17]; · iexact H17
    isplitl [H24]; · iexists _; iexact H24
    isplitl [H25]; · iexists _; iexact H25
    isplitl [HF_src]; · iexact HF_src
    isplitl [HF_dst]; · iexists _; iexact HF_dst
    isplitl [HF]; · iexact HF
    iexists _; iexact HW

end Cert.KernelIdeal.Hand

end
-- ==== Proof.KernelIdealRegion.lean ====
/-
  The kernel's one region: its invariant between the points of the grid, the proof data, the obligation on the body.
  Before the first point and after the last the scratch is held at anything and the copy's semaphore at zero; between
  them the copy is in flight and the rows and column sums stored so far satisfy a predicate of the point, which the
  statements here leave open.
-/
module

public import proofs.«01_k».proof.Proof.KernelIdealBody
public import proofs.«01_k».proof.Proof.Gen.KernelIdeal.Frame
public import proofs.«01_k».proof.Proof.Gen.KernelIdeal.Points
public import Idealize.ShloMosaic.Lib.Ring

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The algebra of the proof: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The branch conditions at each point -/

theorem cond1_iff : ∀ t : Fin grid0.N, (Scalar.cmpi .ne ((Scalar.extui (Scalar.cmpi .eq (BitVec.ofNat 32 ((grid0.coords t) 0).val) 0#32) : BitVec 32)) 0#32 = 1#1) ↔ t.val = 0 := by decide
theorem cond2_iff : ∀ t : Fin grid0.N, (k0_cond2 (grid0.coords t) = 1#1) ↔ t.val < 4 := by decide
theorem cond4_iff : ∀ t : Fin grid0.N, (Scalar.cmpi .ne ((Scalar.extui (Scalar.cmpi .sgt (BitVec.ofNat 32 ((grid0.coords t) 0).val) 0#32) : BitVec 32)) 0#32 = 1#1) ↔ 0 < t.val := by decide
theorem cond5_iff : ∀ t : Fin grid0.N, (k0_cond5 (grid0.coords t) = 1#1) ↔ t.val = 4 := by decide

/-! ## The runs at a point's buffers -/

/-- The first point's run at the buffers the pipeline hands the body. -/
abbrev at0 (c : Dev nD) (t : Fin cfg0.N) (ht : t.val = 0) (X2 : BufTy.Contents (Elt F) (st0_1 t).view.ty) (X3 : BufTy.Contents (Elt F) (st0_2 t).view.ty) (X4 : BufTy.Contents (Elt F) (st0_3 t).view.ty) (X5 : BufTy.Contents (Elt F) (st0_4 t).view.ty) (X6 : BufTy.Contents (Elt F) (st0_5 t).view.ty) (X7 : BufTy.Contents (Elt F) (st0_6 t).view.ty) (X9 : BufTy.Contents (Elt F) (Memref.whole main_call0_v0).view.ty) :=
  runA0 (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole main_call0_v0) (Memref.isWhole_whole _) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) X2 X3 X4 X5 X6 X7 X9 ((cond1_iff t).mpr ht) ((cond2_iff t).mpr (by omega)) (fun h => by have := (cond4_iff t).mp h; omega) (fun h => by have := (cond5_iff t).mp h; omega)

/-- A later point's run of the first phase at the buffers the pipeline hands the body. -/
abbrev at1 (c : Dev nD) (t : Fin cfg0.N) (ht : 0 < t.val ∧ t.val < 4) (X2 : BufTy.Contents (Elt F) (st0_1 t).view.ty) (X3 : BufTy.Contents (Elt F) (st0_2 t).view.ty) (X4 : BufTy.Contents (Elt F) (st0_3 t).view.ty) (X5 : BufTy.Contents (Elt F) (st0_4 t).view.ty) (X6 : BufTy.Contents (Elt F) (st0_5 t).view.ty) (X7 : BufTy.Contents (Elt F) (st0_6 t).view.ty) (f20 : BufTy.Contents (Elt F) (Memref.whole cc0_scratch2).view.ty) (f21 : BufTy.Contents (Elt F) (Memref.whole cc0_scratch3).view.ty) :=
  runA1 (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole main_call0_v0) (Memref.isWhole_whole _) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) X2 X3 X4 X5 X6 X7 f20 f21 (fun h => by have := (cond1_iff t).mp h; omega) ((cond2_iff t).mpr (by omega)) ((cond4_iff t).mpr (by omega)) (fun h => by have := (cond5_iff t).mp h; omega)

/-- The last point's run at the buffers the pipeline hands the body. -/
abbrev at4 (c : Dev nD) (t : Fin cfg0.N) (ht : t.val = 4) (X1 : BufTy.Contents (Elt F) (st0_0 t).view.ty) (X8 : BufTy.Contents (Elt F) (st0_7 t).view.ty) (X10 : BufTy.Contents (Elt F) (st0_8 t).view.ty) (X11 : BufTy.Contents (Elt F) (st0_9 t).view.ty) (X12 : BufTy.Contents (Elt F) (st0_10 t).view.ty) (X13 : BufTy.Contents (Elt F) (st0_11 t).view.ty) (X14 : BufTy.Contents (Elt F) (st0_12 t).view.ty) (X15 : BufTy.Contents (Elt F) (st0_13 t).view.ty) (X16 : BufTy.Contents (Elt F) (st0_14 t).view.ty) (f18 : BufTy.Contents (Elt F) (Memref.whole cc0_scratch0).view.ty) (f19 : BufTy.Contents (Elt F) (Memref.whole cc0_scratch1).view.ty) (f20 : BufTy.Contents (Elt F) (Memref.whole cc0_scratch2).view.ty) (f21 : BufTy.Contents (Elt F) (Memref.whole cc0_scratch3).view.ty) (X9 : BufTy.Contents (Elt F) (Memref.whole main_call0_v0).view.ty) (f22 : BufTy.Contents (Elt F) (Memref.whole cc0_scratch4).view.ty) (f24 : BufTy.Contents (Elt F) (Memref.whole cc0_scratch6).view.ty) (f25 : BufTy.Contents (Elt F) (Memref.whole cc0_scratch7).view.ty) :=
  runZ (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole main_call0_v0) (Memref.isWhole_whole _) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) X1 X8 X10 X11 X12 X13 X14 X15 X16 f18 f19 f20 f21 X9 f22 f24 f25 (fun h => by have := (cond1_iff t).mp h; omega) (fun h => by have := (cond2_iff t).mp h; omega) ((cond5_iff t).mpr ht)

/-! ## What the points keep -/

/-- A predicate of the stored rows and column sums before a point, kept by the points of the first phase, under which the last point's result satisfies `Q`. -/
structure Keeps (c : Dev nD) (P : ℕ → Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Prop) (Q : (S8x256.Idx → Elt F .f32) → Prop) : Prop where
  first : ∀ (t : Fin cfg0.N) (ht : t.val = 0) (X2 : BufTy.Contents (Elt F) (st0_1 t).view.ty) (X3 : BufTy.Contents (Elt F) (st0_2 t).view.ty) (X4 : BufTy.Contents (Elt F) (st0_3 t).view.ty) (X5 : BufTy.Contents (Elt F) (st0_4 t).view.ty) (X6 : BufTy.Contents (Elt F) (st0_5 t).view.ty) (X7 : BufTy.Contents (Elt F) (st0_6 t).view.ty) (f18 : BufTy.Contents (Elt F) (Memref.whole cc0_scratch0).view.ty) (f19 : BufTy.Contents (Elt F) (Memref.whole cc0_scratch1).view.ty) (f20 : BufTy.Contents (Elt F) (Memref.whole cc0_scratch2).view.ty) (f21 : BufTy.Contents (Elt F) (Memref.whole cc0_scratch3).view.ty), (st0_1 t).view.read (Elt F) X2 = iblk m c 1 t → (st0_2 t).view.read (Elt F) X3 = iblk m c 2 t → (st0_3 t).view.read (Elt F) X4 = iblk m c 3 t → (st0_4 t).view.read (Elt F) X5 = iblk m c 4 t → (st0_5 t).view.read (Elt F) X6 = iblk m c 5 t → (st0_6 t).view.read (Elt F) X7 = iblk m c 6 t →
    P 1 ((Memref.whole cc0_scratch0).view.writes (Elt F) f18 (at0 c t ht X2 X3 X4 X5 X6 X7 (V m c main_call0_v0)).1)
      ((Memref.whole cc0_scratch1).view.writes (Elt F) f19 (at0 c t ht X2 X3 X4 X5 X6 X7 (V m c main_call0_v0)).2.1)
      ((Memref.whole cc0_scratch2).view.writes (Elt F) f20 (at0 c t ht X2 X3 X4 X5 X6 X7 (V m c main_call0_v0)).2.2.1)
      ((Memref.whole cc0_scratch3).view.writes (Elt F) f21 (at0 c t ht X2 X3 X4 X5 X6 X7 (V m c main_call0_v0)).2.2.2.1)
  later : ∀ (t : Fin cfg0.N) (ht : 0 < t.val ∧ t.val < 4) (X2 : BufTy.Contents (Elt F) (st0_1 t).view.ty) (X3 : BufTy.Contents (Elt F) (st0_2 t).view.ty) (X4 : BufTy.Contents (Elt F) (st0_3 t).view.ty) (X5 : BufTy.Contents (Elt F) (st0_4 t).view.ty) (X6 : BufTy.Contents (Elt F) (st0_5 t).view.ty) (X7 : BufTy.Contents (Elt F) (st0_6 t).view.ty) (f18 : BufTy.Contents (Elt F) (Memref.whole cc0_scratch0).view.ty) (f19 : BufTy.Contents (Elt F) (Memref.whole cc0_scratch1).view.ty) (f20 : BufTy.Contents (Elt F) (Memref.whole cc0_scratch2).view.ty) (f21 : BufTy.Contents (Elt F) (Memref.whole cc0_scratch3).view.ty), (st0_1 t).view.read (Elt F) X2 = iblk m c 1 t → (st0_2 t).view.read (Elt F) X3 = iblk m c 2 t → (st0_3 t).view.read (Elt F) X4 = iblk m c 3 t → (st0_4 t).view.read (Elt F) X5 = iblk m c 4 t → (st0_5 t).view.read (Elt F) X6 = iblk m c 5 t → (st0_6 t).view.read (Elt F) X7 = iblk m c 6 t → P t.val f18 f19 f20 f21 →
    P (t.val + 1) ((Memref.whole cc0_scratch0).view.writes (Elt F) f18 (at1 c t ht X2 X3 X4 X5 X6 X7 f20 f21).1)
      ((Memref.whole cc0_scratch1).view.writes (Elt F) f19 (at1 c t ht X2 X3 X4 X5 X6 X7 f20 f21).2.1)
      ((Memref.whole cc0_scratch2).view.writes (Elt F) f20 (at1 c t ht X2 X3 X4 X5 X6 X7 f20 f21).2.2.1)
      ((Memref.whole cc0_scratch3).view.writes (Elt F) f21 (at1 c t ht X2 X3 X4 X5 X6 X7 f20 f21).2.2.2.1)
  last : ∀ (t : Fin cfg0.N) (ht : t.val = 4) (X1 : BufTy.Contents (Elt F) (st0_0 t).view.ty) (X8 : BufTy.Contents (Elt F) (st0_7 t).view.ty) (X10 : BufTy.Contents (Elt F) (st0_8 t).view.ty) (X11 : BufTy.Contents (Elt F) (st0_9 t).view.ty) (X12 : BufTy.Contents (Elt F) (st0_10 t).view.ty) (X13 : BufTy.Contents (Elt F) (st0_11 t).view.ty) (X14 : BufTy.Contents (Elt F) (st0_12 t).view.ty) (X15 : BufTy.Contents (Elt F) (st0_13 t).view.ty) (X16 : BufTy.Contents (Elt F) (st0_14 t).view.ty) (X17 : BufTy.Contents (Elt F) (st0_15 t).view.ty) (f18 : BufTy.Contents (Elt F) (Memref.whole cc0_scratch0).view.ty) (f19 : BufTy.Contents (Elt F) (Memref.whole cc0_scratch1).view.ty) (f20 : BufTy.Contents (Elt F) (Memref.whole cc0_scratch2).view.ty) (f21 : BufTy.Contents (Elt F) (Memref.whole cc0_scratch3).view.ty) (f22 : BufTy.Contents (Elt F) (Memref.whole cc0_scratch4).view.ty) (f24 : BufTy.Contents (Elt F) (Memref.whole cc0_scratch6).view.ty) (f25 : BufTy.Contents (Elt F) (Memref.whole cc0_scratch7).view.ty), (st0_0 t).view.read (Elt F) X1 = iblk m c 0 t → (st0_7 t).view.read (Elt F) X8 = iblk m c 7 t → (st0_8 t).view.read (Elt F) X10 = iblk m c 8 t → (st0_9 t).view.read (Elt F) X11 = iblk m c 9 t → (st0_10 t).view.read (Elt F) X12 = iblk m c 10 t → (st0_11 t).view.read (Elt F) X13 = iblk m c 11 t → (st0_12 t).view.read (Elt F) X14 = iblk m c 12 t → (st0_13 t).view.read (Elt F) X15 = iblk m c 13 t → (st0_14 t).view.read (Elt F) X16 = iblk m c 14 t → P 4 f18 f19 f20 f21 →
    Q ((st0_15 t).view.read (Elt F) ((st0_15 t).view.writes (Elt F) X17 (at4 c t ht X1 X8 X10 X11 X12 X13 X14 X15 X16 f18 f19 f20 f21 (V m c main_call0_v0) f22 f24 f25).1))

/-- The scratch buffers at anything, the copy's semaphore at zero, its source as the region finds it. -/
def Rest (c : Dev nD) : sProp 𝕄 :=
  iprop((∃ f, ((Memref.whole cc0_scratch0).view.loc (c : Thread nD τ) ↦[(Memref.whole cc0_scratch0).view.set]{fullShare} f))
        ∗ (∃ f, ((Memref.whole cc0_scratch1).view.loc (c : Thread nD τ) ↦[(Memref.whole cc0_scratch1).view.set]{fullShare} f))
        ∗ (∃ f, ((Memref.whole cc0_scratch2).view.loc (c : Thread nD τ) ↦[(Memref.whole cc0_scratch2).view.set]{fullShare} f))
        ∗ (∃ f, ((Memref.whole cc0_scratch3).view.loc (c : Thread nD τ) ↦[(Memref.whole cc0_scratch3).view.set]{fullShare} f))
        ∗ (∃ f, ((Memref.whole cc0_scratch4).view.loc (c : Thread nD τ) ↦[(Memref.whole cc0_scratch4).view.set]{fullShare} f))
        ∗ (∃ f, ((Memref.whole cc0_scratch6).view.loc (c : Thread nD τ) ↦[(Memref.whole cc0_scratch6).view.set]{fullShare} f))
        ∗ (∃ f, ((Memref.whole cc0_scratch7).view.loc (c : Thread nD τ) ↦[(Memref.whole cc0_scratch7).view.set]{fullShare} f))
        ∗ (∃ r, prngReg c r) ∗ semVal ((c : Thread nD τ), SemLoc.dma cc0_scratch5.sem) 0 ∗ ((Memref.whole main_call0_v0).view.loc (c : Thread nD τ) ↦[(Memref.whole main_call0_v0).view.set]{fullShare} (V m c main_call0_v0)))

/-- Between the points: the rows and column sums under the predicate, the copy in flight. -/
def Mid (c : Dev nD) (P : Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Prop) : sProp 𝕄 :=
  iprop((∃ f18 f19 f20 f21, ⌜P f18 f19 f20 f21⌝ ∗ ((Memref.whole cc0_scratch0).view.loc (c : Thread nD τ) ↦[(Memref.whole cc0_scratch0).view.set]{fullShare} f18)
        ∗ ((Memref.whole cc0_scratch1).view.loc (c : Thread nD τ) ↦[(Memref.whole cc0_scratch1).view.set]{fullShare} f19)
        ∗ ((Memref.whole cc0_scratch2).view.loc (c : Thread nD τ) ↦[(Memref.whole cc0_scratch2).view.set]{fullShare} f20)
        ∗ ((Memref.whole cc0_scratch3).view.loc (c : Thread nD τ) ↦[(Memref.whole cc0_scratch3).view.set]{fullShare} f21))
        ∗ (∃ f22, inflight (F := F) c (Memref.whole main_call0_v0) (Memref.whole cc0_scratch4) cc0_scratch5 (V m c main_call0_v0) f22)
        ∗ (∃ f, ((Memref.whole cc0_scratch6).view.loc (c : Thread nD τ) ↦[(Memref.whole cc0_scratch6).view.set]{fullShare} f)) ∗ (∃ f, ((Memref.whole cc0_scratch7).view.loc (c : Thread nD τ) ↦[(Memref.whole cc0_scratch7).view.set]{fullShare} f)) ∗ (∃ r, prngReg c r))

/-- The invariant before point `n`. -/
def Inv (c : Dev nD) (P : ℕ → Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Prop) (n : ℕ) : sProp 𝕄 :=
  if n = 0 ∨ n = 5 then Rest m c else Mid m c (P n)

variable (P : (c : Dev nD) → ℕ → Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Prop)
  (out : Dev nD → S8x256.Idx → Elt F .f32)

/-- The proof data of the one pipeline on core `c`: the arrays as the region finds them, every input's block left in place, the result `out`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out c
    | ⟨k + 16, h⟩ => absurd h (by show ¬ k + 16 < 16; omega)
  Φ t := Inv m c (P c) t.val
  q _ := fullShare
  owed _ := 0

theorem A_eq (c : Dev nD) (w : Fin cfg0.W) : (dats m P out 0 c).A w = V m c (Pipeline.arrRef spec0 w) := by dsimp only [dats]
theorem after_0 (c : Dev nD) (t : Fin cfg0.N) : (dats m P out 0 c).after 0 t = iblk m c 0 t := by dsimp only [dats]
theorem before_0 (c : Dev nD) (t : Fin cfg0.N) (d) : (dats m P out 0 c).before 0 t d = iblk m c 0 t :=
  ((dats m P out 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m P out 0 c).after 1 t = iblk m c 1 t := by dsimp only [dats]
theorem before_1 (c : Dev nD) (t : Fin cfg0.N) (d) : (dats m P out 0 c).before 1 t d = iblk m c 1 t :=
  ((dats m P out 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m P out 0 c).after 2 t = iblk m c 2 t := by dsimp only [dats]
theorem before_2 (c : Dev nD) (t : Fin cfg0.N) (d) : (dats m P out 0 c).before 2 t d = iblk m c 2 t :=
  ((dats m P out 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m P out 0 c).after 3 t = iblk m c 3 t := by dsimp only [dats]
theorem before_3 (c : Dev nD) (t : Fin cfg0.N) (d) : (dats m P out 0 c).before 3 t d = iblk m c 3 t :=
  ((dats m P out 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m P out 0 c).after 4 t = iblk m c 4 t := by dsimp only [dats]
theorem before_4 (c : Dev nD) (t : Fin cfg0.N) (d) : (dats m P out 0 c).before 4 t d = iblk m c 4 t :=
  ((dats m P out 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m P out 0 c).after 5 t = iblk m c 5 t := by dsimp only [dats]
theorem before_5 (c : Dev nD) (t : Fin cfg0.N) (d) : (dats m P out 0 c).before 5 t d = iblk m c 5 t :=
  ((dats m P out 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m P out 0 c).after 6 t = iblk m c 6 t := by dsimp only [dats]
theorem before_6 (c : Dev nD) (t : Fin cfg0.N) (d) : (dats m P out 0 c).before 6 t d = iblk m c 6 t :=
  ((dats m P out 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m P out 0 c).after 7 t = iblk m c 7 t := by dsimp only [dats]
theorem before_7 (c : Dev nD) (t : Fin cfg0.N) (d) : (dats m P out 0 c).before 7 t d = iblk m c 7 t :=
  ((dats m P out 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m P out 0 c).after 8 t = iblk m c 8 t := by dsimp only [dats]
theorem before_8 (c : Dev nD) (t : Fin cfg0.N) (d) : (dats m P out 0 c).before 8 t d = iblk m c 8 t :=
  ((dats m P out 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin cfg0.N) : (dats m P out 0 c).after 9 t = iblk m c 9 t := by dsimp only [dats]
theorem before_9 (c : Dev nD) (t : Fin cfg0.N) (d) : (dats m P out 0 c).before 9 t d = iblk m c 9 t :=
  ((dats m P out 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem after_10 (c : Dev nD) (t : Fin cfg0.N) : (dats m P out 0 c).after 10 t = iblk m c 10 t := by dsimp only [dats]
theorem before_10 (c : Dev nD) (t : Fin cfg0.N) (d) : (dats m P out 0 c).before 10 t d = iblk m c 10 t :=
  ((dats m P out 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem after_11 (c : Dev nD) (t : Fin cfg0.N) : (dats m P out 0 c).after 11 t = iblk m c 11 t := by dsimp only [dats]
theorem before_11 (c : Dev nD) (t : Fin cfg0.N) (d) : (dats m P out 0 c).before 11 t d = iblk m c 11 t :=
  ((dats m P out 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem after_12 (c : Dev nD) (t : Fin cfg0.N) : (dats m P out 0 c).after 12 t = iblk m c 12 t := by dsimp only [dats]
theorem before_12 (c : Dev nD) (t : Fin cfg0.N) (d) : (dats m P out 0 c).before 12 t d = iblk m c 12 t :=
  ((dats m P out 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem after_13 (c : Dev nD) (t : Fin cfg0.N) : (dats m P out 0 c).after 13 t = iblk m c 13 t := by dsimp only [dats]
theorem before_13 (c : Dev nD) (t : Fin cfg0.N) (d) : (dats m P out 0 c).before 13 t d = iblk m c 13 t :=
  ((dats m P out 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem after_14 (c : Dev nD) (t : Fin cfg0.N) : (dats m P out 0 c).after 14 t = iblk m c 14 t := by dsimp only [dats]
theorem before_14 (c : Dev nD) (t : Fin cfg0.N) (d) : (dats m P out 0 c).before 14 t d = iblk m c 14 t :=
  ((dats m P out 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem after_15 (c : Dev nD) (t : Fin cfg0.N) : (dats m P out 0 c).after 15 t = out c := by dsimp only [dats]

/-! ## The body at a point -/

theorem sound_body (Q : (S8x256.Idx → Elt F .f32) → Prop) (c : Dev nD) (hK : Keeps m c (P c) Q) (t : Fin cfg0.N) (X : S8x256.Idx → Elt F .f32) :
    iprop(Inv m c (P c) t.val ∗ (∃ W, owes (c : Thread nD τ) 0 W) ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ owns (c : Thread nD τ) (st0_12 t) fullShare (iblk m c 12 t)
        ∗ owns (c : Thread nD τ) (st0_13 t) fullShare (iblk m c 13 t)
        ∗ owns (c : Thread nD τ) (st0_14 t) fullShare (iblk m c 14 t)
        ∗ owns (c : Thread nD τ) (st0_15 t) fullShare (X))
      ⊢ wp frame (wpE (defs₀ (F := F)) Variants.none c none) Set.univ (bodyAt0 t) (fun _ =>
          iprop(Inv m c (P c) (t.val + 1) ∗ (∃ W, owes (c : Thread nD τ) 0 W) ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ owns (c : Thread nD τ) (st0_12 t) fullShare (iblk m c 12 t)
        ∗ owns (c : Thread nD τ) (st0_13 t) fullShare (iblk m c 13 t)
        ∗ owns (c : Thread nD τ) (st0_14 t) fullShare (iblk m c 14 t)
        ∗ (∃ X', ⌜t.val < 4 → X' = X⌝ ∗ ⌜t.val = 4 → Q X'⌝ ∗ owns (c : Thread nD τ) (st0_15 t) fullShare (X')))) := by
  have hN : t.val < 5 := by have := t.isLt; have h5 : cfg0.N = 5 := N_0; omega
  unfold bodyAt0 owns
  rcases Nat.lt_trichotomy t.val 0 with h | h | h
  · omega
  · rw [show Inv m c (P c) t.val = Rest m c from if_pos (Or.inl h), show Inv m c (P c) (t.val + 1) = Mid m c (P c 1) from by rw [h]; exact if_neg (by decide)]
    unfold Rest Mid
    iintro ⟨HI, ⟨%W, HW⟩, ⟨%X1, %hX1, HX1⟩, ⟨%X2, %hX2, HX2⟩, ⟨%X3, %hX3, HX3⟩, ⟨%X4, %hX4, HX4⟩, ⟨%X5, %hX5, HX5⟩, ⟨%X6, %hX6, HX6⟩, ⟨%X7, %hX7, HX7⟩, ⟨%X8, %hX8, HX8⟩, ⟨%X10, %hX10, HX10⟩, ⟨%X11, %hX11, HX11⟩, ⟨%X12, %hX12, HX12⟩, ⟨%X13, %hX13, HX13⟩, ⟨%X14, %hX14, HX14⟩, ⟨%X15, %hX15, HX15⟩, ⟨%X16, %hX16, HX16⟩, ⟨%X17, %hX17, HX17⟩⟩
    icases HI with ⟨⟨%f18, H18⟩, ⟨%f19, H19⟩, ⟨%f20, H20⟩, ⟨%f21, H21⟩, ⟨%f22, H22⟩, H24, H25, Hg, Hs, H9⟩
    iapply ((at0 c t h X2 X3 X4 X5 X6 X7 (V m c main_call0_v0)).2.2.2.2 f18 f19 f20 f21 f22 _)
    isplitl [HX2]; · iexact HX2
    isplitl [HX3]; · iexact HX3
    isplitl [HX4]; · iexact HX4
    isplitl [HX5]; · iexact HX5
    isplitl [HX6]; · iexact HX6
    isplitl [HX7]; · iexact HX7
    isplitl [H18]; · iexact H18
    isplitl [H19]; · iexact H19
    isplitl [H20]; · iexact H20
    isplitl [H21]; · iexact H21
    isplitl [H9]; · iexact H9
    isplitl [H22]; · iexact H22
    isplitl [Hs]; · iexact Hs
    iintro ⟨HX2, HX3, HX4, HX5, HX6, HX7, H18, H19, H20, H21, HF⟩
    isplitl [H18 H19 H20 H21 HF H24 H25 Hg]
    · isplitl [H18 H19 H20 H21]
      · iexists _, _, _, _
        isplitr; swap
        · isplitl [H18]; · iexact H18
          isplitl [H19]; · iexact H19
          isplitl [H20]; · iexact H20
          iexact H21
        · ipureintro; exact hK.first t h X2 X3 X4 X5 X6 X7 f18 f19 f20 f21 hX2 hX3 hX4 hX5 hX6 hX7
      isplitl [HF]; · iexists _; iexact HF
      isplitl [H24]; · iexact H24
      isplitl [H25]; · iexact H25
      iexact Hg
    isplitl [HW]; · iexists _; iexact HW
    isplitl [HX1]
    · iexists X1; isplitr; · ipureintro; exact hX1
      iexact HX1
    isplitl [HX2]
    · iexists X2; isplitr; · ipureintro; exact hX2
      iexact HX2
    isplitl [HX3]
    · iexists X3; isplitr; · ipureintro; exact hX3
      iexact HX3
    isplitl [HX4]
    · iexists X4; isplitr; · ipureintro; exact hX4
      iexact HX4
    isplitl [HX5]
    · iexists X5; isplitr; · ipureintro; exact hX5
      iexact HX5
    isplitl [HX6]
    · iexists X6; isplitr; · ipureintro; exact hX6
      iexact HX6
    isplitl [HX7]
    · iexists X7; isplitr; · ipureintro; exact hX7
      iexact HX7
    isplitl [HX8]
    · iexists X8; isplitr; · ipureintro; exact hX8
      iexact HX8
    isplitl [HX10]
    · iexists X10; isplitr; · ipureintro; exact hX10
      iexact HX10
    isplitl [HX11]
    · iexists X11; isplitr; · ipureintro; exact hX11
      iexact HX11
    isplitl [HX12]
    · iexists X12; isplitr; · ipureintro; exact hX12
      iexact HX12
    isplitl [HX13]
    · iexists X13; isplitr; · ipureintro; exact hX13
      iexact HX13
    isplitl [HX14]
    · iexists X14; isplitr; · ipureintro; exact hX14
      iexact HX14
    isplitl [HX15]
    · iexists X15; isplitr; · ipureintro; exact hX15
      iexact HX15
    isplitl [HX16]
    · iexists X16; isplitr; · ipureintro; exact hX16
      iexact HX16
    iexists X; isplitr; · ipureintro; exact fun _ => rfl
    isplitr; · ipureintro; intro h'; omega
    iexists X17; isplitr; · ipureintro; exact hX17
    iexact HX17
  · rcases Nat.lt_or_ge t.val 4 with h4 | h4
    · rw [show Inv m c (P c) t.val = Mid m c (P c t.val) from if_neg (by omega), show Inv m c (P c) (t.val + 1) = Mid m c (P c (t.val + 1)) from if_neg (by omega)]
      unfold Mid
      iintro ⟨HI, ⟨%W, HW⟩, ⟨%X1, %hX1, HX1⟩, ⟨%X2, %hX2, HX2⟩, ⟨%X3, %hX3, HX3⟩, ⟨%X4, %hX4, HX4⟩, ⟨%X5, %hX5, HX5⟩, ⟨%X6, %hX6, HX6⟩, ⟨%X7, %hX7, HX7⟩, ⟨%X8, %hX8, HX8⟩, ⟨%X10, %hX10, HX10⟩, ⟨%X11, %hX11, HX11⟩, ⟨%X12, %hX12, HX12⟩, ⟨%X13, %hX13, HX13⟩, ⟨%X14, %hX14, HX14⟩, ⟨%X15, %hX15, HX15⟩, ⟨%X16, %hX16, HX16⟩, ⟨%X17, %hX17, HX17⟩⟩
      icases HI with ⟨⟨%f18, %f19, %f20, %f21, %hP, H18, H19, H20, H21⟩, HF, H24, H25, Hg⟩
      iapply ((at1 c t ⟨h, h4⟩ X2 X3 X4 X5 X6 X7 f20 f21).2.2.2.2 f18 f19 _)
      isplitl [HX2]; · iexact HX2
      isplitl [HX3]; · iexact HX3
      isplitl [HX4]; · iexact HX4
      isplitl [HX5]; · iexact HX5
      isplitl [HX6]; · iexact HX6
      isplitl [HX7]; · iexact HX7
      isplitl [H18]; · iexact H18
      isplitl [H19]; · iexact H19
      isplitl [H20]; · iexact H20
      isplitl [H21]; · iexact H21
      iintro ⟨HX2, HX3, HX4, HX5, HX6, HX7, H18, H19, H20, H21⟩
      isplitl [H18 H19 H20 H21 HF H24 H25 Hg]
      · isplitl [H18 H19 H20 H21]
        · iexists _, _, _, _
          isplitr; swap
          · isplitl [H18]; · iexact H18
            isplitl [H19]; · iexact H19
            isplitl [H20]; · iexact H20
            iexact H21
          · ipureintro; exact hK.later t ⟨h, h4⟩ X2 X3 X4 X5 X6 X7 f18 f19 f20 f21 hX2 hX3 hX4 hX5 hX6 hX7 hP
        isplitl [HF]; · iexact HF
        isplitl [H24]; · iexact H24
        isplitl [H25]; · iexact H25
        iexact Hg
      isplitl [HW]; · iexists _; iexact HW
      isplitl [HX1]
      · iexists X1; isplitr; · ipureintro; exact hX1
        iexact HX1
      isplitl [HX2]
      · iexists X2; isplitr; · ipureintro; exact hX2
        iexact HX2
      isplitl [HX3]
      · iexists X3; isplitr; · ipureintro; exact hX3
        iexact HX3
      isplitl [HX4]
      · iexists X4; isplitr; · ipureintro; exact hX4
        iexact HX4
      isplitl [HX5]
      · iexists X5; isplitr; · ipureintro; exact hX5
        iexact HX5
      isplitl [HX6]
      · iexists X6; isplitr; · ipureintro; exact hX6
        iexact HX6
      isplitl [HX7]
      · iexists X7; isplitr; · ipureintro; exact hX7
        iexact HX7
      isplitl [HX8]
      · iexists X8; isplitr; · ipureintro; exact hX8
        iexact HX8
      isplitl [HX10]
      · iexists X10; isplitr; · ipureintro; exact hX10
        iexact HX10
      isplitl [HX11]
      · iexists X11; isplitr; · ipureintro; exact hX11
        iexact HX11
      isplitl [HX12]
      · iexists X12; isplitr; · ipureintro; exact hX12
        iexact HX12
      isplitl [HX13]
      · iexists X13; isplitr; · ipureintro; exact hX13
        iexact HX13
      isplitl [HX14]
      · iexists X14; isplitr; · ipureintro; exact hX14
        iexact HX14
      isplitl [HX15]
      · iexists X15; isplitr; · ipureintro; exact hX15
        iexact HX15
      isplitl [HX16]
      · iexists X16; isplitr; · ipureintro; exact hX16
        iexact HX16
      iexists X; isplitr; · ipureintro; exact fun _ => rfl
      isplitr; · ipureintro; intro h'; omega
      iexists X17; isplitr; · ipureintro; exact hX17
      iexact HX17
    · have h4 : t.val = 4 := by omega
      rw [show Inv m c (P c) t.val = Mid m c (P c 4) from by rw [h4]; exact if_neg (by decide), show Inv m c (P c) (t.val + 1) = Rest m c from if_pos (Or.inr (by omega))]
      unfold Mid Rest
      iintro ⟨HI, ⟨%W, HW⟩, ⟨%X1, %hX1, HX1⟩, ⟨%X2, %hX2, HX2⟩, ⟨%X3, %hX3, HX3⟩, ⟨%X4, %hX4, HX4⟩, ⟨%X5, %hX5, HX5⟩, ⟨%X6, %hX6, HX6⟩, ⟨%X7, %hX7, HX7⟩, ⟨%X8, %hX8, HX8⟩, ⟨%X10, %hX10, HX10⟩, ⟨%X11, %hX11, HX11⟩, ⟨%X12, %hX12, HX12⟩, ⟨%X13, %hX13, HX13⟩, ⟨%X14, %hX14, HX14⟩, ⟨%X15, %hX15, HX15⟩, ⟨%X16, %hX16, HX16⟩, ⟨%X17, %hX17, HX17⟩⟩
      icases HI with ⟨⟨%f18, %f19, %f20, %f21, %hP, H18, H19, H20, H21⟩, ⟨%f22, HF⟩, ⟨%f24, H24⟩, ⟨%f25, H25⟩, Hg⟩
      iapply ((at4 c t h4 X1 X8 X10 X11 X12 X13 X14 X15 X16 f18 f19 f20 f21 (V m c main_call0_v0) f22 f24 f25).2 X17 W _)
      isplitl [HX1]; · iexact HX1
      isplitl [HX8]; · iexact HX8
      isplitl [HX10]; · iexact HX10
      isplitl [HX11]; · iexact HX11
      isplitl [HX12]; · iexact HX12
      isplitl [HX13]; · iexact HX13
      isplitl [HX14]; · iexact HX14
      isplitl [HX15]; · iexact HX15
      isplitl [HX16]; · iexact HX16
      isplitl [H18]; · iexact H18
      isplitl [H19]; · iexact H19
      isplitl [H20]; · iexact H20
      isplitl [H21]; · iexact H21
      isplitl [HX17]; · iexact HX17
      isplitl [H24]; · iexact H24
      isplitl [H25]; · iexact H25
      isplitl [HF]; · iexact HF
      isplitl [HW]; · iexact HW
      iintro ⟨HX1, HX8, HX10, HX11, HX12, HX13, HX14, HX15, HX16, H18, H19, H20, H21, HX17, H24, H25, H9, H22, Hs, HW⟩
      isplitl [H18 H19 H20 H21 H22 H24 H25 Hg Hs H9]
      · isplitl [H18]; · iexists _; iexact H18
        isplitl [H19]; · iexists _; iexact H19
        isplitl [H20]; · iexists _; iexact H20
        isplitl [H21]; · iexists _; iexact H21
        isplitl [H22]; · iexact H22
        isplitl [H24]; · iexact H24
        isplitl [H25]; · iexact H25
        isplitl [Hg]; · iexact Hg
        isplitl [Hs]; · iexact Hs
        iexact H9
      isplitl [HW]; · iexact HW
      isplitl [HX1]
      · iexists X1; isplitr; · ipureintro; exact hX1
        iexact HX1
      isplitl [HX2]
      · iexists X2; isplitr; · ipureintro; exact hX2
        iexact HX2
      isplitl [HX3]
      · iexists X3; isplitr; · ipureintro; exact hX3
        iexact HX3
      isplitl [HX4]
      · iexists X4; isplitr; · ipureintro; exact hX4
        iexact HX4
      isplitl [HX5]
      · iexists X5; isplitr; · ipureintro; exact hX5
        iexact HX5
      isplitl [HX6]
      · iexists X6; isplitr; · ipureintro; exact hX6
        iexact HX6
      isplitl [HX7]
      · iexists X7; isplitr; · ipureintro; exact hX7
        iexact HX7
      isplitl [HX8]
      · iexists X8; isplitr; · ipureintro; exact hX8
        iexact HX8
      isplitl [HX10]
      · iexists X10; isplitr; · ipureintro; exact hX10
        iexact HX10
      isplitl [HX11]
      · iexists X11; isplitr; · ipureintro; exact hX11
        iexact HX11
      isplitl [HX12]
      · iexists X12; isplitr; · ipureintro; exact hX12
        iexact HX12
      isplitl [HX13]
      · iexists X13; isplitr; · ipureintro; exact hX13
        iexact HX13
      isplitl [HX14]
      · iexists X14; isplitr; · ipureintro; exact hX14
        iexact HX14
      isplitl [HX15]
      · iexists X15; isplitr; · ipureintro; exact hX15
        iexact HX15
      isplitl [HX16]
      · iexists X16; isplitr; · ipureintro; exact hX16
        iexact HX16
      iexists ((st0_15 t).view.read (Elt F) ((st0_15 t).view.writes (Elt F) X17 (at4 c t h4 X1 X8 X10 X11 X12 X13 X14 X15 X16 f18 f19 f20 f21 (V m c main_call0_v0) f22 f24 f25).1)); isplitr; · ipureintro; intro h'; omega
      isplitr; swap
      · iexists _; isplitr; swap; · iexact HX17
        ipureintro; rfl
      ipureintro; exact fun _ => hK.last t h4 X1 X8 X10 X11 X12 X13 X14 X15 X16 X17 f18 f19 f20 f21 f22 f24 f25 hX1 hX8 hX10 hX11 hX12 hX13 hX14 hX15 hX16 hP

/-- The body's pre and post at a point as the pipeline states them, the result window's contents under a predicate. -/
theorem sound_point (Q : (S8x256.Idx → Elt F .f32) → Prop) (c : Dev nD) (hK : Keeps m c (P c) Q) (t : Fin cfg0.N) (S : (S8x256.Idx → Elt F .f32) → Prop) :
    iprop((dats m P out 0 c).Φ t.castSucc ∗ (dats m P out 0 c).owesAt () t.castSucc ∗ (∃ d, owns (c : Thread nD τ) (st0_0 t) fullShare ((dats m P out 0 c).before 0 t d))
        ∗ (∃ d, owns (c : Thread nD τ) (st0_1 t) fullShare ((dats m P out 0 c).before 1 t d))
        ∗ (∃ d, owns (c : Thread nD τ) (st0_2 t) fullShare ((dats m P out 0 c).before 2 t d))
        ∗ (∃ d, owns (c : Thread nD τ) (st0_3 t) fullShare ((dats m P out 0 c).before 3 t d))
        ∗ (∃ d, owns (c : Thread nD τ) (st0_4 t) fullShare ((dats m P out 0 c).before 4 t d))
        ∗ (∃ d, owns (c : Thread nD τ) (st0_5 t) fullShare ((dats m P out 0 c).before 5 t d))
        ∗ (∃ d, owns (c : Thread nD τ) (st0_6 t) fullShare ((dats m P out 0 c).before 6 t d))
        ∗ (∃ d, owns (c : Thread nD τ) (st0_7 t) fullShare ((dats m P out 0 c).before 7 t d))
        ∗ (∃ d, owns (c : Thread nD τ) (st0_8 t) fullShare ((dats m P out 0 c).before 8 t d))
        ∗ (∃ d, owns (c : Thread nD τ) (st0_9 t) fullShare ((dats m P out 0 c).before 9 t d))
        ∗ (∃ d, owns (c : Thread nD τ) (st0_10 t) fullShare ((dats m P out 0 c).before 10 t d))
        ∗ (∃ d, owns (c : Thread nD τ) (st0_11 t) fullShare ((dats m P out 0 c).before 11 t d))
        ∗ (∃ d, owns (c : Thread nD τ) (st0_12 t) fullShare ((dats m P out 0 c).before 12 t d))
        ∗ (∃ d, owns (c : Thread nD τ) (st0_13 t) fullShare ((dats m P out 0 c).before 13 t d))
        ∗ (∃ d, owns (c : Thread nD τ) (st0_14 t) fullShare ((dats m P out 0 c).before 14 t d))
        ∗ (∃ X, ⌜S X⌝ ∗ owns (c : Thread nD τ) (st0_15 t) fullShare X))
      ⊢ wp frame (wpE (defs₀ (F := F)) Variants.none c none) Set.univ (bodyAt0 t) (fun _ =>
          iprop((dats m P out 0 c).Φ t.succ ∗ (dats m P out 0 c).owesAt () t.succ ∗ owns (c : Thread nD τ) (st0_0 t) fullShare ((dats m P out 0 c).after 0 t)
        ∗ owns (c : Thread nD τ) (st0_1 t) fullShare ((dats m P out 0 c).after 1 t)
        ∗ owns (c : Thread nD τ) (st0_2 t) fullShare ((dats m P out 0 c).after 2 t)
        ∗ owns (c : Thread nD τ) (st0_3 t) fullShare ((dats m P out 0 c).after 3 t)
        ∗ owns (c : Thread nD τ) (st0_4 t) fullShare ((dats m P out 0 c).after 4 t)
        ∗ owns (c : Thread nD τ) (st0_5 t) fullShare ((dats m P out 0 c).after 5 t)
        ∗ owns (c : Thread nD τ) (st0_6 t) fullShare ((dats m P out 0 c).after 6 t)
        ∗ owns (c : Thread nD τ) (st0_7 t) fullShare ((dats m P out 0 c).after 7 t)
        ∗ owns (c : Thread nD τ) (st0_8 t) fullShare ((dats m P out 0 c).after 8 t)
        ∗ owns (c : Thread nD τ) (st0_9 t) fullShare ((dats m P out 0 c).after 9 t)
        ∗ owns (c : Thread nD τ) (st0_10 t) fullShare ((dats m P out 0 c).after 10 t)
        ∗ owns (c : Thread nD τ) (st0_11 t) fullShare ((dats m P out 0 c).after 11 t)
        ∗ owns (c : Thread nD τ) (st0_12 t) fullShare ((dats m P out 0 c).after 12 t)
        ∗ owns (c : Thread nD τ) (st0_13 t) fullShare ((dats m P out 0 c).after 13 t)
        ∗ owns (c : Thread nD τ) (st0_14 t) fullShare ((dats m P out 0 c).after 14 t)
        ∗ (∃ X X', ⌜S X⌝ ∗ ⌜t.val < 4 → X' = X⌝ ∗ ⌜t.val = 4 → Q X'⌝ ∗ owns (c : Thread nD τ) (st0_15 t) fullShare X'))) := by
  have hpost : ∀ X, S X → iprop(Inv m c (P c) (t.val + 1) ∗ (∃ W, owes (c : Thread nD τ) 0 W) ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ owns (c : Thread nD τ) (st0_12 t) fullShare (iblk m c 12 t)
        ∗ owns (c : Thread nD τ) (st0_13 t) fullShare (iblk m c 13 t)
        ∗ owns (c : Thread nD τ) (st0_14 t) fullShare (iblk m c 14 t)
        ∗ (∃ X', ⌜t.val < 4 → X' = X⌝ ∗ ⌜t.val = 4 → Q X'⌝ ∗ owns (c : Thread nD τ) (st0_15 t) fullShare X'))
      ⊢ iprop((dats m P out 0 c).Φ t.succ ∗ (dats m P out 0 c).owesAt () t.succ ∗ owns (c : Thread nD τ) (st0_0 t) fullShare ((dats m P out 0 c).after 0 t)
        ∗ owns (c : Thread nD τ) (st0_1 t) fullShare ((dats m P out 0 c).after 1 t)
        ∗ owns (c : Thread nD τ) (st0_2 t) fullShare ((dats m P out 0 c).after 2 t)
        ∗ owns (c : Thread nD τ) (st0_3 t) fullShare ((dats m P out 0 c).after 3 t)
        ∗ owns (c : Thread nD τ) (st0_4 t) fullShare ((dats m P out 0 c).after 4 t)
        ∗ owns (c : Thread nD τ) (st0_5 t) fullShare ((dats m P out 0 c).after 5 t)
        ∗ owns (c : Thread nD τ) (st0_6 t) fullShare ((dats m P out 0 c).after 6 t)
        ∗ owns (c : Thread nD τ) (st0_7 t) fullShare ((dats m P out 0 c).after 7 t)
        ∗ owns (c : Thread nD τ) (st0_8 t) fullShare ((dats m P out 0 c).after 8 t)
        ∗ owns (c : Thread nD τ) (st0_9 t) fullShare ((dats m P out 0 c).after 9 t)
        ∗ owns (c : Thread nD τ) (st0_10 t) fullShare ((dats m P out 0 c).after 10 t)
        ∗ owns (c : Thread nD τ) (st0_11 t) fullShare ((dats m P out 0 c).after 11 t)
        ∗ owns (c : Thread nD τ) (st0_12 t) fullShare ((dats m P out 0 c).after 12 t)
        ∗ owns (c : Thread nD τ) (st0_13 t) fullShare ((dats m P out 0 c).after 13 t)
        ∗ owns (c : Thread nD τ) (st0_14 t) fullShare ((dats m P out 0 c).after 14 t)
        ∗ (∃ X X', ⌜S X⌝ ∗ ⌜t.val < 4 → X' = X⌝ ∗ ⌜t.val = 4 → Q X'⌝ ∗ owns (c : Thread nD τ) (st0_15 t) fullShare X')) := by
    intro X hS
    unfold Dat.owesAt Pipeline.owesWithin
    rw [show (dats m P out 0 c).owed t.succ = 0 from rfl, show (dats m P out 0 c).Φ t.succ = Inv m c (P c) (t.val + 1) from rfl]
    iintro ⟨HI, ⟨%W, HW⟩, H0, H1, H2, H3, H4, H5, H6, H7, H8, H9, H10, H11, H12, H13, H14, ⟨%X', %h1, %h2, HX⟩⟩
    isplitl [HI]; · iexact HI
    isplitl [HW]
    · iexists W; isplitr; · ipureintro; exact fun _ _ => Or.inl trivial
      iexact HW
    isplitl [H0]; · rw [after_0]; iexact H0
    isplitl [H1]; · rw [after_1]; iexact H1
    isplitl [H2]; · rw [after_2]; iexact H2
    isplitl [H3]; · rw [after_3]; iexact H3
    isplitl [H4]; · rw [after_4]; iexact H4
    isplitl [H5]; · rw [after_5]; iexact H5
    isplitl [H6]; · rw [after_6]; iexact H6
    isplitl [H7]; · rw [after_7]; iexact H7
    isplitl [H8]; · rw [after_8]; iexact H8
    isplitl [H9]; · rw [after_9]; iexact H9
    isplitl [H10]; · rw [after_10]; iexact H10
    isplitl [H11]; · rw [after_11]; iexact H11
    isplitl [H12]; · rw [after_12]; iexact H12
    isplitl [H13]; · rw [after_13]; iexact H13
    isplitl [H14]; · rw [after_14]; iexact H14
    iexists X, X'
    isplitr; · ipureintro; exact hS
    isplitr; · ipureintro; exact h1
    isplitr; · ipureintro; exact h2
    iexact HX
  unfold Dat.owesAt Pipeline.owesWithin
  rw [show (dats m P out 0 c).owed t.castSucc = 0 from rfl, show (dats m P out 0 c).Φ t.castSucc = Inv m c (P c) t.val from rfl]
  iintro ⟨HI, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%X, %hS, HX⟩⟩
  iapply ((sound_body m P Q c hK t X).trans ((wp frame (wpE (defs₀ (F := F)) Variants.none c none) Set.univ (bodyAt0 t)).mono fun _ => hpost X hS))
  isplitl [HI]; · iexact HI
  isplitl [HW]; · iexists W; iexact HW
  isplitl [H0]; · rw [before_0]; iexact H0
  isplitl [H1]; · rw [before_1]; iexact H1
  isplitl [H2]; · rw [before_2]; iexact H2
  isplitl [H3]; · rw [before_3]; iexact H3
  isplitl [H4]; · rw [before_4]; iexact H4
  isplitl [H5]; · rw [before_5]; iexact H5
  isplitl [H6]; · rw [before_6]; iexact H6
  isplitl [H7]; · rw [before_7]; iexact H7
  isplitl [H8]; · rw [before_8]; iexact H8
  isplitl [H9]; · rw [before_9]; iexact H9
  isplitl [H10]; · rw [before_10]; iexact H10
  isplitl [H11]; · rw [before_11]; iexact H11
  isplitl [H12]; · rw [before_12]; iexact H12
  isplitl [H13]; · rw [before_13]; iexact H13
  isplitl [H14]; · rw [before_14]; iexact H14
  iexact HX

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The result window is forgotten: the frame reads nothing of it. -/
def forgets0 : Fin 16 → Bool := fun w => w == 15

/-- The obligation with the result forgotten. -/
theorem obligation_forget (c : Dev nD) (hK : Keeps m c (P c) (fun _ => True)) :
    BodyObligation (dats m P out 0 c) (defs₀ (F := F)) Variants.none () Set.univ forgets0 := fun t => by
  rw [bigSep_W0, bigSep_W0, defs₀_row]
  refine triple_restated (sound_point m P out (fun _ => True) c hK t (fun _ => True)) rfl ?_ fun _ => ?_
  · show iprop((dats m P out 0 c).Φ t.castSucc ∗ (dats m P out 0 c).owesAt () t.castSucc ∗ (∃ d, owns (c : Thread nD τ) (st0_0 t) fullShare ((dats m P out 0 c).before 0 t d))
        ∗ (∃ d, owns (c : Thread nD τ) (st0_1 t) fullShare ((dats m P out 0 c).before 1 t d))
        ∗ (∃ d, owns (c : Thread nD τ) (st0_2 t) fullShare ((dats m P out 0 c).before 2 t d))
        ∗ (∃ d, owns (c : Thread nD τ) (st0_3 t) fullShare ((dats m P out 0 c).before 3 t d))
        ∗ (∃ d, owns (c : Thread nD τ) (st0_4 t) fullShare ((dats m P out 0 c).before 4 t d))
        ∗ (∃ d, owns (c : Thread nD τ) (st0_5 t) fullShare ((dats m P out 0 c).before 5 t d))
        ∗ (∃ d, owns (c : Thread nD τ) (st0_6 t) fullShare ((dats m P out 0 c).before 6 t d))
        ∗ (∃ d, owns (c : Thread nD τ) (st0_7 t) fullShare ((dats m P out 0 c).before 7 t d))
        ∗ (∃ d, owns (c : Thread nD τ) (st0_8 t) fullShare ((dats m P out 0 c).before 8 t d))
        ∗ (∃ d, owns (c : Thread nD τ) (st0_9 t) fullShare ((dats m P out 0 c).before 9 t d))
        ∗ (∃ d, owns (c : Thread nD τ) (st0_10 t) fullShare ((dats m P out 0 c).before 10 t d))
        ∗ (∃ d, owns (c : Thread nD τ) (st0_11 t) fullShare ((dats m P out 0 c).before 11 t d))
        ∗ (∃ d, owns (c : Thread nD τ) (st0_12 t) fullShare ((dats m P out 0 c).before 12 t d))
        ∗ (∃ d, owns (c : Thread nD τ) (st0_13 t) fullShare ((dats m P out 0 c).before 13 t d))
        ∗ (∃ d, owns (c : Thread nD τ) (st0_14 t) fullShare ((dats m P out 0 c).before 14 t d))
        ∗ (∃ X, owns (c : Thread nD τ) (st0_15 t) fullShare X)) ⊢ _
    iintro ⟨HI, HO, H0, H1, H2, H3, H4, H5, H6, H7, H8, H9, H10, H11, H12, H13, H14, ⟨%X, HX⟩⟩
    isplitl [HI]; · iexact HI
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists X; isplitr; · ipureintro; trivial
    iexact HX
  · show _ ⊢ iprop((dats m P out 0 c).Φ t.succ ∗ (dats m P out 0 c).owesAt () t.succ ∗ owns (c : Thread nD τ) (st0_0 t) fullShare ((dats m P out 0 c).after 0 t)
        ∗ owns (c : Thread nD τ) (st0_1 t) fullShare ((dats m P out 0 c).after 1 t)
        ∗ owns (c : Thread nD τ) (st0_2 t) fullShare ((dats m P out 0 c).after 2 t)
        ∗ owns (c : Thread nD τ) (st0_3 t) fullShare ((dats m P out 0 c).after 3 t)
        ∗ owns (c : Thread nD τ) (st0_4 t) fullShare ((dats m P out 0 c).after 4 t)
        ∗ owns (c : Thread nD τ) (st0_5 t) fullShare ((dats m P out 0 c).after 5 t)
        ∗ owns (c : Thread nD τ) (st0_6 t) fullShare ((dats m P out 0 c).after 6 t)
        ∗ owns (c : Thread nD τ) (st0_7 t) fullShare ((dats m P out 0 c).after 7 t)
        ∗ owns (c : Thread nD τ) (st0_8 t) fullShare ((dats m P out 0 c).after 8 t)
        ∗ owns (c : Thread nD τ) (st0_9 t) fullShare ((dats m P out 0 c).after 9 t)
        ∗ owns (c : Thread nD τ) (st0_10 t) fullShare ((dats m P out 0 c).after 10 t)
        ∗ owns (c : Thread nD τ) (st0_11 t) fullShare ((dats m P out 0 c).after 11 t)
        ∗ owns (c : Thread nD τ) (st0_12 t) fullShare ((dats m P out 0 c).after 12 t)
        ∗ owns (c : Thread nD τ) (st0_13 t) fullShare ((dats m P out 0 c).after 13 t)
        ∗ owns (c : Thread nD τ) (st0_14 t) fullShare ((dats m P out 0 c).after 14 t)
        ∗ (∃ X, owns (c : Thread nD τ) (st0_15 t) fullShare X))
    iintro ⟨HI, HO, H0, H1, H2, H3, H4, H5, H6, H7, H8, H9, H10, H11, H12, H13, H14, ⟨%X, %X', -, -, -, HX⟩⟩
    isplitl [HI]; · iexact HI
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists X'; iexact HX

theorem idle_15 : ∀ t : Fin grid0.N, t.val < 4 → cfg0.idle 15 (cfg0.grid.coords t) = true := by decide
theorem busy_15 : ∀ t : Fin grid0.N, t.val = 4 → cfg0.idle 15 (cfg0.grid.coords t) = false := by decide

/-- The obligation with the result: the last point leaves `out`. -/
theorem obligation_exact (c : Dev nD) (hK : Keeps m c (P c) (fun X => X = out c)) :
    BodyObligation (dats m P out 0 c) (defs₀ (F := F)) Variants.none () Set.univ := fun t => by
  have hN : t.val < 5 := by have := t.isLt; have h5 : cfg0.N = 5 := N_0; omega
  rw [bigSep_W0, bigSep_W0, defs₀_row]
  refine triple_restated (sound_point m P out (fun X => X = out c) c hK t (fun X => ∃ d, X = (dats m P out 0 c).before 15 t d)) rfl ?_ fun _ => ?_
  · show iprop((dats m P out 0 c).Φ t.castSucc ∗ (dats m P out 0 c).owesAt () t.castSucc ∗ (∃ d, owns (c : Thread nD τ) (st0_0 t) fullShare ((dats m P out 0 c).before 0 t d))
        ∗ (∃ d, owns (c : Thread nD τ) (st0_1 t) fullShare ((dats m P out 0 c).before 1 t d))
        ∗ (∃ d, owns (c : Thread nD τ) (st0_2 t) fullShare ((dats m P out 0 c).before 2 t d))
        ∗ (∃ d, owns (c : Thread nD τ) (st0_3 t) fullShare ((dats m P out 0 c).before 3 t d))
        ∗ (∃ d, owns (c : Thread nD τ) (st0_4 t) fullShare ((dats m P out 0 c).before 4 t d))
        ∗ (∃ d, owns (c : Thread nD τ) (st0_5 t) fullShare ((dats m P out 0 c).before 5 t d))
        ∗ (∃ d, owns (c : Thread nD τ) (st0_6 t) fullShare ((dats m P out 0 c).before 6 t d))
        ∗ (∃ d, owns (c : Thread nD τ) (st0_7 t) fullShare ((dats m P out 0 c).before 7 t d))
        ∗ (∃ d, owns (c : Thread nD τ) (st0_8 t) fullShare ((dats m P out 0 c).before 8 t d))
        ∗ (∃ d, owns (c : Thread nD τ) (st0_9 t) fullShare ((dats m P out 0 c).before 9 t d))
        ∗ (∃ d, owns (c : Thread nD τ) (st0_10 t) fullShare ((dats m P out 0 c).before 10 t d))
        ∗ (∃ d, owns (c : Thread nD τ) (st0_11 t) fullShare ((dats m P out 0 c).before 11 t d))
        ∗ (∃ d, owns (c : Thread nD τ) (st0_12 t) fullShare ((dats m P out 0 c).before 12 t d))
        ∗ (∃ d, owns (c : Thread nD τ) (st0_13 t) fullShare ((dats m P out 0 c).before 13 t d))
        ∗ (∃ d, owns (c : Thread nD τ) (st0_14 t) fullShare ((dats m P out 0 c).before 14 t d))
        ∗ (∃ d, owns (c : Thread nD τ) (st0_15 t) fullShare ((dats m P out 0 c).before 15 t d))) ⊢ _
    iintro ⟨HI, HO, H0, H1, H2, H3, H4, H5, H6, H7, H8, H9, H10, H11, H12, H13, H14, ⟨%d, HX⟩⟩
    isplitl [HI]; · iexact HI
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; isplitr; swap; · iexact HX
    ipureintro; exact ⟨d, rfl⟩
  · rcases Nat.lt_or_ge t.val 4 with h4 | h4
    · have hi := idle_15 t h4
      have hf : (cfg0.win 15).flush t = false := Bool.eq_false_iff.mpr fun h => by have := (flush0_15 t).mp h; omega
      rw [hi, hf]
      show _ ⊢ iprop((dats m P out 0 c).Φ t.succ ∗ (dats m P out 0 c).owesAt () t.succ ∗ owns (c : Thread nD τ) (st0_0 t) fullShare ((dats m P out 0 c).after 0 t)
        ∗ owns (c : Thread nD τ) (st0_1 t) fullShare ((dats m P out 0 c).after 1 t)
        ∗ owns (c : Thread nD τ) (st0_2 t) fullShare ((dats m P out 0 c).after 2 t)
        ∗ owns (c : Thread nD τ) (st0_3 t) fullShare ((dats m P out 0 c).after 3 t)
        ∗ owns (c : Thread nD τ) (st0_4 t) fullShare ((dats m P out 0 c).after 4 t)
        ∗ owns (c : Thread nD τ) (st0_5 t) fullShare ((dats m P out 0 c).after 5 t)
        ∗ owns (c : Thread nD τ) (st0_6 t) fullShare ((dats m P out 0 c).after 6 t)
        ∗ owns (c : Thread nD τ) (st0_7 t) fullShare ((dats m P out 0 c).after 7 t)
        ∗ owns (c : Thread nD τ) (st0_8 t) fullShare ((dats m P out 0 c).after 8 t)
        ∗ owns (c : Thread nD τ) (st0_9 t) fullShare ((dats m P out 0 c).after 9 t)
        ∗ owns (c : Thread nD τ) (st0_10 t) fullShare ((dats m P out 0 c).after 10 t)
        ∗ owns (c : Thread nD τ) (st0_11 t) fullShare ((dats m P out 0 c).after 11 t)
        ∗ owns (c : Thread nD τ) (st0_12 t) fullShare ((dats m P out 0 c).after 12 t)
        ∗ owns (c : Thread nD τ) (st0_13 t) fullShare ((dats m P out 0 c).after 13 t)
        ∗ owns (c : Thread nD τ) (st0_14 t) fullShare ((dats m P out 0 c).after 14 t)
        ∗ (∃ d, owns (c : Thread nD τ) (st0_15 t) fullShare ((dats m P out 0 c).before 15 t d)))
      iintro ⟨HI, HO, H0, H1, H2, H3, H4, H5, H6, H7, H8, H9, H10, H11, H12, H13, H14, ⟨%X, %X', %hX, %h1, -, HX⟩⟩
      isplitl [HI]; · iexact HI
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      obtain ⟨d, rfl⟩ := hX
      obtain rfl := h1 h4
      iexists d; iexact HX
    · have hi := busy_15 t (by omega)
      rw [hi]
      show _ ⊢ iprop((dats m P out 0 c).Φ t.succ ∗ (dats m P out 0 c).owesAt () t.succ ∗ owns (c : Thread nD τ) (st0_0 t) fullShare ((dats m P out 0 c).after 0 t)
        ∗ owns (c : Thread nD τ) (st0_1 t) fullShare ((dats m P out 0 c).after 1 t)
        ∗ owns (c : Thread nD τ) (st0_2 t) fullShare ((dats m P out 0 c).after 2 t)
        ∗ owns (c : Thread nD τ) (st0_3 t) fullShare ((dats m P out 0 c).after 3 t)
        ∗ owns (c : Thread nD τ) (st0_4 t) fullShare ((dats m P out 0 c).after 4 t)
        ∗ owns (c : Thread nD τ) (st0_5 t) fullShare ((dats m P out 0 c).after 5 t)
        ∗ owns (c : Thread nD τ) (st0_6 t) fullShare ((dats m P out 0 c).after 6 t)
        ∗ owns (c : Thread nD τ) (st0_7 t) fullShare ((dats m P out 0 c).after 7 t)
        ∗ owns (c : Thread nD τ) (st0_8 t) fullShare ((dats m P out 0 c).after 8 t)
        ∗ owns (c : Thread nD τ) (st0_9 t) fullShare ((dats m P out 0 c).after 9 t)
        ∗ owns (c : Thread nD τ) (st0_10 t) fullShare ((dats m P out 0 c).after 10 t)
        ∗ owns (c : Thread nD τ) (st0_11 t) fullShare ((dats m P out 0 c).after 11 t)
        ∗ owns (c : Thread nD τ) (st0_12 t) fullShare ((dats m P out 0 c).after 12 t)
        ∗ owns (c : Thread nD τ) (st0_13 t) fullShare ((dats m P out 0 c).after 13 t)
        ∗ owns (c : Thread nD τ) (st0_14 t) fullShare ((dats m P out 0 c).after 14 t)
        ∗ owns (c : Thread nD τ) (st0_15 t) fullShare ((dats m P out 0 c).after 15 t))
      iintro ⟨HI, HO, H0, H1, H2, H3, H4, H5, H6, H7, H8, H9, H10, H11, H12, H13, H14, ⟨%X, %X', -, -, %h2, HX⟩⟩
      isplitl [HI]; · iexact HI
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      obtain rfl := h2 (by omega)
      rw [after_15]
      iexact HX

end Cert.KernelIdeal.Hand

end
-- ==== Proof.KernelIdealFrame.lean ====
/-
  The launch: from any memory with zero counters every execution ends with the arguments as they were and every counter
  at zero; and, when the points keep a predicate, with the result array at what the last point leaves.
-/
module

public import proofs.«01_k».proof.Proof.KernelIdealRegion
public import proofs.«01_k».proof.Proof.Gen.KernelIdeal.Points
public import Idealize.ShloMosaic.Lib.Ring

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The algebra of the proof: the pipeline's beside the transfers' counters. -/
local notation "𝕄" => MT nD τ sig Unit (Elt F) ℕ (Pipeline.UD sig nD τ) ℕ

variable (m : (ℓ : Loc nD τ sig) → Buf (Elt F) ℓ) (ρ : Dev nD → PrngReg)
  (P : (c : Dev nD) → ℕ → Buf (Elt F) ((c : Thread nD τ).loc cc0_scratch0) → Buf (Elt F) ((c : Thread nD τ).loc cc0_scratch1) → Buf (Elt F) ((c : Thread nD τ).loc cc0_scratch2) → Buf (Elt F) ((c : Thread nD τ).loc cc0_scratch3) → Prop)
  (out : Dev nD → S8x256.Idx → Elt F .f32)

/-- The semaphore of the kernel's own copy. -/
abbrev osem0 : Fin 1 → SemLoc sig := fun j => (![SemLoc.dma 17] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 17) 0) := by
  rw [Pipeline.ownSems0_eq_of_list c osem0 [0] (by decide) (by decide)]; rfl
/-- The copy's source, left in HBM: no window's array. -/
def H0 : Finset (Ref sig .tc) := {main_call0_v0}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_call0_v0) ↦{fullShare} V m c main_call0_v0) := by
  rw [BI.bigSep_eq_bigSepL_of_eq [main_call0_v0] (by decide) (by decide)]; rfl

theorem rest_of (c : Dev nD) : Pipeline.ΦD osem0 spec0 H0 (V m) c ⊢ Rest m c := by
  rw [Pipeline.ΦD_eq, scopedRest0_eq, ownSems00_eq, hbmPts0_eq]
  unfold Rest
  simp only [Memref.view_whole, View.set_whole]
  iintro ⟨⟨HS18, HS19, HS20, HS21, HS22, HS24, HS25⟩, Hg, Hs, Hh⟩
  isplitl [HS18]; · iexact HS18
  isplitl [HS19]; · iexact HS19
  isplitl [HS20]; · iexact HS20
  isplitl [HS21]; · iexact HS21
  isplitl [HS22]; · iexact HS22
  isplitl [HS24]; · iexact HS24
  isplitl [HS25]; · iexact HS25
  isplitl [Hg]; · iexact Hg
  isplitl [Hs]; · iexact Hs
  iexact Hh

theorem of_rest (c : Dev nD) : Rest m c ⊢ Pipeline.ΦD osem0 spec0 H0 (V m) c := by
  rw [Pipeline.ΦD_eq, scopedRest0_eq, ownSems00_eq, hbmPts0_eq]
  unfold Rest
  simp only [Memref.view_whole, View.set_whole]
  iintro ⟨HS18, HS19, HS20, HS21, HS22, HS24, HS25, Hg, Hs, Hh⟩
  isplitl [HS18 HS19 HS20 HS21 HS22 HS24 HS25]
  · isplitl [HS18]; · iexact HS18
    isplitl [HS19]; · iexact HS19
    isplitl [HS20]; · iexact HS20
    isplitl [HS21]; · iexact HS21
    isplitl [HS22]; · iexact HS22
    isplitl [HS24]; · iexact HS24
    iexact HS25
  isplitl [Hg]; · iexact Hg
  isplitl [Hs]; · iexact Hs
  iexact Hh

theorem hin (c : Dev nD) : Pipeline.ΦD osem0 spec0 H0 (V m) c ⊢ (dats m P out 0 c).Φ 0 := by
  rw [show (dats m P out 0 c).Φ 0 = Inv m c (P c) 0 from rfl, show Inv m c (P c) 0 = Rest m c from if_pos (Or.inl rfl)]; exact rest_of m c

theorem hout (c : Dev nD) : (dats m P out 0 c).Φ (Fin.last cfg0.N) ⊢ Pipeline.ΦD osem0 spec0 H0 (V m) c := by
  rw [show (dats m P out 0 c).Φ (Fin.last cfg0.N) = Inv m c (P c) 5 from congrArg (Inv m c (P c)) (show (Fin.last cfg0.N).val = 5 from N_0), show Inv m c (P c) 5 = Rest m c from if_pos (Or.inr rfl)]; exact of_rest m c

/-- @main up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run with the result forgotten. -/
theorem run_forget (hK : ∀ c, Keeps m c (P c) (fun _ => True)) :
    θ_run defs (onTc (τ := τ) (main (F := F))) (s₀ m ρ)
      (fun r => Pipeline.RDat.FramePost (cfgs 0) (fun c => (dats m P out 0 c).toRForget forgets0) (V m) r ∧ r.2.sem = fun _ => 0) :=
  Pipeline.θ_run_frame_dma_forget (Q' := _) cfgs (dats m P out) (0 : Fin 1) launch0 osem0 defs₀ Variants.none forgets0 ownSemFacts0 H0 H0_sub m ρ main
    (hbody := fun c => (obligation_forget m P out c (hK c)).loose) (hshare := fun c => (dats m P out 0 c).share_full fun _ => rfl)
    (howed := fun _ _ => rfl) (V := V m) (hmain := hmainD m Variants.none) (hA := A_eq m P out)
    (hin := hin m P out) (hout := hout m P out)

set_option backward.isDefEq.respectTransparency.types false in
/-- The run with the result. -/
theorem run_exact (hK : ∀ c, Keeps m c (P c) (fun X => X = out c)) :
    θ_run defs (onTc (τ := τ) (main (F := F))) (s₀ m ρ)
      (fun r => Pipeline.FramePost cfgs (dats m P out) 0 (V m) r ∧ r.2.sem = fun _ => 0) :=
  Pipeline.θ_run_frame_dma (Q' := _) cfgs (dats m P out) (0 : Fin 1) launch0 osem0 defs₀ Variants.none ownSemFacts0 H0 H0_sub m ρ main
    (hbody := fun c => (obligation_exact m P out c (hK c)).loose) (hshare := fun c => (dats m P out 0 c).share_full fun _ => rfl)
    (howed := fun _ _ => rfl) (V := V m) (hmain := hmainD m Variants.none) (hA := A_eq m P out)
    (hin := hin m P out) (hout := hout m P out)

variable {m ρ}

/-- After the run every argument holds what it held at launch. -/
theorem final_args {r : PUnit × MemSt nD τ sig (Elt F)}
    (h : Pipeline.RDat.FramePost (cfgs 0) (fun c => (dats m P out 0 c).toRForget forgets0) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  ⟨((((dats m P out 0 c).toRForget_arrAt_iff (fgt := forgets0) (w := 1) rfl _ _).mp ((h c).1 1)).trans (((dats m P out 0 c).arrAt_in 1 rfl _).trans ((A_eq m P out c 1).trans (V_main_arg0 m c)))),
    ((((dats m P out 0 c).toRForget_arrAt_iff (fgt := forgets0) (w := 0) rfl _ _).mp ((h c).1 0)).trans (((dats m P out 0 c).arrAt_in 0 rfl _).trans ((A_eq m P out c 0).trans (V_main_arg1 m c)))),
    ((((dats m P out 0 c).toRForget_arrAt_iff (fgt := forgets0) (w := 2) rfl _ _).mp ((h c).1 2)).trans (((dats m P out 0 c).arrAt_in 2 rfl _).trans ((A_eq m P out c 2).trans (V_main_arg2 m c)))),
    (((h c).2 main_arg3 (Pipeline.mem_restRefs_of main_arg3 (by decide) (by decide))).trans (V_main_arg3 m c)),
    ((((dats m P out 0 c).toRForget_arrAt_iff (fgt := forgets0) (w := 4) rfl _ _).mp ((h c).1 4)).trans (((dats m P out 0 c).arrAt_in 4 rfl _).trans ((A_eq m P out c 4).trans (V_main_arg4 m c)))),
    (((h c).2 main_arg5 (Pipeline.mem_restRefs_of main_arg5 (by decide) (by decide))).trans (V_main_arg5 m c)),
    ((((dats m P out 0 c).toRForget_arrAt_iff (fgt := forgets0) (w := 6) rfl _ _).mp ((h c).1 6)).trans (((dats m P out 0 c).arrAt_in 6 rfl _).trans ((A_eq m P out c 6).trans (V_main_arg6 m c)))),
    (((h c).2 main_arg7 (Pipeline.mem_restRefs_of main_arg7 (by decide) (by decide))).trans (V_main_arg7 m c)),
    (((h c).2 main_arg8 (Pipeline.mem_restRefs_of main_arg8 (by decide) (by decide))).trans (V_main_arg8 m c)),
    (((h c).2 main_arg9 (Pipeline.mem_restRefs_of main_arg9 (by decide) (by decide))).trans (V_main_arg9 m c)),
    (((h c).2 main_arg10 (Pipeline.mem_restRefs_of main_arg10 (by decide) (by decide))).trans (V_main_arg10 m c)),
    (((h c).2 main_arg11 (Pipeline.mem_restRefs_of main_arg11 (by decide) (by decide))).trans (V_main_arg11 m c)),
    (((h c).2 main_arg12 (Pipeline.mem_restRefs_of main_arg12 (by decide) (by decide))).trans (V_main_arg12 m c)),
    ((((dats m P out 0 c).toRForget_arrAt_iff (fgt := forgets0) (w := 12) rfl _ _).mp ((h c).1 12)).trans (((dats m P out 0 c).arrAt_in 12 rfl _).trans ((A_eq m P out c 12).trans (V_main_arg13 m c)))),
    (((h c).2 main_arg14 (Pipeline.mem_restRefs_of main_arg14 (by decide) (by decide))).trans (V_main_arg14 m c)),
    (((h c).2 main_arg15 (Pipeline.mem_restRefs_of main_arg15 (by decide) (by decide))).trans (V_main_arg15 m c))⟩

/-- Every execution ends, the arguments as they were, every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  (θ_run defs _ _).mono (fun _ h => ⟨fun c => final_args (fun _ _ _ _ _ _ => True) (fun _ => Pipeline.Dat.unnamed (cfg := cfg0) 15 t0_0) h.1 c, h.2⟩)
    (run_forget m ρ (fun _ _ _ _ _ _ => True) (fun _ => Pipeline.Dat.unnamed (cfg := cfg0) 15 t0_0)
      (fun _ => ⟨by intros; trivial, by intros; trivial, by intros; trivial⟩))

end Cert.KernelIdeal.Hand

end
-- ==== Proof.ValueMath.lean ====
/-
  The mathematics of the two programs on plain functions over the extended reals: what the kernel's phases compute from
  the tokens and the segment boundaries, and what the reference computes from the padded array.
-/
module

public import Idealize.ShloMosaic.Lib.Pointwise

@[expose] public section

noncomputable section

namespace Cert.ValueMath

open Idealize.ShloMosaic

/-- The programs' arguments as functions of their coordinates; tokens are numbered by naturals, and the hidden weights
    are read at feature, cluster and output. -/
structure Args where
  /-- the tokens -/
  flat : ℕ → Fin 4 → EReal
  /-- the first layer's weights -/
  W1 : Fin 4 → Fin 64 → EReal
  /-- the first layer's bias -/
  b1 : Fin 64 → EReal
  /-- the second layer's weights -/
  W2 : Fin 64 → Fin 64 → EReal
  /-- the second layer's bias -/
  b2 : Fin 64 → EReal
  /-- the cluster weights -/
  cw : Fin 64 → Fin 64 → EReal
  /-- the cluster centres -/
  cw2 : Fin 64 → Fin 64 → EReal
  /-- the hidden weights -/
  hw : Fin 64 → Fin 64 → Fin 256 → EReal
  /-- the first normalization's scale -/
  g1 : Fin 64 → EReal
  /-- the first normalization's shift -/
  be1 : Fin 64 → EReal
  /-- the second normalization's scale -/
  g2 : Fin 256 → EReal
  /-- the second normalization's shift -/
  be2 : Fin 256 → EReal
  /-- the gating weights -/
  gw : Fin 256 → Fin 256 → EReal
  /-- the gates' normalization's scale -/
  gg : Fin 256 → EReal
  /-- the gates' normalization's shift -/
  gb : Fin 256 → EReal

/-- The arguments from the arrays the programs are launched with. -/
def mkArgs (a0 : (⟨2, ![16384, 4]⟩ : Shape).Idx → EReal)
    (a2 : (⟨2, ![4, 64]⟩ : Shape).Idx → EReal)
    (a3 : (⟨1, ![64]⟩ : Shape).Idx → EReal)
    (a4 : (⟨2, ![64, 64]⟩ : Shape).Idx → EReal)
    (a5 : (⟨1, ![64]⟩ : Shape).Idx → EReal)
    (a6 : (⟨2, ![64, 64]⟩ : Shape).Idx → EReal)
    (a7 : (⟨3, ![1, 64, 64]⟩ : Shape).Idx → EReal)
    (a8 : (⟨2, ![4096, 256]⟩ : Shape).Idx → EReal)
    (a9 : (⟨1, ![64]⟩ : Shape).Idx → EReal)
    (a10 : (⟨1, ![64]⟩ : Shape).Idx → EReal)
    (a11 : (⟨1, ![256]⟩ : Shape).Idx → EReal)
    (a12 : (⟨1, ![256]⟩ : Shape).Idx → EReal)
    (a13 : (⟨2, ![256, 256]⟩ : Shape).Idx → EReal)
    (a14 : (⟨1, ![256]⟩ : Shape).Idx → EReal)
    (a15 : (⟨1, ![256]⟩ : Shape).Idx → EReal) : Args where
  flat n d := if h : n < 16384 then a0 (ix2 ⟨n, h⟩ d) else 0
  W1 d j := a2 (ix2 d j)
  b1 j := a3 (ix1 j)
  W2 j k := a4 (ix2 j k)
  b2 k := a5 (ix1 k)
  cw k c := a6 (ix2 k c)
  cw2 f c := a7 (ix3 0 f c)
  hw f c o := a8 (ix2 ⟨64 * f.val + c.val, by have := f.isLt; have := c.isLt; omega⟩ o)
  g1 c := a9 (ix1 c)
  be1 c := a10 (ix1 c)
  g2 o := a11 (ix1 o)
  be2 o := a12 (ix1 o)
  gw k o := a13 (ix2 k o)
  gg o := a14 (ix1 o)
  gb o := a15 (ix1 o)

/-- The small number added to a variance. -/
abbrev eps : EReal := Ideal.ofBits .f32 0x3727C5AC#32
/-- The least norm divided by. -/
abbrev tiny : EReal := Ideal.ofBits .f32 0x2B8CBCCC#32
/-- The number of rows of the padded array, 32768. -/
abbrev rows : EReal := Ideal.ofBits .f32 0x47000000#32
/-- The number eight. -/
abbrev eight : EReal := Ideal.ofBits .f32 0x41000000#32
/-- The number of rows of a tile, 512. -/
abbrev tileRows : EReal := Ideal.ofBits .f32 0x44000000#32
/-- The number of rows of a padded segment, 4096. -/
abbrev segRows : EReal := Ideal.ofBits .f32 0x45800000#32
/-- The least extended real, as the word the programs print. -/
abbrev ninf : EReal := Ideal.ofBits .f32 0xFF800000#32

/-- The softmax of 64 numbers. -/
def smax (z : Fin 64 → EReal) (c : Fin 64) : EReal :=
  Ideal.div (Ideal.exp (z c - Finset.fold max ninf z Finset.univ)) (∑ j, Ideal.exp (z j - Finset.fold max ninf z Finset.univ))

/-- A column's mean over the eight segments. -/
def mean8 (X : Fin 8 → Fin 256 → EReal) (o : Fin 256) : EReal := Ideal.div (∑ b, X b o) eight

/-- A column's variance over the eight segments. -/
def var8 (X : Fin 8 → Fin 256 → EReal) (o : Fin 256) : EReal :=
  Ideal.div (∑ b, (X b o - mean8 X o) * (X b o - mean8 X o)) eight

/-- The norm of a column of a segment's 64 × 64 array, at least the least norm. -/
def norm1 (I : Fin 8 → Fin 64 → Fin 64 → EReal) (b : Fin 8) (c : Fin 64) : EReal :=
  max (Ideal.sqrt (∑ f, I b f c * I b f c)) tiny

/-- The array with its columns normalized. -/
def unit1 (I : Fin 8 → Fin 64 → Fin 64 → EReal) (b : Fin 8) (f c : Fin 64) : EReal := Ideal.div (I b f c) (norm1 I b c)

/-- The norm of a segment's array, at least the least norm. -/
def norm2 (I : Fin 8 → Fin 64 → Fin 64 → EReal) (b : Fin 8) : EReal :=
  max (Ideal.sqrt (∑ f, ∑ c, unit1 I b f c * unit1 I b f c)) tiny

/-- The normalized array applied to the hidden weights. -/
def hidden (A : Args) (I : Fin 8 → Fin 64 → Fin 64 → EReal) (b : Fin 8) (o : Fin 256) : EReal :=
  ∑ f, ∑ c, Ideal.div (unit1 I b f c) (norm2 I b) * A.hw f c o

/-- A normalization over the segments with the reciprocal square root, as the kernel computes it. -/
def bnK (X : Fin 8 → Fin 256 → EReal) (g be : Fin 256 → EReal) (b : Fin 8) (o : Fin 256) : EReal :=
  (X b o - mean8 X o) * Ideal.rsqrt (var8 X o + eps) * g o + be o

/-- A normalization over the segments with a division by the square root, as the reference computes it. -/
def bnR (X : Fin 8 → Fin 256 → EReal) (g be : Fin 256 → EReal) (b : Fin 8) (o : Fin 256) : EReal :=
  Ideal.div (X b o - mean8 X o) (Ideal.sqrt (var8 X o + eps)) * g o + be o

/-- The gates before their normalization. -/
def gates (A : Args) (X : Fin 8 → Fin 256 → EReal) (b : Fin 8) (o : Fin 256) : EReal := ∑ k, X b k * A.gw k o

/-- The kernel's result from the aggregated array. -/
def tailK (A : Args) (I : Fin 8 → Fin 64 → Fin 64 → EReal) (b : Fin 8) (o : Fin 256) : EReal :=
  bnK (hidden A I) A.g2 A.be2 b o
    * Ideal.div 1 (1 + Ideal.exp (0 - bnK (gates A (bnK (hidden A I) A.g2 A.be2)) A.gg A.gb b o))

/-- The reference's result from the aggregated array. -/
def tailR (A : Args) (I : Fin 8 → Fin 64 → Fin 64 → EReal) (b : Fin 8) (o : Fin 256) : EReal :=
  bnR (hidden A I) A.g2 A.be2 b o
    * Ideal.div 1 (1 + Ideal.exp (-bnR (gates A (bnR (hidden A I) A.g2 A.be2)) A.gg A.gb b o))

/-! ## The tokens -/

/-- A token's features. -/
def feat (A : Args) (n : ℕ) (k : Fin 64) : EReal :=
  max (∑ j, max (∑ d, A.flat n d * A.W1 d j + A.b1 j) 0 * A.W2 j k + A.b2 k) 0

/-- A token's activations. -/
def act (A : Args) (n : ℕ) (c : Fin 64) : EReal := ∑ k, feat A n k * A.cw k c

/-- The sum of the first `N` tokens' activations. -/
def sum1 (A : Args) (N : ℕ) (c : Fin 64) : EReal := ∑ n ∈ Finset.range N, act A n c

/-- The sum of the squares of the first `N` tokens' activations. -/
def sum2 (A : Args) (N : ℕ) (c : Fin 64) : EReal := ∑ n ∈ Finset.range N, act A n c * act A n c

/-! ## The kernel's second phase -/

/-- The mean of the padded activations. -/
def meanK (A : Args) (c : Fin 64) : EReal := Ideal.div (sum1 A 16384 c) rows

/-- The scale applied to the activations. -/
def scaleK (A : Args) (c : Fin 64) : EReal :=
  Ideal.rsqrt (Ideal.div (sum2 A 16384 c) rows - meanK A c * meanK A c + eps) * A.g1 c

/-- The shift applied to the activations. -/
def biasK (A : Args) (c : Fin 64) : EReal := A.be1 c - meanK A c * scaleK A c

/-- A token's soft assignment. -/
def assignK (A : Args) (n : ℕ) : Fin 64 → EReal := smax fun c => act A n c * scaleK A c + biasK A c

/-- A padding row's soft assignment. -/
def padK (A : Args) : Fin 64 → EReal := smax fun c => 0 * scaleK A c + biasK A c

/-- A tile's features summed under its tokens' assignments. -/
def tileV (A : Args) (t : ℕ) (f c : Fin 64) : EReal := ∑ r : Fin 512, feat A (t * 512 + r) f * assignK A (t * 512 + r) c

/-- A tile's assignments summed. -/
def tileS (A : Args) (t : ℕ) (c : Fin 64) : EReal := ∑ r : Fin 512, assignK A (t * 512 + r) c

/-- Whether a tile lies in a segment, as a number. -/
def mask (cu : Fin 9 → BitVec 32) (t : ℕ) (b : Fin 8) : EReal :=
  if 512 * (t : ℤ) ≥ (cu b.castSucc).toInt ∧ 512 * (t : ℤ) < (cu b.succ).toInt then 1 else 0

/-- The aggregated array of the kernel. -/
def aggK (A : Args) (cu : Fin 9 → BitVec 32) (b : Fin 8) (f c : Fin 64) : EReal :=
  (∑ t : Fin 32, mask cu t b * tileV A t f c)
    - ((∑ t : Fin 32, mask cu t b * tileS A t c) + (segRows - tileRows * ∑ t : Fin 32, mask cu t b) * padK A c) * A.cw2 f c

/-! ## The reference from the padded array -/

/-- The padded array: a segment's tokens, then zeros. -/
def padded (A : Args) (cu : Fin 9 → BitVec 32) (b : Fin 8) (m : ℕ) (f : Fin 64) : EReal :=
  if m < (cu b.succ).toNat - (cu b.castSucc).toNat then feat A ((cu b.castSucc).toNat + m) f else 0

/-- The padded activations. -/
def actR (A : Args) (x : Fin 8 → ℕ → Fin 64 → EReal) (b : Fin 8) (m : ℕ) (c : Fin 64) : EReal := ∑ k, x b m k * A.cw k c

/-- The padded activations' mean. -/
def meanR (A : Args) (x : Fin 8 → ℕ → Fin 64 → EReal) (c : Fin 64) : EReal :=
  Ideal.div (∑ b, ∑ m : Fin 4096, actR A x b m c) rows

/-- The padded activations' variance. -/
def varR (A : Args) (x : Fin 8 → ℕ → Fin 64 → EReal) (c : Fin 64) : EReal :=
  Ideal.div (∑ b, ∑ m : Fin 4096, (actR A x b m c - meanR A x c) * (actR A x b m c - meanR A x c)) rows

/-- A padded row's soft assignment. -/
def assignR (A : Args) (x : Fin 8 → ℕ → Fin 64 → EReal) (b : Fin 8) (m : ℕ) : Fin 64 → EReal :=
  smax fun c => Ideal.div (actR A x b m c - meanR A x c) (Ideal.sqrt (varR A x c + eps)) * A.g1 c + A.be1 c

/-- The aggregated array of the reference. -/
def aggR (A : Args) (x : Fin 8 → ℕ → Fin 64 → EReal) (b : Fin 8) (f c : Fin 64) : EReal :=
  (∑ m : Fin 4096, assignR A x b m c * x b m f) - (∑ m : Fin 4096, assignR A x b m c) * A.cw2 f c

end Cert.ValueMath

end
-- ==== Proof.KernelIdealTile.lean ====
/-
  What one trip of the kernel's first loop computes: the features and the activations of its four tiles, and their sums
  added to the carried ones.
-/
module

public import proofs.«01_k».proof.Proof.KernelIdealRegion
public import proofs.«01_k».proof.Proof.Gen.KernelIdeal.Frame
public import proofs.«01_k».proof.Proof.Gen.KernelIdeal.Points
public import Idealize.ShloMosaic.Lib.Ring
public import proofs.«01_k».proof.Proof.ValueMath

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.ValueMath
open Idealize.ShloMosaic.Pipeline (Dat Cfg Window BodyObligation cellOf)
open Idealize.SL.BI.BIBase Idealize.SL.BI.Laws Idealize.SL.ProofMode Idealize.SL.Sem

/-- The weights the first loop carries are the arguments'. -/
structure Wts (A : Args) (v9 : Vec Ideal S4x64 .f32) (v10 : Vec Ideal S1x64 .f32) (v12 : Vec Ideal S64x64 .f32)
    (v13 : Vec Ideal S1x64 .f32) (v15 : Vec Ideal S64x64 .f32) : Prop where
  /-- the first layer's weights -/
  hW1 : ∀ d j, v9 (ix2 d j) = A.W1 d j
  /-- the first layer's bias -/
  hb1 : ∀ j, v10 (ix2 0 j) = A.b1 j
  /-- the second layer's weights -/
  hW2 : ∀ j k, v12 (ix2 j k) = A.W2 j k
  /-- the second layer's bias -/
  hb2 : ∀ k, v13 (ix2 0 k) = A.b2 k
  /-- the cluster weights -/
  hcw : ∀ k c, v15 (ix2 k c) = A.cw k c

section Tile
variable {A : Args} {v9 : Vec Ideal S4x64 .f32} {v10 : Vec Ideal S1x64 .f32} {v12 : Vec Ideal S64x64 .f32}
  {v13 : Vec Ideal S1x64 .f32} {v15 : Vec Ideal S64x64 .f32} (hw : Wts A v9 v10 v12 v13 v15)
  {B : Vec Ideal S512x4 .f32} {n0 : ℕ} (hB : ∀ (r : Fin 512) (d : Fin 4), B (ix2 r d) = A.flat (n0 + r) d)
include hw hB

/-- A tile's stored features. -/
theorem tile_feat (r : Fin 512) (c : Fin 64) :
    k0_pay14 (F := Ideal) v9 (k0_pay1 v10) v12 (k0_pay2 v13) B (ix2 r c) = feat A (n0 + r) c := by
  pointwise [k0_pay14, k0_pay12, k0_pay1, k0_pay2, feat]
  simp only [hB, hw.hW1, hw.hb1, hw.hW2, hw.hb2]

/-- A tile's stored activations. -/
theorem tile_act (r : Fin 512) (c : Fin 64) :
    k0_pay15 (F := Ideal) v9 (k0_pay1 v10) v12 (k0_pay2 v13) v15 B (ix2 r c) = act A (n0 + r) c := by
  pointwise [k0_pay15, k0_pay13, k0_pay12, k0_pay1, k0_pay2, feat, act]
  simp only [hB, hw.hW1, hw.hb1, hw.hW2, hw.hb2, hw.hcw]

/-- A tile's activations summed. -/
theorem tile_sum (c : Fin 64) :
    k0_pay16 (F := Ideal) v9 (k0_pay1 v10) v12 (k0_pay2 v13) v15 B (ix2 0 c) = ∑ r : Fin 512, act A (n0 + r) c := by
  pointwise [k0_pay16, k0_pay13, k0_pay12, k0_pay1, k0_pay2, feat, act]
  simp only [hB, hw.hW1, hw.hb1, hw.hW2, hw.hb2, hw.hcw]

/-- A tile's squared activations summed. -/
theorem tile_sq (c : Fin 64) :
    k0_pay17 (F := Ideal) v9 (k0_pay1 v10) v12 (k0_pay2 v13) v15 B (ix2 0 c) = ∑ r : Fin 512, act A (n0 + r) c * act A (n0 + r) c := by
  pointwise [k0_pay17, k0_pay13, k0_pay12, k0_pay1, k0_pay2, feat, act]
  simp only [hB, hw.hW1, hw.hb1, hw.hW2, hw.hb2, hw.hcw]
end Tile

/-- A block of rows read through a view. -/
theorem readAt_rows {sp : Space} {n m w : ℕ} (V : View sig .tc sp ⟨2, ![n, w]⟩ .f32) (X : BufTy.Contents (Elt Ideal) V.ty)
    (off : Fin 2 → ℕ) (h) (o : ℕ) (ho : off = ![o, 0]) (r : Fin m) (d : Fin w) (hr : o + r.val < n) :
    V.readAt (Elt Ideal) (Rect.unit (s := ⟨2, ![n, w]⟩) off ![m, w] h).toLoadRect X (ix2 r d)
      = V.read (Elt Ideal) X (ix2 ⟨o + r.val, hr⟩ d) := by
  subst ho
  refine congrArg (V.read (Elt Ideal) X) ?_
  funext a
  apply Fin.ext
  match a with
  | ⟨0, _⟩ => exact congrArg (o + ·) (Nat.one_mul _)
  | ⟨1, _⟩ => exact (Nat.zero_add _).trans (Nat.one_mul _)

/-- Four consecutive tiles' sums are one sum. -/
theorem sum_tiles (g : ℕ → EReal) (N : ℕ) :
    (∑ r : Fin 512, g (N + r)) + (∑ r : Fin 512, g (N + 512 + r)) + ((∑ r : Fin 512, g (N + 1024 + r)) + (∑ r : Fin 512, g (N + 1536 + r)))
      = ∑ n ∈ Finset.range 2048, g (N + n) := by
  have e : ∀ a, ∑ n ∈ Finset.range 512, g (N + a + n) = ∑ n ∈ Finset.range 512, g (N + (a + n)) := fun a =>
    Finset.sum_congr rfl fun n _ => by rw [Nat.add_assoc]
  rw [Fin.sum_univ_eq_sum_range (fun n => g (N + n)) 512, Fin.sum_univ_eq_sum_range (fun n => g (N + 512 + n)) 512,
    Fin.sum_univ_eq_sum_range (fun n => g (N + 1024 + n)) 512, Fin.sum_univ_eq_sum_range (fun n => g (N + 1536 + n)) 512,
    e, e, e, show (2048 : ℕ) = 512 + 512 + 512 + 512 from rfl, Finset.sum_range_add, Finset.sum_range_add, Finset.sum_range_add,
    add_assoc, add_assoc, add_assoc]

/-- A stored tile that agrees with a function of the rows agrees with it wherever the store puts it. -/
theorem piece_rows (G : ℕ → Fin 64 → EReal) (off : Fin 2 → ℕ) (h) (o : ℕ) (ho : off = ![o, 0])
    (w : Vec Ideal S512x64 .f32) (hwv : ∀ (r : Fin 512) (q : Fin 64), w (ix2 r q) = G (o + r) q)
    (x : (Rect.unit (s := S16384x64) off ![512, 64] h).shape.Idx) :
    w x = G ((Rect.unit (s := S16384x64) off ![512, 64] h).emb x 0).val ((Rect.unit (s := S16384x64) off ![512, 64] h).emb x 1) := by
  obtain ⟨r, q, rfl⟩ : ∃ (r : Fin 512) (q : Fin 64), x = ix2 r q := ⟨x 0, x 1, eq_ix2 x⟩
  subst ho
  refine (hwv r q).trans (congrArg₂ G ?_ ?_)
  · exact congrArg (o + ·) (Nat.one_mul _).symm
  · exact Fin.ext ((Nat.one_mul _).symm.trans (Nat.zero_add _).symm)

variable (𝒱 : Variants) (c : Dev nD) (bd : Option 𝒱.V)
  (i : grid0.Coords) (arg1 : Memref sig .tc .smem S9 .i32) (harg1 : arg1.IsWhole) (arg2 : Memref sig .tc .vmem S4096x4 .f32) (harg2 : arg2.IsWhole) (arg3 : Memref sig .tc .vmem S4x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x64 .f32) (harg8 : arg8.IsWhole) (arg9 : Memref sig .tc .hbm S64x64x256 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S8x256 .f32) (harg17 : arg17.IsWhole) (arg18 : Memref sig .tc .vmem S16384x64 .f32) (harg18 : arg18.IsWhole) (arg19 : Memref sig .tc .vmem S16384x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S64x64x256 .f32) (harg22 : arg22.IsWhole) (arg23 : DmaSems sig S_) (arg24 : Memref sig .tc .vmem S32x64x64 .f32) (harg24 : arg24.IsWhole) (arg25 : Memref sig .tc .vmem S32x64 .f32) (harg25 : arg25.IsWhole)

section First
variable (arg0 : BitVec 32) (k0_h2 : k0_cond2 i = 1#1) (v9 : Vec Ideal S4x64 .f32) (v10 : Vec Ideal S1x64 .f32) (v12 : Vec Ideal S64x64 .f32) (v13 : Vec Ideal S1x64 .f32) (v15 : Vec Ideal S64x64 .f32)
  (X2 : BufTy.Contents (Elt Ideal) arg2.view.ty)
  (A : Args) (hw : Wts A v9 v10 v12 v13 v15)
  (hX : ∀ (r : Fin 4096) (d : Fin 4), arg2.view.read (Elt Ideal) X2 (ix2 r d) = A.flat (4096 * (i 0).val + r.val) d)

include hX in
/-- The rows a tile of the first loop reads are the tokens'. -/
theorem block_flat (k : Fin k0_t1_loop.trips) (off : Fin 2 → ℕ) (h) (o : ℕ) (ho : off = ![o, 0]) (hle : o + 512 ≤ 4096)
    (r : Fin 512) (d : Fin 4) :
    arg2.view.readAt (Elt Ideal) (Rect.unit (s := S4096x4) off ![512, 4] h).toLoadRect X2 (ix2 r d) = A.flat (4096 * (i 0).val + o + r.val) d := by
  have hr : o + r.val < 4096 := by have := r.isLt; omega
  refine (readAt_rows arg2.view X2 off h o ho r d hr).trans ((hX ⟨o + r.val, hr⟩ d).trans ?_)
  rw [Nat.add_assoc]

include hw hX in
/-- What a trip stores into the features' array. -/
theorem trip1_feat (k : Fin k0_t1_loop.trips) : ∀ p ∈ (trip1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).2.1, ∀ x : p.1.shape.Idx,
    p.2 x = feat A (p.1.emb x 0).val (p.1.emb x 1) := by
  have hk : k.val < 2 := Nat.lt_of_lt_of_le k.isLt k0_t1_abs.2.1
  unfold trip1; dsimp only
  intro p hp
  simp only [List.mem_cons, List.not_mem_nil, or_false] at hp
  rcases hp with rfl | rfl | rfl | rfl
  · exact piece_rows (feat A) _ (k0_off4_inb i k k0_h2 2) _ (k0_off4_eq i k 2) _ fun r q =>
      (tile_feat hw (block_flat i arg2 X2 A hX k _ (k0_off3_inb i k k0_h2 2) _ (k0_off3_eq k 2) (by show 2048 * k.val + 512 * 2 + 512 + 512 ≤ 4096; omega)) r q).trans
        (congrArg (fun n => feat A n q) (by show 4096 * (i 0).val + (2048 * k.val + 512 * 2 + 512) + r.val = 4096 * (i 0).val + 2048 * k.val + 512 * 2 + 512 + r.val; omega))
  · exact piece_rows (feat A) _ (k0_off4_inb i k k0_h2 1) _ (k0_off4_eq i k 1) _ fun r q =>
      (tile_feat hw (block_flat i arg2 X2 A hX k _ (k0_off3_inb i k k0_h2 1) _ (k0_off3_eq k 1) (by show 2048 * k.val + 512 * 1 + 512 + 512 ≤ 4096; omega)) r q).trans
        (congrArg (fun n => feat A n q) (by show 4096 * (i 0).val + (2048 * k.val + 512 * 1 + 512) + r.val = 4096 * (i 0).val + 2048 * k.val + 512 * 1 + 512 + r.val; omega))
  · exact piece_rows (feat A) _ (k0_off4_inb i k k0_h2 0) _ (k0_off4_eq i k 0) _ fun r q =>
      (tile_feat hw (block_flat i arg2 X2 A hX k _ (k0_off3_inb i k k0_h2 0) _ (k0_off3_eq k 0) (by show 2048 * k.val + 512 * 0 + 512 + 512 ≤ 4096; omega)) r q).trans
        (congrArg (fun n => feat A n q) (by show 4096 * (i 0).val + (2048 * k.val + 512 * 0 + 512) + r.val = 4096 * (i 0).val + 2048 * k.val + 512 * 0 + 512 + r.val; omega))
  · exact piece_rows (feat A) _ (k0_off2_inb i k k0_h2) _ (k0_off2_eq i k) _ fun r q =>
      (tile_feat hw (block_flat i arg2 X2 A hX k _ (k0_off1_inb i k k0_h2) _ (k0_off1_eq k) (by omega)) r q).trans
        (congrArg (fun n => feat A n q) (by show 4096 * (i 0).val + (2048 * k.val) + r.val = 4096 * (i 0).val + 2048 * k.val + r.val; omega))

include hw hX in
/-- What a trip stores into the activations' array. -/
theorem trip1_act (k : Fin k0_t1_loop.trips) : ∀ p ∈ (trip1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).2.2.1, ∀ x : p.1.shape.Idx,
    p.2 x = act A (p.1.emb x 0).val (p.1.emb x 1) := by
  have hk : k.val < 2 := Nat.lt_of_lt_of_le k.isLt k0_t1_abs.2.1
  unfold trip1; dsimp only
  intro p hp
  simp only [List.mem_cons, List.not_mem_nil, or_false] at hp
  rcases hp with rfl | rfl | rfl | rfl
  · exact piece_rows (act A) _ (k0_off4_inb i k k0_h2 2) _ (k0_off4_eq i k 2) _ fun r q =>
      (tile_act hw (block_flat i arg2 X2 A hX k _ (k0_off3_inb i k k0_h2 2) _ (k0_off3_eq k 2) (by show 2048 * k.val + 512 * 2 + 512 + 512 ≤ 4096; omega)) r q).trans
        (congrArg (fun n => act A n q) (by show 4096 * (i 0).val + (2048 * k.val + 512 * 2 + 512) + r.val = 4096 * (i 0).val + 2048 * k.val + 512 * 2 + 512 + r.val; omega))
  · exact piece_rows (act A) _ (k0_off4_inb i k k0_h2 1) _ (k0_off4_eq i k 1) _ fun r q =>
      (tile_act hw (block_flat i arg2 X2 A hX k _ (k0_off3_inb i k k0_h2 1) _ (k0_off3_eq k 1) (by show 2048 * k.val + 512 * 1 + 512 + 512 ≤ 4096; omega)) r q).trans
        (congrArg (fun n => act A n q) (by show 4096 * (i 0).val + (2048 * k.val + 512 * 1 + 512) + r.val = 4096 * (i 0).val + 2048 * k.val + 512 * 1 + 512 + r.val; omega))
  · exact piece_rows (act A) _ (k0_off4_inb i k k0_h2 0) _ (k0_off4_eq i k 0) _ fun r q =>
      (tile_act hw (block_flat i arg2 X2 A hX k _ (k0_off3_inb i k k0_h2 0) _ (k0_off3_eq k 0) (by show 2048 * k.val + 512 * 0 + 512 + 512 ≤ 4096; omega)) r q).trans
        (congrArg (fun n => act A n q) (by show 4096 * (i 0).val + (2048 * k.val + 512 * 0 + 512) + r.val = 4096 * (i 0).val + 2048 * k.val + 512 * 0 + 512 + r.val; omega))
  · exact piece_rows (act A) _ (k0_off2_inb i k k0_h2) _ (k0_off2_eq i k) _ fun r q =>
      (tile_act hw (block_flat i arg2 X2 A hX k _ (k0_off1_inb i k k0_h2) _ (k0_off1_eq k) (by omega)) r q).trans
        (congrArg (fun n => act A n q) (by show 4096 * (i 0).val + (2048 * k.val) + r.val = 4096 * (i 0).val + 2048 * k.val + r.val; omega))

include hw hX in
/-- A trip adds its tokens' activations to the carried sum. -/
theorem trip1_sum (k : Fin k0_t1_loop.trips) (acc : FVec Ideal S1x64 .f32 × FVec Ideal S1x64 .f32) (q : Fin 64) :
    ((trip1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).1 acc).1 (ix2 0 q)
      = acc.1 (ix2 0 q) + ∑ n ∈ Finset.range 2048, act A (4096 * (i 0).val + 2048 * k.val + n) q := by
  have hk : k.val < 2 := Nat.lt_of_lt_of_le k.isLt k0_t1_abs.2.1
  unfold trip1; dsimp only
  have b0 := block_flat i arg2 X2 A hX k _ (k0_off1_inb i k k0_h2) _ (k0_off1_eq k) (by omega)
  have b1 := block_flat i arg2 X2 A hX k _ (k0_off3_inb i k k0_h2 0) _ (k0_off3_eq k 0) (by show 2048 * k.val + 512 * 0 + 512 + 512 ≤ 4096; omega)
  have b2 := block_flat i arg2 X2 A hX k _ (k0_off3_inb i k k0_h2 1) _ (k0_off3_eq k 1) (by show 2048 * k.val + 512 * 1 + 512 + 512 ≤ 4096; omega)
  have b3 := block_flat i arg2 X2 A hX k _ (k0_off3_inb i k k0_h2 2) _ (k0_off3_eq k 2) (by show 2048 * k.val + 512 * 2 + 512 + 512 ≤ 4096; omega)
  have s0 := tile_sum hw b0 q
  have s1 := tile_sum hw b1 q
  have s2 := tile_sum hw b2 q
  have s3 := tile_sum hw b3 q
  refine Eq.trans (b := acc.1 (ix2 0 q) + ((_ + _) + (_ + _))) ?_ (congrArg (acc.1 (ix2 0 q) + ·)
    ((congrArg₂ (· + ·) (congrArg₂ (· + ·) s0 s1) (congrArg₂ (· + ·) s2 s3)).trans ?_))
  · rfl
  · refine Eq.trans ?_ (sum_tiles (fun n => act A (n) q) (4096 * (i 0).val + 2048 * k.val))
    have e0 : ∀ r : Fin 512, 4096 * (i 0).val + 2048 * k.val + r.val = 4096 * (i 0).val + 2048 * k.val + r.val := fun r => rfl
    have e1 : ∀ r : Fin 512, 4096 * (i 0).val + (2048 * k.val + 512 * (0 : Fin 3).val + 512) + r.val = 4096 * (i 0).val + 2048 * k.val + 512 + r.val := fun r => by show 4096 * (i 0).val + (2048 * k.val + 512 * 0 + 512) + r.val = _; omega
    have e2 : ∀ r : Fin 512, 4096 * (i 0).val + (2048 * k.val + 512 * (1 : Fin 3).val + 512) + r.val = 4096 * (i 0).val + 2048 * k.val + 1024 + r.val := fun r => by show 4096 * (i 0).val + (2048 * k.val + 512 * 1 + 512) + r.val = _; omega
    have e3 : ∀ r : Fin 512, 4096 * (i 0).val + (2048 * k.val + 512 * (2 : Fin 3).val + 512) + r.val = 4096 * (i 0).val + 2048 * k.val + 1536 + r.val := fun r => by show 4096 * (i 0).val + (2048 * k.val + 512 * 2 + 512) + r.val = _; omega
    simp only [e1, e2, e3]

include hw hX in
/-- A trip adds its tokens' squared activations to the carried sum. -/
theorem trip1_sq (k : Fin k0_t1_loop.trips) (acc : FVec Ideal S1x64 .f32 × FVec Ideal S1x64 .f32) (q : Fin 64) :
    ((trip1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).1 acc).2 (ix2 0 q)
      = acc.2 (ix2 0 q) + ∑ n ∈ Finset.range 2048, act A (4096 * (i 0).val + 2048 * k.val + n) q * act A (4096 * (i 0).val + 2048 * k.val + n) q := by
  have hk : k.val < 2 := Nat.lt_of_lt_of_le k.isLt k0_t1_abs.2.1
  unfold trip1; dsimp only
  have b0 := block_flat i arg2 X2 A hX k _ (k0_off1_inb i k k0_h2) _ (k0_off1_eq k) (by omega)
  have b1 := block_flat i arg2 X2 A hX k _ (k0_off3_inb i k k0_h2 0) _ (k0_off3_eq k 0) (by show 2048 * k.val + 512 * 0 + 512 + 512 ≤ 4096; omega)
  have b2 := block_flat i arg2 X2 A hX k _ (k0_off3_inb i k k0_h2 1) _ (k0_off3_eq k 1) (by show 2048 * k.val + 512 * 1 + 512 + 512 ≤ 4096; omega)
  have b3 := block_flat i arg2 X2 A hX k _ (k0_off3_inb i k k0_h2 2) _ (k0_off3_eq k 2) (by show 2048 * k.val + 512 * 2 + 512 + 512 ≤ 4096; omega)
  have s0 := tile_sq hw b0 q
  have s1 := tile_sq hw b1 q
  have s2 := tile_sq hw b2 q
  have s3 := tile_sq hw b3 q
  refine Eq.trans (b := acc.2 (ix2 0 q) + ((_ + _) + (_ + _))) ?_ (congrArg (acc.2 (ix2 0 q) + ·)
    ((congrArg₂ (· + ·) (congrArg₂ (· + ·) s0 s1) (congrArg₂ (· + ·) s2 s3)).trans ?_))
  · rfl
  · refine Eq.trans ?_ (sum_tiles (fun n => act A (n) q * act A (n) q) (4096 * (i 0).val + 2048 * k.val))
    have e0 : ∀ r : Fin 512, 4096 * (i 0).val + 2048 * k.val + r.val = 4096 * (i 0).val + 2048 * k.val + r.val := fun r => rfl
    have e1 : ∀ r : Fin 512, 4096 * (i 0).val + (2048 * k.val + 512 * (0 : Fin 3).val + 512) + r.val = 4096 * (i 0).val + 2048 * k.val + 512 + r.val := fun r => by show 4096 * (i 0).val + (2048 * k.val + 512 * 0 + 512) + r.val = _; omega
    have e2 : ∀ r : Fin 512, 4096 * (i 0).val + (2048 * k.val + 512 * (1 : Fin 3).val + 512) + r.val = 4096 * (i 0).val + 2048 * k.val + 1024 + r.val := fun r => by show 4096 * (i 0).val + (2048 * k.val + 512 * 1 + 512) + r.val = _; omega
    have e3 : ∀ r : Fin 512, 4096 * (i 0).val + (2048 * k.val + 512 * (2 : Fin 3).val + 512) + r.val = 4096 * (i 0).val + 2048 * k.val + 1536 + r.val := fun r => by show 4096 * (i 0).val + (2048 * k.val + 512 * 2 + 512) + r.val = _; omega
    simp only [e1, e2, e3]

/-- The trip's stores into the features' array cover its 2048 rows. -/
theorem trip1_cover21 (k : Fin k0_t1_loop.trips) (y : S16384x64.Idx) (h1 : 4096 * (i 0).val + 2048 * k.val ≤ (y 0).val)
    (h2 : (y 0).val < 4096 * (i 0).val + 2048 * k.val + 2048) : ∃ p ∈ (trip1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).2.1, y ∈ p.1.set := by
  unfold trip1; dsimp only
  have hy1 : (y 1).val < 64 := (y 1).isLt
  have key : ∀ (off : Fin 2 → ℕ) (h) (o : ℕ), off = ![o, 0] → o ≤ (y 0).val → (y 0).val < o + 512 →
      y ∈ (Rect.unit (s := S16384x64) off ![512, 64] h).set := by
    intro off h o ho g1 g2
    subst ho
    refine Rect.mem_set_unit.mpr fun a => ?_
    match a with
    | ⟨0, _⟩ => exact ⟨g1, g2⟩
    | ⟨1, _⟩ => exact ⟨Nat.zero_le _, by show (y 1).val < 0 + 64; omega⟩
  have e0 := k0_off2_eq i k
  have e1 : k0_off4 i k 1#32 = ![4096 * (i 0).val + 2048 * k.val + 512, 0] := k0_off4_eq i k 0
  have e2 : k0_off4 i k 2#32 = ![4096 * (i 0).val + 2048 * k.val + 1024, 0] := k0_off4_eq i k 1
  have e3 : k0_off4 i k 3#32 = ![4096 * (i 0).val + 2048 * k.val + 1536, 0] := k0_off4_eq i k 2
  by_cases c1 : (y 0).val < 4096 * (i 0).val + 2048 * k.val + 512
  · exact ⟨_, List.mem_cons_of_mem _ (List.mem_cons_of_mem _ (List.mem_cons_of_mem _ List.mem_cons_self)), key _ (k0_off2_inb i k k0_h2) _ e0 h1 c1⟩
  by_cases c2 : (y 0).val < 4096 * (i 0).val + 2048 * k.val + 1024
  · exact ⟨_, List.mem_cons_of_mem _ (List.mem_cons_of_mem _ List.mem_cons_self), key _ (k0_off4_inb i k k0_h2 0) _ e1 (by omega) (by omega)⟩
  by_cases c3 : (y 0).val < 4096 * (i 0).val + 2048 * k.val + 1536
  · exact ⟨_, List.mem_cons_of_mem _ List.mem_cons_self, key _ (k0_off4_inb i k k0_h2 1) _ e2 (by omega) (by omega)⟩
  · exact ⟨_, List.mem_cons_self, key _ (k0_off4_inb i k k0_h2 2) _ e3 (by omega) (by omega)⟩

/-- The trip's stores into the activations' array cover its 2048 rows. -/
theorem trip1_cover221 (k : Fin k0_t1_loop.trips) (y : S16384x64.Idx) (h1 : 4096 * (i 0).val + 2048 * k.val ≤ (y 0).val)
    (h2 : (y 0).val < 4096 * (i 0).val + 2048 * k.val + 2048) : ∃ p ∈ (trip1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 k).2.2.1, y ∈ p.1.set := by
  unfold trip1; dsimp only
  have hy1 : (y 1).val < 64 := (y 1).isLt
  have key : ∀ (off : Fin 2 → ℕ) (h) (o : ℕ), off = ![o, 0] → o ≤ (y 0).val → (y 0).val < o + 512 →
      y ∈ (Rect.unit (s := S16384x64) off ![512, 64] h).set := by
    intro off h o ho g1 g2
    subst ho
    refine Rect.mem_set_unit.mpr fun a => ?_
    match a with
    | ⟨0, _⟩ => exact ⟨g1, g2⟩
    | ⟨1, _⟩ => exact ⟨Nat.zero_le _, by show (y 1).val < 0 + 64; omega⟩
  have e0 := k0_off2_eq i k
  have e1 : k0_off4 i k 1#32 = ![4096 * (i 0).val + 2048 * k.val + 512, 0] := k0_off4_eq i k 0
  have e2 : k0_off4 i k 2#32 = ![4096 * (i 0).val + 2048 * k.val + 1024, 0] := k0_off4_eq i k 1
  have e3 : k0_off4 i k 3#32 = ![4096 * (i 0).val + 2048 * k.val + 1536, 0] := k0_off4_eq i k 2
  by_cases c1 : (y 0).val < 4096 * (i 0).val + 2048 * k.val + 512
  · exact ⟨_, List.mem_cons_of_mem _ (List.mem_cons_of_mem _ (List.mem_cons_of_mem _ List.mem_cons_self)), key _ (k0_off2_inb i k k0_h2) _ e0 h1 c1⟩
  by_cases c2 : (y 0).val < 4096 * (i 0).val + 2048 * k.val + 1024
  · exact ⟨_, List.mem_cons_of_mem _ (List.mem_cons_of_mem _ List.mem_cons_self), key _ (k0_off4_inb i k k0_h2 0) _ e1 (by omega) (by omega)⟩
  by_cases c3 : (y 0).val < 4096 * (i 0).val + 2048 * k.val + 1536
  · exact ⟨_, List.mem_cons_of_mem _ List.mem_cons_self, key _ (k0_off4_inb i k k0_h2 1) _ e2 (by omega) (by omega)⟩
  · exact ⟨_, List.mem_cons_self, key _ (k0_off4_inb i k k0_h2 2) _ e3 (by omega) (by omega)⟩

include hw hX in
/-- What the first loop stores into the features' array. -/
theorem state1_feat (init : FVec Ideal S1x64 .f32 × FVec Ideal S1x64 .f32) : ∀ p ∈ (state1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init 2).2.1, ∀ x : p.1.shape.Idx,
    p.2 x = feat A (p.1.emb x 0).val (p.1.emb x 1) := by
  rw [show (2 : ℕ) = (⟨1, by decide⟩ : Fin k0_t1_loop.trips).val + 1 from rfl, state1_succ]
  intro p hp
  rcases List.mem_append.mp hp with hp | hp
  · exact trip1_feat 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX _ p hp
  · rw [show ((⟨1, by decide⟩ : Fin k0_t1_loop.trips).val : ℕ) = (⟨0, by decide⟩ : Fin k0_t1_loop.trips).val + 1 from rfl, state1_succ] at hp
    rcases List.mem_append.mp hp with hp | hp
    · exact trip1_feat 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX _ p hp
    · exact absurd hp List.not_mem_nil

/-- The first loop's stores into the features' array cover the point's 4096 rows. -/
theorem state1_cover_feat (init : FVec Ideal S1x64 .f32 × FVec Ideal S1x64 .f32) (y : S16384x64.Idx) (h1 : 4096 * (i 0).val ≤ (y 0).val)
    (h2 : (y 0).val < 4096 * (i 0).val + 4096) : ∃ p ∈ (state1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init 2).2.1, y ∈ p.1.set := by
  rw [show (2 : ℕ) = (⟨1, by decide⟩ : Fin k0_t1_loop.trips).val + 1 from rfl, state1_succ]
  by_cases c1 : (y 0).val < 4096 * (i 0).val + 2048
  · rw [show ((⟨1, by decide⟩ : Fin k0_t1_loop.trips).val : ℕ) = (⟨0, by decide⟩ : Fin k0_t1_loop.trips).val + 1 from rfl, state1_succ]
    obtain ⟨p, hp, hy⟩ := trip1_cover21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 ⟨0, by decide⟩ y h1 c1
    exact ⟨p, List.mem_append_right _ (List.mem_append_left _ hp), hy⟩
  · obtain ⟨p, hp, hy⟩ := trip1_cover21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 ⟨1, by decide⟩ y (by show 4096 * (i 0).val + 2048 * 1 ≤ _; omega) h2
    exact ⟨p, List.mem_append_left _ hp, hy⟩

include hw hX in
/-- What the first loop stores into the activations' array. -/
theorem state1_act (init : FVec Ideal S1x64 .f32 × FVec Ideal S1x64 .f32) : ∀ p ∈ (state1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init 2).2.2, ∀ x : p.1.shape.Idx,
    p.2 x = act A (p.1.emb x 0).val (p.1.emb x 1) := by
  rw [show (2 : ℕ) = (⟨1, by decide⟩ : Fin k0_t1_loop.trips).val + 1 from rfl, state1_succ]
  intro p hp
  rcases List.mem_append.mp hp with hp | hp
  · exact trip1_act 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX _ p hp
  · rw [show ((⟨1, by decide⟩ : Fin k0_t1_loop.trips).val : ℕ) = (⟨0, by decide⟩ : Fin k0_t1_loop.trips).val + 1 from rfl, state1_succ] at hp
    rcases List.mem_append.mp hp with hp | hp
    · exact trip1_act 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX _ p hp
    · exact absurd hp List.not_mem_nil

/-- The first loop's stores into the activations' array cover the point's 4096 rows. -/
theorem state1_cover_act (init : FVec Ideal S1x64 .f32 × FVec Ideal S1x64 .f32) (y : S16384x64.Idx) (h1 : 4096 * (i 0).val ≤ (y 0).val)
    (h2 : (y 0).val < 4096 * (i 0).val + 4096) : ∃ p ∈ (state1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init 2).2.2, y ∈ p.1.set := by
  rw [show (2 : ℕ) = (⟨1, by decide⟩ : Fin k0_t1_loop.trips).val + 1 from rfl, state1_succ]
  by_cases c1 : (y 0).val < 4096 * (i 0).val + 2048
  · rw [show ((⟨1, by decide⟩ : Fin k0_t1_loop.trips).val : ℕ) = (⟨0, by decide⟩ : Fin k0_t1_loop.trips).val + 1 from rfl, state1_succ]
    obtain ⟨p, hp, hy⟩ := trip1_cover221 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 ⟨0, by decide⟩ y h1 c1
    exact ⟨p, List.mem_append_right _ (List.mem_append_left _ hp), hy⟩
  · obtain ⟨p, hp, hy⟩ := trip1_cover221 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 ⟨1, by decide⟩ y (by show 4096 * (i 0).val + 2048 * 1 ≤ _; omega) h2
    exact ⟨p, List.mem_append_left _ hp, hy⟩

include hw hX in
/-- The first loop adds the point's tokens' activations to the carried sum. -/
theorem state1_sum (init : FVec Ideal S1x64 .f32 × FVec Ideal S1x64 .f32) (q : Fin 64) :
    (state1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init 2).1.1 (ix2 0 q)
      = init.1 (ix2 0 q) + ∑ n ∈ Finset.range 4096, act A (4096 * (i 0).val + n) q := by
  rw [show (2 : ℕ) = (⟨1, by decide⟩ : Fin k0_t1_loop.trips).val + 1 from rfl, state1_succ]
  refine (trip1_sum 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX ⟨1, by decide⟩ _ q).trans ?_
  rw [show ((⟨1, by decide⟩ : Fin k0_t1_loop.trips).val : ℕ) = (⟨0, by decide⟩ : Fin k0_t1_loop.trips).val + 1 from rfl, state1_succ]
  refine (congrArg (· + _) (trip1_sum 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX ⟨0, by decide⟩ _ q)).trans ?_
  rw [show (4096 : ℕ) = 2048 + 2048 from rfl, Finset.sum_range_add, ← add_assoc]
  refine congrArg₂ (· + ·) (congrArg (init.1 (ix2 0 q) + ·) ?_) ?_
  · exact Finset.sum_congr rfl fun n _ => rfl
  · exact Finset.sum_congr rfl fun n _ => by
      rw [show (2048 + 2048) * (i 0).val + 2048 * ((⟨0, by decide⟩ : Fin k0_t1_loop.trips).val + 1) + n = (2048 + 2048) * (i 0).val + (2048 + n) from by
        show (2048 + 2048) * (i 0).val + 2048 * (0 + 1) + n = _; omega]

include hw hX in
/-- The first loop adds the point's tokens' squared activations to the carried sum. -/
theorem state1_sq (init : FVec Ideal S1x64 .f32 × FVec Ideal S1x64 .f32) (q : Fin 64) :
    (state1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 init 2).1.2 (ix2 0 q)
      = init.2 (ix2 0 q) + ∑ n ∈ Finset.range 4096, act A (4096 * (i 0).val + n) q * act A (4096 * (i 0).val + n) q := by
  rw [show (2 : ℕ) = (⟨1, by decide⟩ : Fin k0_t1_loop.trips).val + 1 from rfl, state1_succ]
  refine (trip1_sq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX ⟨1, by decide⟩ _ q).trans ?_
  rw [show ((⟨1, by decide⟩ : Fin k0_t1_loop.trips).val : ℕ) = (⟨0, by decide⟩ : Fin k0_t1_loop.trips).val + 1 from rfl, state1_succ]
  refine (congrArg (· + _) (trip1_sq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg0 k0_h2 v9 v10 v12 v13 v15 X2 A hw hX ⟨0, by decide⟩ _ q)).trans ?_
  rw [show (4096 : ℕ) = 2048 + 2048 from rfl, Finset.sum_range_add, ← add_assoc]
  refine congrArg₂ (· + ·) (congrArg (init.2 (ix2 0 q) + ·) ?_) ?_
  · exact Finset.sum_congr rfl fun n _ => rfl
  · exact Finset.sum_congr rfl fun n _ => by
      rw [show (2048 + 2048) * (i 0).val + 2048 * ((⟨0, by decide⟩ : Fin k0_t1_loop.trips).val + 1) + n = (2048 + 2048) * (i 0).val + (2048 + n) from by
        show (2048 + 2048) * (i 0).val + 2048 * (0 + 1) + n = _; omega]

end First

end Cert.KernelIdeal.Hand

end
-- ==== Proof.KernelIdealReads.lean ====
/-
  What each window of the launch holds, as the functions of the arguments the value is stated over.
-/
module

public import proofs.«01_k».proof.Proof.KernelIdealRegion
public import proofs.«01_k».proof.Proof.Gen.KernelIdeal.Frame
public import proofs.«01_k».proof.Proof.Gen.KernelIdeal.Points
public import Idealize.ShloMosaic.Lib.Ring
public import Idealize.ShloMosaic.Lib.Pipeline.ValueKit
public import Idealize.ShloMosaic.Lib.Claim
public import proofs.«01_k».proof.Proof.ValueMath

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.ValueMath
open Idealize.ShloMosaic.Pipeline (Dat Cfg Window BodyObligation cellOf)
open Idealize.SL.BI.BIBase Idealize.SL.BI.Laws Idealize.SL.ProofMode Idealize.SL.Sem

variable (m : (ℓ : Loc nD τ sig) → Buf (Elt Ideal) ℓ)

/-- The arguments of a device, as functions of their coordinates. -/
def kargs (m : (ℓ : Loc nD τ sig) → Buf (Elt Ideal) ℓ) (c : Dev nD) : Args :=
  mkArgs (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The segment boundaries of a device. -/
def kcu (m : (ℓ : Loc nD τ sig) → Buf (Elt Ideal) ℓ) (c : Dev nD) (b : Fin 9) : BitVec 32 := m ((c : Thread nD τ).loc main_arg1) (ix1 b)

variable (c : Dev nD) (t : Fin cfg0.N)

/-- Every constant window's block index. -/
theorem idx : ∀ t : Fin cfg0.N, win0_0.index t = ![0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- The token window's block index. -/
theorem idx1 : ∀ t : Fin cfg0.N, win0_1.index t = ![min t.val 3, 0] :=
  (by decide +kernel : ∀ t : Fin grid0.N, _)

/-- The grid's coordinate. -/
theorem coord0 : ∀ t : Fin cfg0.N, ((grid0.coords t) 0).val = t.val :=
  (by decide +kernel : ∀ t : Fin grid0.N, _)

/-- A point of the first phase holds its 4096 tokens. -/
theorem read_flat (ht : t.val < 4) (r : Fin 4096) (d : Fin 4) :
    iblk (F := Ideal) m c 1 t (ix2 r d) = (kargs m c).flat (4096 * ((grid0.coords t) 0).val + r.val) d := by
  have h : 4096 * ((grid0.coords t) 0).val + r.val < 16384 := by rw [coord0]; have := r.isLt; omega
  have h0 := coord0 t
  have e : win0_1.index t = ![t.val, 0] := by rw [idx1 t, Nat.min_eq_left (by omega)]
  show _ = dite _ _ _
  rw [dif_pos h]
  blk_ext! [iblk, V, e, h0]

/-- The segment boundaries' window. -/
theorem read_cu (b : Fin 9) : iblk (F := Ideal) m c 0 t (ix1 b) = kcu m c b := by
  show _ = m _ _
  blk_ext! [iblk, V, idx t]

/-- Window 2 holds `W1`. -/
theorem read_W1 (d : Fin 4) (j : Fin 64) : iblk (F := Ideal) m c 2 t (ix2 d j) = (kargs m c).W1 d j := by
  show _ = m _ _
  blk_ext! [iblk, V, idx t]

/-- Window 3 holds `b1`. -/
theorem read_b1 (u : Fin 1) (j : Fin 64) : iblk (F := Ideal) m c 3 t (ix2 u j) = (kargs m c).b1 j := by
  have e : iblk (F := Ideal) m c 3 t (ix2 u j) = V m c main_call0_v2 (ix2 u j) := by
    blk_ext! [iblk, idx t]
  refine e.trans ?_
  show V m c main_call0_v2 (ix2 u j) = m ((c : Thread nD τ).loc main_arg3) (ix1 j)
  entry_read
  pointwise

/-- Window 4 holds `W2`. -/
theorem read_W2 (j : Fin 64) (k : Fin 64) : iblk (F := Ideal) m c 4 t (ix2 j k) = (kargs m c).W2 j k := by
  show _ = m _ _
  blk_ext! [iblk, V, idx t]

/-- Window 5 holds `b2`. -/
theorem read_b2 (u : Fin 1) (k : Fin 64) : iblk (F := Ideal) m c 5 t (ix2 u k) = (kargs m c).b2 k := by
  have e : iblk (F := Ideal) m c 5 t (ix2 u k) = V m c main_call0_v3 (ix2 u k) := by
    blk_ext! [iblk, idx t]
  refine e.trans ?_
  show V m c main_call0_v3 (ix2 u k) = m ((c : Thread nD τ).loc main_arg5) (ix1 k)
  entry_read
  pointwise

/-- Window 6 holds `cw`. -/
theorem read_cw (k : Fin 64) (q : Fin 64) : iblk (F := Ideal) m c 6 t (ix2 k q) = (kargs m c).cw k q := by
  show _ = m _ _
  blk_ext! [iblk, V, idx t]

/-- Window 7 holds `cw2`. -/
theorem read_cw2 (f : Fin 64) (q : Fin 64) : iblk (F := Ideal) m c 7 t (ix2 f q) = (kargs m c).cw2 f q := by
  have e : iblk (F := Ideal) m c 7 t (ix2 f q) = V m c main_call0_v1 (ix2 f q) := by
    blk_ext! [iblk, idx t]
  refine e.trans ?_
  show V m c main_call0_v1 (ix2 f q) = m ((c : Thread nD τ).loc main_arg7) (ix3 0 f q)
  entry_read
  pointwise

/-- Window 8 holds `g1`. -/
theorem read_g1 (u : Fin 1) (q : Fin 64) : iblk (F := Ideal) m c 8 t (ix2 u q) = (kargs m c).g1 q := by
  have e : iblk (F := Ideal) m c 8 t (ix2 u q) = V m c main_call0_v4 (ix2 u q) := by
    blk_ext! [iblk, idx t]
  refine e.trans ?_
  show V m c main_call0_v4 (ix2 u q) = m ((c : Thread nD τ).loc main_arg9) (ix1 q)
  entry_read
  pointwise

/-- Window 9 holds `be1`. -/
theorem read_be1 (u : Fin 1) (q : Fin 64) : iblk (F := Ideal) m c 9 t (ix2 u q) = (kargs m c).be1 q := by
  have e : iblk (F := Ideal) m c 9 t (ix2 u q) = V m c main_call0_v5 (ix2 u q) := by
    blk_ext! [iblk, idx t]
  refine e.trans ?_
  show V m c main_call0_v5 (ix2 u q) = m ((c : Thread nD τ).loc main_arg10) (ix1 q)
  entry_read
  pointwise

/-- Window 10 holds `g2`. -/
theorem read_g2 (u : Fin 1) (o : Fin 256) : iblk (F := Ideal) m c 10 t (ix2 u o) = (kargs m c).g2 o := by
  have e : iblk (F := Ideal) m c 10 t (ix2 u o) = V m c main_call0_v6 (ix2 u o) := by
    blk_ext! [iblk, idx t]
  refine e.trans ?_
  show V m c main_call0_v6 (ix2 u o) = m ((c : Thread nD τ).loc main_arg11) (ix1 o)
  entry_read
  pointwise

/-- Window 11 holds `be2`. -/
theorem read_be2 (u : Fin 1) (o : Fin 256) : iblk (F := Ideal) m c 11 t (ix2 u o) = (kargs m c).be2 o := by
  have e : iblk (F := Ideal) m c 11 t (ix2 u o) = V m c main_call0_v7 (ix2 u o) := by
    blk_ext! [iblk, idx t]
  refine e.trans ?_
  show V m c main_call0_v7 (ix2 u o) = m ((c : Thread nD τ).loc main_arg12) (ix1 o)
  entry_read
  pointwise

/-- Window 12 holds `gw`. -/
theorem read_gw (k : Fin 256) (o : Fin 256) : iblk (F := Ideal) m c 12 t (ix2 k o) = (kargs m c).gw k o := by
  show _ = m _ _
  blk_ext! [iblk, V, idx t]

/-- Window 13 holds `gg`. -/
theorem read_gg (u : Fin 1) (o : Fin 256) : iblk (F := Ideal) m c 13 t (ix2 u o) = (kargs m c).gg o := by
  have e : iblk (F := Ideal) m c 13 t (ix2 u o) = V m c main_call0_v8 (ix2 u o) := by
    blk_ext! [iblk, idx t]
  refine e.trans ?_
  show V m c main_call0_v8 (ix2 u o) = m ((c : Thread nD τ).loc main_arg14) (ix1 o)
  entry_read
  pointwise

/-- Window 14 holds `gb`. -/
theorem read_gb (u : Fin 1) (o : Fin 256) : iblk (F := Ideal) m c 14 t (ix2 u o) = (kargs m c).gb o := by
  have e : iblk (F := Ideal) m c 14 t (ix2 u o) = V m c main_call0_v9 (ix2 u o) := by
    blk_ext! [iblk, idx t]
  refine e.trans ?_
  show V m c main_call0_v9 (ix2 u o) = m ((c : Thread nD τ).loc main_arg15) (ix1 o)
  entry_read
  pointwise

end Cert.KernelIdeal.Hand

end
-- ==== Proof.KernelIdealPoint.lean ====
/-
  What the first phase keeps: after each point the token scratches hold the features and activations of the tokens so
  far, and the two sums hold the sums of their activations and of the squares.
-/
module

public import proofs.«01_k».proof.Proof.KernelIdealRegion
public import proofs.«01_k».proof.Proof.Gen.KernelIdeal.Frame
public import proofs.«01_k».proof.Proof.Gen.KernelIdeal.Points
public import Idealize.ShloMosaic.Lib.Ring
public import proofs.«01_k».proof.Proof.KernelIdealTile
public import proofs.«01_k».proof.Proof.KernelIdealReads
public import Idealize.ShloMosaic.Lib.VecWindow

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.ValueMath
open Idealize.ShloMosaic.Pipeline (Dat Cfg Window BodyObligation cellOf)
open Idealize.SL.BI.BIBase Idealize.SL.BI.Laws Idealize.SL.ProofMode Idealize.SL.Sem

/-- Stores that cover the next 4096 rows of a token scratch and agree with a function of the row extend the rows known. -/
theorem rows_step (G : ℕ → Fin 64 → EReal) {sp : Space} (v : View sig .tc sp S16384x64 .f32) (f : v.ty.Contents (Elt Ideal))
    (L : List (View.Piece (Elt Ideal) S16384x64 .f32)) (n : ℕ)
    (hL : ∀ p ∈ L, ∀ x : p.1.shape.Idx, p.2 x = G (p.1.emb x 0).val (p.1.emb x 1))
    (hC : ∀ y : S16384x64.Idx, 4096 * n ≤ (y 0).val → (y 0).val < 4096 * n + 4096 → ∃ p ∈ L, y ∈ p.1.set)
    (hf : ∀ y : S16384x64.Idx, (y 0).val < 4096 * n → v.read (Elt Ideal) f y = G (y 0).val (y 1)) (y : S16384x64.Idx)
    (hy : (y 0).val < 4096 * (n + 1)) : v.read (Elt Ideal) (v.writes (Elt Ideal) f L) y = G (y 0).val (y 1) := by
  by_cases h : ∃ p ∈ L, y ∈ p.1.set
  · exact View.read_writes_apply_of_pieces v f (fun y => G (y 0).val (y 1)) L hL y h
  · rw [View.read_writes_apply_of_forall_not_mem v f y L fun p hp hm => h ⟨p, hp, hm⟩]
    refine hf y ?_
    by_contra hc
    exact h (hC y (by omega) (by omega))

/-- A load of a whole block reads it. -/
theorem load_whole {S : Shape} {sp : Space} {e : EltTy} (v : View sig .tc sp S e) (f : v.ty.Contents (Elt Ideal)) {off : Fin S.rank → ℕ}
    (inb : ∀ a, off a + S.size a ≤ S.size a) {B} (h : v.read (Elt Ideal) f = B) :
    v.readAt (Elt Ideal) (Rect.unit off S.size inb).toLoadRect f = B := by
  rw [View.readAt_full, h]

/-- The sums over the next 4096 tokens. -/
theorem sum_step (g : ℕ → EReal) (n : ℕ) : ∑ k ∈ Finset.range (4096 * (n + 1)), g k
    = ∑ k ∈ Finset.range (4096 * n), g k + ∑ k ∈ Finset.range 4096, g (4096 * n + k) := by
  rw [Nat.mul_succ, Finset.sum_range_add]

/-- The sums begin at zero. -/
theorem pay3_apply (q : Fin 64) : k0_pay3 (F := Ideal) (ix2 0 q) = 0 := by pointwise [k0_pay3]
/-- The first point stores the loop's sum. -/
theorem pay8_apply (v : FVec Ideal S1x64 .f32) (q : Fin 64) : k0_pay8 v (ix2 0 q) = v (ix2 0 q) := by pointwise [k0_pay8]
/-- The first point stores the loop's sum of squares. -/
theorem pay9_apply (v : FVec Ideal S1x64 .f32) (q : Fin 64) : k0_pay9 v (ix2 0 q) = v (ix2 0 q) := by pointwise [k0_pay9]
/-- A later point adds the loop's sum to the one held. -/
theorem pay10_apply (v w : FVec Ideal S1x64 .f32) (q : Fin 64) : k0_pay10 v w (ix2 0 q) = w (ix2 0 q) + v (ix2 0 q) := by pointwise [k0_pay10]
/-- A later point adds the loop's sum of squares to the one held. -/
theorem pay11_apply (v w : FVec Ideal S1x64 .f32) (q : Fin 64) : k0_pay11 v w (ix2 0 q) = w (ix2 0 q) + v (ix2 0 q) := by pointwise [k0_pay11]

variable (m : (ℓ : Loc nD τ sig) → Buf (Elt Ideal) ℓ)

/-- What holds after `n` points of the first phase. -/
def Kept (c : Dev nD) (n : ℕ) (f18 : Buf (Elt Ideal) ((c : Thread nD τ).loc cc0_scratch0)) (f19 : Buf (Elt Ideal) ((c : Thread nD τ).loc cc0_scratch1))
    (f20 : Buf (Elt Ideal) ((c : Thread nD τ).loc cc0_scratch2)) (f21 : Buf (Elt Ideal) ((c : Thread nD τ).loc cc0_scratch3)) : Prop :=
  (∀ y : S16384x64.Idx, (y 0).val < 4096 * n → (Memref.whole cc0_scratch0).view.read (Elt Ideal) f18 y = feat (kargs m c) (y 0).val (y 1))
  ∧ (∀ y : S16384x64.Idx, (y 0).val < 4096 * n → (Memref.whole cc0_scratch1).view.read (Elt Ideal) f19 y = act (kargs m c) (y 0).val (y 1))
  ∧ (∀ q : Fin 64, (Memref.whole cc0_scratch2).view.read (Elt Ideal) f20 (ix2 0 q) = sum1 (kargs m c) (4096 * n) q)
  ∧ (∀ q : Fin 64, (Memref.whole cc0_scratch3).view.read (Elt Ideal) f21 (ix2 0 q) = sum2 (kargs m c) (4096 * n) q)

variable (c : Dev nD)

/-- The five weight blocks a point of the first phase loads. -/
theorem wts_of (t : Fin cfg0.N) (X3 : BufTy.Contents (Elt Ideal) (st0_2 t).view.ty) (X4 : BufTy.Contents (Elt Ideal) (st0_3 t).view.ty)
    (X5 : BufTy.Contents (Elt Ideal) (st0_4 t).view.ty) (X6 : BufTy.Contents (Elt Ideal) (st0_5 t).view.ty) (X7 : BufTy.Contents (Elt Ideal) (st0_6 t).view.ty)
    (h3 : (st0_2 t).view.read (Elt Ideal) X3 = iblk m c 2 t) (h4 : (st0_3 t).view.read (Elt Ideal) X4 = iblk m c 3 t)
    (h5 : (st0_4 t).view.read (Elt Ideal) X5 = iblk m c 4 t) (h6 : (st0_5 t).view.read (Elt Ideal) X6 = iblk m c 5 t)
    (h7 : (st0_6 t).view.read (Elt Ideal) X7 = iblk m c 6 t) :
    Wts (kargs m c) ((st0_2 t).view.readAt (Elt Ideal) (Rect.unit (s := S4x64) ![0, 0] ![4, 64] inb_S4x64_S4x64_0_0).toLoadRect X3)
      ((st0_3 t).view.readAt (Elt Ideal) (Rect.unit (s := S1x64) ![0, 0] ![1, 64] inb_S1x64_S1x64_0_0).toLoadRect X4)
      ((st0_4 t).view.readAt (Elt Ideal) (Rect.unit (s := S64x64) ![0, 0] ![64, 64] inb_S64x64_S64x64_0_0).toLoadRect X5)
      ((st0_5 t).view.readAt (Elt Ideal) (Rect.unit (s := S1x64) ![0, 0] ![1, 64] inb_S1x64_S1x64_0_0).toLoadRect X6)
      ((st0_6 t).view.readAt (Elt Ideal) (Rect.unit (s := S64x64) ![0, 0] ![64, 64] inb_S64x64_S64x64_0_0).toLoadRect X7) where
  hW1 d j := (congrFun (load_whole (st0_2 t).view X3 inb_S4x64_S4x64_0_0 h3) (ix2 d j)).trans (read_W1 m c t d j)
  hb1 j := (congrFun (load_whole (st0_3 t).view X4 inb_S1x64_S1x64_0_0 h4) (ix2 0 j)).trans (read_b1 m c t 0 j)
  hW2 j k := (congrFun (load_whole (st0_4 t).view X5 inb_S64x64_S64x64_0_0 h5) (ix2 j k)).trans (read_W2 m c t j k)
  hb2 k := (congrFun (load_whole (st0_5 t).view X6 inb_S1x64_S1x64_0_0 h6) (ix2 0 k)).trans (read_b2 m c t 0 k)
  hcw k q := (congrFun (load_whole (st0_6 t).view X7 inb_S64x64_S64x64_0_0 h7) (ix2 k q)).trans (read_cw m c t k q)

/-- The first loop makes two trips. -/
theorem trips1 : Scf.trips 0#32 (Scalar.addi 0#32 2#32) 1#32 = 2 := by decide

/-- The first point of the first phase keeps it. -/
theorem kept_first : ∀ (t : Fin cfg0.N) (ht : t.val = 0) (X2 : BufTy.Contents (Elt Ideal) (st0_1 t).view.ty) (X3 : BufTy.Contents (Elt Ideal) (st0_2 t).view.ty) (X4 : BufTy.Contents (Elt Ideal) (st0_3 t).view.ty) (X5 : BufTy.Contents (Elt Ideal) (st0_4 t).view.ty) (X6 : BufTy.Contents (Elt Ideal) (st0_5 t).view.ty) (X7 : BufTy.Contents (Elt Ideal) (st0_6 t).view.ty) (f18 : BufTy.Contents (Elt Ideal) (Memref.whole cc0_scratch0).view.ty) (f19 : BufTy.Contents (Elt Ideal) (Memref.whole cc0_scratch1).view.ty) (f20 : BufTy.Contents (Elt Ideal) (Memref.whole cc0_scratch2).view.ty) (f21 : BufTy.Contents (Elt Ideal) (Memref.whole cc0_scratch3).view.ty), (st0_1 t).view.read (Elt Ideal) X2 = iblk (F := Ideal) m c 1 t → (st0_2 t).view.read (Elt Ideal) X3 = iblk (F := Ideal) m c 2 t → (st0_3 t).view.read (Elt Ideal) X4 = iblk (F := Ideal) m c 3 t → (st0_4 t).view.read (Elt Ideal) X5 = iblk (F := Ideal) m c 4 t → (st0_5 t).view.read (Elt Ideal) X6 = iblk (F := Ideal) m c 5 t → (st0_6 t).view.read (Elt Ideal) X7 = iblk (F := Ideal) m c 6 t →
    Kept m c 1 ((Memref.whole cc0_scratch0).view.writes (Elt Ideal) f18 (at0 (F := Ideal) c t ht X2 X3 X4 X5 X6 X7 (V m c main_call0_v0)).1)
      ((Memref.whole cc0_scratch1).view.writes (Elt Ideal) f19 (at0 (F := Ideal) c t ht X2 X3 X4 X5 X6 X7 (V m c main_call0_v0)).2.1)
      ((Memref.whole cc0_scratch2).view.writes (Elt Ideal) f20 (at0 (F := Ideal) c t ht X2 X3 X4 X5 X6 X7 (V m c main_call0_v0)).2.2.1)
      ((Memref.whole cc0_scratch3).view.writes (Elt Ideal) f21 (at0 (F := Ideal) c t ht X2 X3 X4 X5 X6 X7 (V m c main_call0_v0)).2.2.2.1) := by
  intro t ht X2 X3 X4 X5 X6 X7 f18 f19 f20 f21 h2 h3 h4 h5 h6 h7
  have hw := wts_of m c t X3 X4 X5 X6 X7 h3 h4 h5 h6 h7
  have hX : ∀ (r : Fin 4096) (d : Fin 4), (st0_1 t).view.read (Elt Ideal) X2 (ix2 r d)
      = (kargs m c).flat (4096 * ((grid0.coords t) 0).val + r.val) d := fun r d =>
    (congrFun h2 (ix2 r d)).trans (read_flat m c t (by omega) r d)
  have hi : ((grid0.coords t) 0).val = t.val := coord0 t
  unfold Kept at0 runA0
  dsimp only
  rw [trips1]
  refine ⟨fun y hy => rows_step (feat (kargs m c)) _ _ _ 0 ?_ ?_ ?_ y hy, fun y hy => rows_step (act (kargs m c)) _ _ _ 0 ?_ ?_ ?_ y hy, fun q => ?_, fun q => ?_⟩
  · intro p hp x; apply state1_feat (hw := hw) (hX := hX); exact hp
  · intro y a b; exact state1_cover_feat (y := y) (h1 := by omega) (h2 := by omega) ..
  · intro y hy; omega
  · intro p hp x; apply state1_act (hw := hw) (hX := hX); exact hp
  · intro y a b; exact state1_cover_act (y := y) (h1 := by omega) (h2 := by omega) ..
  · intro y hy; omega
  · refine (congrFun (View.read_writes_full (View.whole cc0_scratch2) f20 inb_S1x64_S1x64_0_0 _ []) (ix2 0 q)).trans ?_
    refine (pay8_apply _ q).trans ?_
    refine (state1_sum (hw := hw) (hX := hX) (q := q) ..).trans ?_
    rw [hi, ht]
    unfold sum1
    simp only [Nat.mul_zero, Nat.zero_add, Nat.mul_one]
    exact (congrArg (· + _) (pay3_apply q)).trans (zero_add _)
  · refine (congrFun (View.read_writes_full (View.whole cc0_scratch3) f21 inb_S1x64_S1x64_0_0 _ []) (ix2 0 q)).trans ?_
    refine (pay9_apply _ q).trans ?_
    refine (state1_sq (hw := hw) (hX := hX) (q := q) ..).trans ?_
    rw [hi, ht]
    unfold sum2
    simp only [Nat.mul_zero, Nat.zero_add, Nat.mul_one]
    exact (congrArg (· + _) (pay3_apply q)).trans (zero_add _)

/-- A later point of the first phase keeps it. -/
theorem kept_later : ∀ (t : Fin cfg0.N) (ht : 0 < t.val ∧ t.val < 4) (X2 : BufTy.Contents (Elt Ideal) (st0_1 t).view.ty) (X3 : BufTy.Contents (Elt Ideal) (st0_2 t).view.ty) (X4 : BufTy.Contents (Elt Ideal) (st0_3 t).view.ty) (X5 : BufTy.Contents (Elt Ideal) (st0_4 t).view.ty) (X6 : BufTy.Contents (Elt Ideal) (st0_5 t).view.ty) (X7 : BufTy.Contents (Elt Ideal) (st0_6 t).view.ty) (f18 : BufTy.Contents (Elt Ideal) (Memref.whole cc0_scratch0).view.ty) (f19 : BufTy.Contents (Elt Ideal) (Memref.whole cc0_scratch1).view.ty) (f20 : BufTy.Contents (Elt Ideal) (Memref.whole cc0_scratch2).view.ty) (f21 : BufTy.Contents (Elt Ideal) (Memref.whole cc0_scratch3).view.ty), (st0_1 t).view.read (Elt Ideal) X2 = iblk (F := Ideal) m c 1 t → (st0_2 t).view.read (Elt Ideal) X3 = iblk (F := Ideal) m c 2 t → (st0_3 t).view.read (Elt Ideal) X4 = iblk (F := Ideal) m c 3 t → (st0_4 t).view.read (Elt Ideal) X5 = iblk (F := Ideal) m c 4 t → (st0_5 t).view.read (Elt Ideal) X6 = iblk (F := Ideal) m c 5 t → (st0_6 t).view.read (Elt Ideal) X7 = iblk (F := Ideal) m c 6 t → Kept m c t.val f18 f19 f20 f21 →
    Kept m c (t.val + 1) ((Memref.whole cc0_scratch0).view.writes (Elt Ideal) f18 (at1 (F := Ideal) c t ht X2 X3 X4 X5 X6 X7 f20 f21).1)
      ((Memref.whole cc0_scratch1).view.writes (Elt Ideal) f19 (at1 (F := Ideal) c t ht X2 X3 X4 X5 X6 X7 f20 f21).2.1)
      ((Memref.whole cc0_scratch2).view.writes (Elt Ideal) f20 (at1 (F := Ideal) c t ht X2 X3 X4 X5 X6 X7 f20 f21).2.2.1)
      ((Memref.whole cc0_scratch3).view.writes (Elt Ideal) f21 (at1 (F := Ideal) c t ht X2 X3 X4 X5 X6 X7 f20 f21).2.2.2.1) := by
  intro t ht X2 X3 X4 X5 X6 X7 f18 f19 f20 f21 h2 h3 h4 h5 h6 h7 hP
  have hw := wts_of m c t X3 X4 X5 X6 X7 h3 h4 h5 h6 h7
  have hX : ∀ (r : Fin 4096) (d : Fin 4), (st0_1 t).view.read (Elt Ideal) X2 (ix2 r d)
      = (kargs m c).flat (4096 * ((grid0.coords t) 0).val + r.val) d := fun r d =>
    (congrFun h2 (ix2 r d)).trans (read_flat m c t (by omega) r d)
  have hi : ((grid0.coords t) 0).val = t.val := coord0 t
  unfold Kept at1 runA1
  dsimp only
  rw [trips1]
  refine ⟨fun y hy => rows_step (feat (kargs m c)) _ _ _ t.val ?_ ?_ ?_ y hy, fun y hy => rows_step (act (kargs m c)) _ _ _ t.val ?_ ?_ ?_ y hy, fun q => ?_, fun q => ?_⟩
  · intro p hp x; apply state1_feat (hw := hw) (hX := hX); exact hp
  · intro y a b; exact state1_cover_feat (y := y) (h1 := by omega) (h2 := by omega) ..
  · exact hP.1
  · intro p hp x; apply state1_act (hw := hw) (hX := hX); exact hp
  · intro y a b; exact state1_cover_act (y := y) (h1 := by omega) (h2 := by omega) ..
  · exact hP.2.1
  · refine (congrFun (View.read_writes_full (View.whole cc0_scratch2) f20 inb_S1x64_S1x64_0_0 _ []) (ix2 0 q)).trans ?_
    refine (pay10_apply _ _ q).trans ?_
    refine (congrArg₂ (fun a b : EReal => a + b) (congrFun (load_whole (Memref.whole cc0_scratch2).view f20 inb_S1x64_S1x64_0_0 rfl) (ix2 0 q)) (state1_sum (hw := hw) (hX := hX) (q := q) ..)).trans ?_
    rw [hi, hP.2.2.1 q]
    unfold sum1
    rw [sum_step]
    exact congrArg (_ + ·) ((congrArg (· + _) (pay3_apply q)).trans (zero_add _))
  · refine (congrFun (View.read_writes_full (View.whole cc0_scratch3) f21 inb_S1x64_S1x64_0_0 _ []) (ix2 0 q)).trans ?_
    refine (pay11_apply _ _ q).trans ?_
    refine (congrArg₂ (fun a b : EReal => a + b) (congrFun (load_whole (Memref.whole cc0_scratch3).view f21 inb_S1x64_S1x64_0_0 rfl) (ix2 0 q)) (state1_sq (hw := hw) (hX := hX) (q := q) ..)).trans ?_
    rw [hi, hP.2.2.2 q]
    unfold sum2
    rw [sum_step]
    exact congrArg (_ + ·) ((congrArg (· + _) (pay3_apply q)).trans (zero_add _))

end Cert.KernelIdeal.Hand

end
-- ==== Proof.KernelIdealGather.lean ====
/-
  What the second loop stores: each tile's features summed under its tokens' soft assignments, and the assignments summed.
-/
module

public import proofs.«01_k».proof.Proof.KernelIdealRegion
public import proofs.«01_k».proof.Proof.Gen.KernelIdeal.Frame
public import proofs.«01_k».proof.Proof.Gen.KernelIdeal.Points
public import Idealize.ShloMosaic.Lib.Ring
public import proofs.«01_k».proof.Proof.KernelIdealTile

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.ValueMath
open Idealize.ShloMosaic.Pipeline (Dat Cfg Window BodyObligation cellOf)
open Idealize.SL.BI.BIBase Idealize.SL.BI.Laws Idealize.SL.ProofMode Idealize.SL.Sem

/-- The blocks the second phase normalizes with are the two sums, the scale and the shift. -/
structure Nrm (A : Args) (w9 w12 w20 w22 : Vec Ideal S1x64 .f32) : Prop where
  /-- the activations' sum -/
  hs : ∀ q, w9 (ix2 0 q) = sum1 A 16384 q
  /-- the squared activations' sum -/
  hq : ∀ q, w12 (ix2 0 q) = sum2 A 16384 q
  /-- the scale -/
  hg : ∀ q, w20 (ix2 0 q) = A.g1 q
  /-- the shift -/
  hb : ∀ q, w22 (ix2 0 q) = A.be1 q

section Slab
variable {A : Args} {w9 w12 w20 w22 : Vec Ideal S1x64 .f32} (hN : Nrm A w9 w12 w20 w22)
include hN

/-- The scale applied to the activations. -/
theorem scale_apply (q : Fin 64) : k0_pay60 w9 w12 w20 (ix2 0 q) = scaleK A q := by
  pointwise [k0_pay60, k0_pay59]
  simp only [hN.hs, hN.hq, hN.hg]
  rfl

/-- The shift applied to the activations. -/
theorem bias_apply (q : Fin 64) : k0_pay61 w9 w12 w20 w22 (ix2 0 q) = biasK A q := by
  have e := scale_apply hN q
  pointwise [k0_pay61, k0_pay59]
  rw [e, hN.hs, hN.hb]
  rfl

/-- A tile's features summed under its assignments. -/
theorem slab_v {X Y : Vec Ideal S512x64 .f32} (n : ℕ) (hX : ∀ r f, X (ix2 r f) = feat A (n + r.val) f) (hY : ∀ r q, Y (ix2 r q) = act A (n + r.val) q)
    (f q : Fin 64) : k0_pay35 (k0_pay60 w9 w12 w20) (k0_pay61 w9 w12 w20 w22) X Y (ix3 0 f q) = ∑ r : Fin 512, feat A (n + r.val) f * assignK A (n + r.val) q := by
  have e1 := scale_apply hN
  have e2 := bias_apply hN
  generalize k0_pay60 w9 w12 w20 = s at e1 ⊢
  generalize k0_pay61 w9 w12 w20 w22 = b at e2 ⊢
  pointwise [k0_pay35, k0_pay34]
  simp only [hX, hY, e1, e2]
  rfl

/-- A tile's assignments summed. -/
theorem slab_s {Y : Vec Ideal S512x64 .f32} (n : ℕ) (hY : ∀ r q, Y (ix2 r q) = act A (n + r.val) q)
    (q : Fin 64) : k0_pay36 (k0_pay60 w9 w12 w20) (k0_pay61 w9 w12 w20 w22) Y (ix2 0 q) = ∑ r : Fin 512, assignK A (n + r.val) q := by
  have e1 := scale_apply hN
  have e2 := bias_apply hN
  generalize k0_pay60 w9 w12 w20 = s at e1 ⊢
  generalize k0_pay61 w9 w12 w20 w22 = b at e2 ⊢
  pointwise [k0_pay36, k0_pay34]
  simp only [hY, e1, e2]
  rfl

end Slab

/-- A stored slab that agrees with a function of its place agrees with it wherever the store puts it. -/
theorem piece_slab (G : ℕ → Fin 64 → Fin 64 → EReal) (off : Fin 3 → ℕ) (h) (o : ℕ) (ho : off = ![o, 0, 0])
    (w : Vec Ideal S1x64x64 .f32) (hwv : ∀ (f q : Fin 64), w (ix3 0 f q) = G o f q)
    (x : (Rect.unit (s := S32x64x64) off ![1, 64, 64] h).shape.Idx) :
    w x = G ((Rect.unit (s := S32x64x64) off ![1, 64, 64] h).emb x 0).val ((Rect.unit (s := S32x64x64) off ![1, 64, 64] h).emb x 1)
      ((Rect.unit (s := S32x64x64) off ![1, 64, 64] h).emb x 2) := by
  obtain ⟨r, f, q, rfl⟩ : ∃ (r : Fin 1) (f q : Fin 64), x = ix3 r f q := ⟨x 0, x 1, x 2, eq_ix3 x⟩
  obtain rfl : r = 0 := Subsingleton.elim _ _
  subst ho
  refine (hwv f q).trans ?_
  have e1 : ((Rect.unit (s := S32x64x64) ![o, 0, 0] ![1, 64, 64] h).emb (ix3 0 f q) 1) = f := Fin.ext ((Nat.zero_add _).trans (Nat.one_mul _))
  have e2 : ((Rect.unit (s := S32x64x64) ![o, 0, 0] ![1, 64, 64] h).emb (ix3 0 f q) 2) = q := Fin.ext ((Nat.zero_add _).trans (Nat.one_mul _))
  have e0 : ((Rect.unit (s := S32x64x64) ![o, 0, 0] ![1, 64, 64] h).emb (ix3 0 f q) 0).val = o := Nat.add_zero _
  rw [e1, e2, e0]

/-- A stored row that agrees with a function of its place agrees with it wherever the store puts it. -/
theorem piece_row (G : ℕ → Fin 64 → EReal) (off : Fin 2 → ℕ) (h) (o : ℕ) (ho : off = ![o, 0])
    (w : Vec Ideal S1x64 .f32) (hwv : ∀ (q : Fin 64), w (ix2 0 q) = G o q)
    (x : (Rect.unit (s := S32x64) off ![1, 64] h).shape.Idx) :
    w x = G ((Rect.unit (s := S32x64) off ![1, 64] h).emb x 0).val ((Rect.unit (s := S32x64) off ![1, 64] h).emb x 1) := by
  obtain ⟨r, q, rfl⟩ : ∃ (r : Fin 1) (q : Fin 64), x = ix2 r q := ⟨x 0, x 1, eq_ix2 x⟩
  obtain rfl : r = 0 := Subsingleton.elim _ _
  subst ho
  refine (hwv q).trans ?_
  have e1 : ((Rect.unit (s := S32x64) ![o, 0] ![1, 64] h).emb (ix2 0 q) 1) = q := Fin.ext ((Nat.zero_add _).trans (Nat.one_mul _))
  have e0 : ((Rect.unit (s := S32x64) ![o, 0] ![1, 64] h).emb (ix2 0 q) 0).val = o := Nat.add_zero _
  rw [e1, e0]

variable (𝒱 : Variants) (c : Dev nD) (bd : Option 𝒱.V)
  (i : grid0.Coords) (arg1 : Memref sig .tc .smem S9 .i32) (harg1 : arg1.IsWhole) (arg2 : Memref sig .tc .vmem S4096x4 .f32) (harg2 : arg2.IsWhole) (arg3 : Memref sig .tc .vmem S4x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S64x64 .f32) (harg8 : arg8.IsWhole) (arg9 : Memref sig .tc .hbm S64x64x256 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S8x256 .f32) (harg17 : arg17.IsWhole) (arg18 : Memref sig .tc .vmem S16384x64 .f32) (harg18 : arg18.IsWhole) (arg19 : Memref sig .tc .vmem S16384x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S64x64x256 .f32) (harg22 : arg22.IsWhole) (arg23 : DmaSems sig S_) (arg24 : Memref sig .tc .vmem S32x64x64 .f32) (harg24 : arg24.IsWhole) (arg25 : Memref sig .tc .vmem S32x64 .f32) (harg25 : arg25.IsWhole)

section Second
variable (k0_h5 : k0_cond5 i = 1#1) (w9 : Vec Ideal S1x64 .f32) (w12 : Vec Ideal S1x64 .f32) (w20 : Vec Ideal S1x64 .f32) (w22 : Vec Ideal S1x64 .f32)
  (X18 : BufTy.Contents (Elt Ideal) arg18.view.ty) (X19 : BufTy.Contents (Elt Ideal) arg19.view.ty)
  (A : Args) (hN : Nrm A w9 w12 w20 w22)
  (h18 : ∀ y : S16384x64.Idx, arg18.view.read (Elt Ideal) X18 y = feat A (y 0).val (y 1))
  (h19 : ∀ y : S16384x64.Idx, arg19.view.read (Elt Ideal) X19 y = act A (y 0).val (y 1))

include h18 in
/-- The features a tile of the second loop loads. -/
theorem load_feat (t : ℕ) (off : Fin 2 → ℕ) (h) (ho : off = ![t * 512, 0]) (ht : t < 32) (r : Fin 512) (f : Fin 64) :
    arg18.view.readAt (Elt Ideal) (Rect.unit (s := S16384x64) off ![512, 64] h).toLoadRect X18 (ix2 r f) = feat A (t * 512 + r.val) f :=
  (readAt_rows arg18.view X18 off h _ ho r f (by have := r.isLt; omega)).trans (h18 _)

include h19 in
/-- The activations a tile of the second loop loads. -/
theorem load_act (t : ℕ) (off : Fin 2 → ℕ) (h) (ho : off = ![t * 512, 0]) (ht : t < 32) (r : Fin 512) (f : Fin 64) :
    arg19.view.readAt (Elt Ideal) (Rect.unit (s := S16384x64) off ![512, 64] h).toLoadRect X19 (ix2 r f) = act A (t * 512 + r.val) f :=
  (readAt_rows arg19.view X19 off h _ ho r f (by have := r.isLt; omega)).trans (h19 _)

/-- The rows a tile of the second loop loads begin at its place. -/
theorem off5 (k : Fin k0_t2_loop.trips) (r : Fin 8) : k0_off5 k (BitVec.ofNat 32 r.val) = ![(8 * k.val + r.val) * 512, 0] := by
  rw [k0_off5_eq]
  exact congrArg (fun a : ℕ => (![a, 0] : Fin 2 → ℕ)) (by omega)

include hN h18 h19 in
/-- What a trip stores into the array of tile products. -/
theorem trip2_v (k : Fin k0_t2_loop.trips) : ∀ p ∈ (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).1, ∀ x : p.1.shape.Idx,
    p.2 x = tileV A (p.1.emb x 0).val (p.1.emb x 1) (p.1.emb x 2) := by
  have hk : k.val < 4 := Nat.lt_of_lt_of_le k.isLt k0_t2_abs.2.1
  unfold trip2; dsimp only
  intro p hp
  simp only [List.mem_cons, List.not_mem_nil, or_false] at hp
  rcases hp with rfl | rfl | rfl | rfl | rfl | rfl | rfl | rfl
  · exact piece_slab (tileV A) _ (k0_off6_inb i k k0_h5 7) _ (k0_off6_eq k 7) _ fun f q =>
      slab_v hN _ (load_feat (h18 := h18) (t := 8 * k.val + 7) (h := k0_off5_inb i k k0_h5 7) (ho := off5 k 7) (ht := by omega))
        (load_act (h19 := h19) (t := 8 * k.val + 7) (h := k0_off5_inb i k k0_h5 7) (ho := off5 k 7) (ht := by omega)) f q
  · exact piece_slab (tileV A) _ (k0_off6_inb i k k0_h5 6) _ (k0_off6_eq k 6) _ fun f q =>
      slab_v hN _ (load_feat (h18 := h18) (t := 8 * k.val + 6) (h := k0_off5_inb i k k0_h5 6) (ho := off5 k 6) (ht := by omega))
        (load_act (h19 := h19) (t := 8 * k.val + 6) (h := k0_off5_inb i k k0_h5 6) (ho := off5 k 6) (ht := by omega)) f q
  · exact piece_slab (tileV A) _ (k0_off6_inb i k k0_h5 5) _ (k0_off6_eq k 5) _ fun f q =>
      slab_v hN _ (load_feat (h18 := h18) (t := 8 * k.val + 5) (h := k0_off5_inb i k k0_h5 5) (ho := off5 k 5) (ht := by omega))
        (load_act (h19 := h19) (t := 8 * k.val + 5) (h := k0_off5_inb i k k0_h5 5) (ho := off5 k 5) (ht := by omega)) f q
  · exact piece_slab (tileV A) _ (k0_off6_inb i k k0_h5 4) _ (k0_off6_eq k 4) _ fun f q =>
      slab_v hN _ (load_feat (h18 := h18) (t := 8 * k.val + 4) (h := k0_off5_inb i k k0_h5 4) (ho := off5 k 4) (ht := by omega))
        (load_act (h19 := h19) (t := 8 * k.val + 4) (h := k0_off5_inb i k k0_h5 4) (ho := off5 k 4) (ht := by omega)) f q
  · exact piece_slab (tileV A) _ (k0_off6_inb i k k0_h5 3) _ (k0_off6_eq k 3) _ fun f q =>
      slab_v hN _ (load_feat (h18 := h18) (t := 8 * k.val + 3) (h := k0_off5_inb i k k0_h5 3) (ho := off5 k 3) (ht := by omega))
        (load_act (h19 := h19) (t := 8 * k.val + 3) (h := k0_off5_inb i k k0_h5 3) (ho := off5 k 3) (ht := by omega)) f q
  · exact piece_slab (tileV A) _ (k0_off6_inb i k k0_h5 2) _ (k0_off6_eq k 2) _ fun f q =>
      slab_v hN _ (load_feat (h18 := h18) (t := 8 * k.val + 2) (h := k0_off5_inb i k k0_h5 2) (ho := off5 k 2) (ht := by omega))
        (load_act (h19 := h19) (t := 8 * k.val + 2) (h := k0_off5_inb i k k0_h5 2) (ho := off5 k 2) (ht := by omega)) f q
  · exact piece_slab (tileV A) _ (k0_off6_inb i k k0_h5 1) _ (k0_off6_eq k 1) _ fun f q =>
      slab_v hN _ (load_feat (h18 := h18) (t := 8 * k.val + 1) (h := k0_off5_inb i k k0_h5 1) (ho := off5 k 1) (ht := by omega))
        (load_act (h19 := h19) (t := 8 * k.val + 1) (h := k0_off5_inb i k k0_h5 1) (ho := off5 k 1) (ht := by omega)) f q
  · exact piece_slab (tileV A) _ (k0_off6_inb i k k0_h5 0) _ (k0_off6_eq k 0) _ fun f q =>
      slab_v hN _ (load_feat (h18 := h18) (t := 8 * k.val + 0) (h := k0_off5_inb i k k0_h5 0) (ho := off5 k 0) (ht := by omega))
        (load_act (h19 := h19) (t := 8 * k.val + 0) (h := k0_off5_inb i k k0_h5 0) (ho := off5 k 0) (ht := by omega)) f q

/-- A trip's stores into the array of tile products cover its eight tiles. -/
theorem trip2_cover_v (k : Fin k0_t2_loop.trips) (y : S32x64x64.Idx) (h1 : 8 * k.val ≤ (y 0).val) (h2 : (y 0).val < 8 * k.val + 8) :
    ∃ p ∈ (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).1, y ∈ p.1.set := by
  unfold trip2; dsimp only
  have hy1 : (y 1).val < 64 := (y 1).isLt
  have hy2 : (y 2).val < 64 := (y 2).isLt
  have key : ∀ (off : Fin 3 → ℕ) (h) (o : ℕ), off = ![o, 0, 0] → (y 0).val = o →
      y ∈ (Rect.unit (s := S32x64x64) off ![1, 64, 64] h).set := by
    intro off h o ho g1
    subst ho
    refine Rect.mem_set_unit.mpr fun a => ?_
    match a with
    | ⟨0, _⟩ => exact ⟨g1.ge, by show (y 0).val < o + 1; omega⟩
    | ⟨1, _⟩ => exact ⟨Nat.zero_le _, by show (y 1).val < 0 + 64; omega⟩
    | ⟨2, _⟩ => exact ⟨Nat.zero_le _, by show (y 2).val < 0 + 64; omega⟩
  by_cases c0 : (y 0).val = 8 * k.val + 0
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key _ (k0_off6_inb i k k0_h5 0) _ (k0_off6_eq k 0) c0⟩
  by_cases c1 : (y 0).val = 8 * k.val + 1
  · exact ⟨_, (List.mem_cons_of_mem _ (List.mem_cons_of_mem _ (List.mem_cons_of_mem _ (List.mem_cons_of_mem _ (List.mem_cons_of_mem _ (List.mem_cons_of_mem _ List.mem_cons_self)))))), key _ (k0_off6_inb i k k0_h5 1) _ (k0_off6_eq k 1) c1⟩
  by_cases c2 : (y 0).val = 8 * k.val + 2
  · exact ⟨_, (List.mem_cons_of_mem _ (List.mem_cons_of_mem _ (List.mem_cons_of_mem _ (List.mem_cons_of_mem _ (List.mem_cons_of_mem _ List.mem_cons_self))))), key _ (k0_off6_inb i k k0_h5 2) _ (k0_off6_eq k 2) c2⟩
  by_cases c3 : (y 0).val = 8 * k.val + 3
  · exact ⟨_, (List.mem_cons_of_mem _ (List.mem_cons_of_mem _ (List.mem_cons_of_mem _ (List.mem_cons_of_mem _ List.mem_cons_self)))), key _ (k0_off6_inb i k k0_h5 3) _ (k0_off6_eq k 3) c3⟩
  by_cases c4 : (y 0).val = 8 * k.val + 4
  · exact ⟨_, (List.mem_cons_of_mem _ (List.mem_cons_of_mem _ (List.mem_cons_of_mem _ List.mem_cons_self))), key _ (k0_off6_inb i k k0_h5 4) _ (k0_off6_eq k 4) c4⟩
  by_cases c5 : (y 0).val = 8 * k.val + 5
  · exact ⟨_, (List.mem_cons_of_mem _ (List.mem_cons_of_mem _ List.mem_cons_self)), key _ (k0_off6_inb i k k0_h5 5) _ (k0_off6_eq k 5) c5⟩
  by_cases c6 : (y 0).val = 8 * k.val + 6
  · exact ⟨_, (List.mem_cons_of_mem _ List.mem_cons_self), key _ (k0_off6_inb i k k0_h5 6) _ (k0_off6_eq k 6) c6⟩
  · exact ⟨_, List.mem_cons_self, key _ (k0_off6_inb i k k0_h5 7) _ (k0_off6_eq k 7) (by show _ = 8 * k.val + 7; omega)⟩

include hN h18 h19 in
/-- What the second loop stores into the array of tile products. -/
theorem state2_v (n : ℕ) (hn : n ≤ 4) : ∀ p ∈ (state2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 n).1, ∀ x : p.1.shape.Idx,
    p.2 x = tileV A (p.1.emb x 0).val (p.1.emb x 1) (p.1.emb x 2) := by
  induction n with
  | zero => intro p hp; exact absurd hp List.not_mem_nil
  | succ n ih =>
    have hlt : n < k0_t2_loop.trips := hn
    rw [show n + 1 = (⟨n, hlt⟩ : Fin k0_t2_loop.trips).val + 1 from rfl, state2_succ]
    intro p hp
    rcases List.mem_append.mp hp with hp | hp
    · exact trip2_v 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 A hN h18 h19 _ p hp
    · exact ih (by omega) p hp

/-- The second loop's stores into the array of tile products cover the tiles so far. -/
theorem state2_cover_v (n : ℕ) (hn : n ≤ 4) (y : S32x64x64.Idx) (h2 : (y 0).val < 8 * n) :
    ∃ p ∈ (state2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 n).1, y ∈ p.1.set := by
  induction n with
  | zero => omega
  | succ n ih =>
    have hlt : n < k0_t2_loop.trips := hn
    rw [show n + 1 = (⟨n, hlt⟩ : Fin k0_t2_loop.trips).val + 1 from rfl, state2_succ]
    by_cases c1 : (y 0).val < 8 * n
    · obtain ⟨p, hp, hy⟩ := ih (by omega) c1
      exact ⟨p, List.mem_append_right _ hp, hy⟩
    · obtain ⟨p, hp, hy⟩ := trip2_cover_v 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 ⟨n, hlt⟩ y (by show 8 * n ≤ _; omega) (by show _ < 8 * n + 8; omega)
      exact ⟨p, List.mem_append_left _ hp, hy⟩

include hN h19 in
/-- What a trip stores into the array of tile sums. -/
theorem trip2_s (k : Fin k0_t2_loop.trips) : ∀ p ∈ (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).2.1, ∀ x : p.1.shape.Idx,
    p.2 x = tileS A (p.1.emb x 0).val (p.1.emb x 1) := by
  have hk : k.val < 4 := Nat.lt_of_lt_of_le k.isLt k0_t2_abs.2.1
  unfold trip2; dsimp only
  intro p hp
  simp only [List.mem_cons, List.not_mem_nil, or_false] at hp
  rcases hp with rfl | rfl | rfl | rfl | rfl | rfl | rfl | rfl
  · exact piece_row (tileS A) _ (k0_off7_inb i k k0_h5 7) _ (k0_off7_eq k 7) _ fun q =>
      slab_s hN _ (load_act (h19 := h19) (t := 8 * k.val + 7) (h := k0_off5_inb i k k0_h5 7) (ho := off5 k 7) (ht := by omega)) q
  · exact piece_row (tileS A) _ (k0_off7_inb i k k0_h5 6) _ (k0_off7_eq k 6) _ fun q =>
      slab_s hN _ (load_act (h19 := h19) (t := 8 * k.val + 6) (h := k0_off5_inb i k k0_h5 6) (ho := off5 k 6) (ht := by omega)) q
  · exact piece_row (tileS A) _ (k0_off7_inb i k k0_h5 5) _ (k0_off7_eq k 5) _ fun q =>
      slab_s hN _ (load_act (h19 := h19) (t := 8 * k.val + 5) (h := k0_off5_inb i k k0_h5 5) (ho := off5 k 5) (ht := by omega)) q
  · exact piece_row (tileS A) _ (k0_off7_inb i k k0_h5 4) _ (k0_off7_eq k 4) _ fun q =>
      slab_s hN _ (load_act (h19 := h19) (t := 8 * k.val + 4) (h := k0_off5_inb i k k0_h5 4) (ho := off5 k 4) (ht := by omega)) q
  · exact piece_row (tileS A) _ (k0_off7_inb i k k0_h5 3) _ (k0_off7_eq k 3) _ fun q =>
      slab_s hN _ (load_act (h19 := h19) (t := 8 * k.val + 3) (h := k0_off5_inb i k k0_h5 3) (ho := off5 k 3) (ht := by omega)) q
  · exact piece_row (tileS A) _ (k0_off7_inb i k k0_h5 2) _ (k0_off7_eq k 2) _ fun q =>
      slab_s hN _ (load_act (h19 := h19) (t := 8 * k.val + 2) (h := k0_off5_inb i k k0_h5 2) (ho := off5 k 2) (ht := by omega)) q
  · exact piece_row (tileS A) _ (k0_off7_inb i k k0_h5 1) _ (k0_off7_eq k 1) _ fun q =>
      slab_s hN _ (load_act (h19 := h19) (t := 8 * k.val + 1) (h := k0_off5_inb i k k0_h5 1) (ho := off5 k 1) (ht := by omega)) q
  · exact piece_row (tileS A) _ (k0_off7_inb i k k0_h5 0) _ (k0_off7_eq k 0) _ fun q =>
      slab_s hN _ (load_act (h19 := h19) (t := 8 * k.val + 0) (h := k0_off5_inb i k k0_h5 0) (ho := off5 k 0) (ht := by omega)) q

/-- A trip's stores into the array of tile sums cover its eight tiles. -/
theorem trip2_cover_s (k : Fin k0_t2_loop.trips) (y : S32x64.Idx) (h1 : 8 * k.val ≤ (y 0).val) (h2 : (y 0).val < 8 * k.val + 8) :
    ∃ p ∈ (trip2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 k).2.1, y ∈ p.1.set := by
  unfold trip2; dsimp only
  have hy1 : (y 1).val < 64 := (y 1).isLt

  have key : ∀ (off : Fin 2 → ℕ) (h) (o : ℕ), off = ![o, 0] → (y 0).val = o →
      y ∈ (Rect.unit (s := S32x64) off ![1, 64] h).set := by
    intro off h o ho g1
    subst ho
    refine Rect.mem_set_unit.mpr fun a => ?_
    match a with
    | ⟨0, _⟩ => exact ⟨g1.ge, by show (y 0).val < o + 1; omega⟩
    | ⟨1, _⟩ => exact ⟨Nat.zero_le _, by show (y 1).val < 0 + 64; omega⟩

  by_cases c0 : (y 0).val = 8 * k.val + 0
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key _ (k0_off7_inb i k k0_h5 0) _ (k0_off7_eq k 0) c0⟩
  by_cases c1 : (y 0).val = 8 * k.val + 1
  · exact ⟨_, (List.mem_cons_of_mem _ (List.mem_cons_of_mem _ (List.mem_cons_of_mem _ (List.mem_cons_of_mem _ (List.mem_cons_of_mem _ (List.mem_cons_of_mem _ List.mem_cons_self)))))), key _ (k0_off7_inb i k k0_h5 1) _ (k0_off7_eq k 1) c1⟩
  by_cases c2 : (y 0).val = 8 * k.val + 2
  · exact ⟨_, (List.mem_cons_of_mem _ (List.mem_cons_of_mem _ (List.mem_cons_of_mem _ (List.mem_cons_of_mem _ (List.mem_cons_of_mem _ List.mem_cons_self))))), key _ (k0_off7_inb i k k0_h5 2) _ (k0_off7_eq k 2) c2⟩
  by_cases c3 : (y 0).val = 8 * k.val + 3
  · exact ⟨_, (List.mem_cons_of_mem _ (List.mem_cons_of_mem _ (List.mem_cons_of_mem _ (List.mem_cons_of_mem _ List.mem_cons_self)))), key _ (k0_off7_inb i k k0_h5 3) _ (k0_off7_eq k 3) c3⟩
  by_cases c4 : (y 0).val = 8 * k.val + 4
  · exact ⟨_, (List.mem_cons_of_mem _ (List.mem_cons_of_mem _ (List.mem_cons_of_mem _ List.mem_cons_self))), key _ (k0_off7_inb i k k0_h5 4) _ (k0_off7_eq k 4) c4⟩
  by_cases c5 : (y 0).val = 8 * k.val + 5
  · exact ⟨_, (List.mem_cons_of_mem _ (List.mem_cons_of_mem _ List.mem_cons_self)), key _ (k0_off7_inb i k k0_h5 5) _ (k0_off7_eq k 5) c5⟩
  by_cases c6 : (y 0).val = 8 * k.val + 6
  · exact ⟨_, (List.mem_cons_of_mem _ List.mem_cons_self), key _ (k0_off7_inb i k k0_h5 6) _ (k0_off7_eq k 6) c6⟩
  · exact ⟨_, List.mem_cons_self, key _ (k0_off7_inb i k k0_h5 7) _ (k0_off7_eq k 7) (by show _ = 8 * k.val + 7; omega)⟩

include hN h19 in
/-- What the second loop stores into the array of tile sums. -/
theorem state2_s (n : ℕ) (hn : n ≤ 4) : ∀ p ∈ (state2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 n).2, ∀ x : p.1.shape.Idx,
    p.2 x = tileS A (p.1.emb x 0).val (p.1.emb x 1) := by
  induction n with
  | zero => intro p hp; exact absurd hp List.not_mem_nil
  | succ n ih =>
    have hlt : n < k0_t2_loop.trips := hn
    rw [show n + 1 = (⟨n, hlt⟩ : Fin k0_t2_loop.trips).val + 1 from rfl, state2_succ]
    intro p hp
    rcases List.mem_append.mp hp with hp | hp
    · exact trip2_s 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 A hN h19 _ p hp
    · exact ih (by omega) p hp

/-- The second loop's stores into the array of tile sums cover the tiles so far. -/
theorem state2_cover_s (n : ℕ) (hn : n ≤ 4) (y : S32x64.Idx) (h2 : (y 0).val < 8 * n) :
    ∃ p ∈ (state2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 n).2, y ∈ p.1.set := by
  induction n with
  | zero => omega
  | succ n ih =>
    have hlt : n < k0_t2_loop.trips := hn
    rw [show n + 1 = (⟨n, hlt⟩ : Fin k0_t2_loop.trips).val + 1 from rfl, state2_succ]
    by_cases c1 : (y 0).val < 8 * n
    · obtain ⟨p, hp, hy⟩ := ih (by omega) c1
      exact ⟨p, List.mem_append_right _ hp, hy⟩
    · obtain ⟨p, hp, hy⟩ := trip2_cover_s 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 k0_h5 w9 w12 w20 w22 X18 X19 ⟨n, hlt⟩ y (by show 8 * n ≤ _; omega) (by show _ < 8 * n + 8; omega)
      exact ⟨p, List.mem_append_left _ hp, hy⟩

end Second

end Cert.KernelIdeal.Hand

end
-- ==== Proof.KernelIdealTail.lean ====
/-
  What the last point's arithmetic computes at an index: the masks, the aggregated array, and the tail.
-/
module

public import proofs.«01_k».proof.Proof.KernelIdealRegion
public import proofs.«01_k».proof.Proof.Gen.KernelIdeal.Frame
public import proofs.«01_k».proof.Proof.Gen.KernelIdeal.Points
public import Idealize.ShloMosaic.Lib.Ring
public import proofs.«01_k».proof.Proof.ValueMath

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.ValueMath
open Idealize.ShloMosaic.Pipeline (Dat Cfg Window BodyObligation cellOf)
open Idealize.SL.BI.BIBase Idealize.SL.BI.Laws Idealize.SL.ProofMode Idealize.SL.Sem

/-- A mask column: whether a tile's first row lies in a segment. -/
theorem mask_apply (a b : BitVec 32) (t : Fin 32) :
    k0_pay65 (F := Ideal) a b (ix2 t 0) = if 512 * ((t : ℕ) : ℤ) ≥ a.toInt ∧ 512 * ((t : ℕ) : ℤ) < b.toInt then 1 else 0 := by
  have ht : (t.val : ℕ) < 32 := t.isLt
  have e : (Scalar.muli (BitVec.ofNat 32 t.val) 512#32).toInt = 512 * ((t : ℕ) : ℤ) := by
    revert t; decide +kernel
  pointwise [k0_pay65, k0_pay64]
  have e' : (IntOp.muli (BitVec.ofNat 32 t.val) 512#32).toInt = 512 * ((t : ℕ) : ℤ) := e
  generalize IntOp.muli (BitVec.ofNat 32 t.val) 512#32 = x at e'
  rw [← e']
  have h0 : FloatOps.sitofp (F := Ideal) FTy.f32 (0#32) = 0 := by
    show (((0#32 : BitVec 32).toInt : ℝ) : EReal) = 0
    simp
  have h1 : FloatOps.sitofp (F := Ideal) FTy.f32 (1#32) = 1 := by
    show (((1#32 : BitVec 32).toInt : ℝ) : EReal) = 1
    simp
  by_cases c1 : a.toInt ≤ x.toInt <;> by_cases c2 : x.toInt < b.toInt <;>
    simp [IntOp.cmpi, IntOp.andi, BitVec.sle, BitVec.slt, c1, c2, h0, h1]

/-- The eight columns side by side. -/
theorem cols_apply (M : Fin 8 → FVec Ideal S32x1 .f32) (t : Fin 32) (b : Fin 8) :
    concatenate S32x8 1 [⟨S32x1, M 0⟩, ⟨S32x1, M 1⟩, ⟨S32x1, M 2⟩, ⟨S32x1, M 3⟩, ⟨S32x1, M 4⟩, ⟨S32x1, M 5⟩, ⟨S32x1, M 6⟩, ⟨S32x1, M 7⟩]
      concatenates_S32x1_S32x1_S32x1_S32x1_S32x1_S32x1_S32x1_S32x1_S32x8_d1 (ix2 t b) = M b (ix2 t 0) := by
  fin_cases b <;> pointwise

/-- The aggregated array from the masks, the tile products and the tile sums. -/
theorem agg_apply (A : Args) (cu : Fin 9 → BitVec 32) (v24 v26 : FVec Ideal S1x64 .f32) (M : Fin 8 → FVec Ideal S32x1 .f32)
    (pv : Vec Ideal S32x64x64 .f32) (ps : Vec Ideal S32x64 .f32) (w : Vec Ideal S64x64 .f32) (v30 v95 : IVec S32x1 32) (v97 : BitVec 32)
    (h24 : ∀ q, v24 (ix2 0 q) = scaleK A q) (h26 : ∀ q, v26 (ix2 0 q) = biasK A q)
    (hM : ∀ t b, M b (ix2 t 0) = mask cu t.val b) (h7 : M 7 = sitofp .f32 (extui 32 (andi (cmpi .sge v30 v95) (cmpi .slt v30 (broadcast S32x1 v97))) natLt_1_32))
    (hpv : ∀ t f q, pv (ix3 t f q) = tileV A t.val f q) (hps : ∀ t q, ps (ix2 t q) = tileS A t.val q) (hw : ∀ f q, w (ix2 f q) = A.cw2 f q)
    (b : Fin 8) (f q : Fin 64) :
    k0_pay74 v24 v26 v30 (M 0) (M 1) (M 2) (M 3) (M 4) (M 5) (M 6) v95 v97 pv ps w (ix3 b f q) = aggK A cu b f q := by
  have hc := cols_apply M
  unfold k0_pay74
  dsimp only
  rw [← h7]
  generalize concatenate S32x8 1 [⟨S32x1, M 0⟩, ⟨S32x1, M 1⟩, ⟨S32x1, M 2⟩, ⟨S32x1, M 3⟩, ⟨S32x1, M 4⟩, ⟨S32x1, M 5⟩, ⟨S32x1, M 6⟩, ⟨S32x1, M 7⟩]
      concatenates_S32x1_S32x1_S32x1_S32x1_S32x1_S32x1_S32x1_S32x1_S32x8_d1 = C at hc ⊢
  pointwise
  simp only [hc, hM, hpv, hps, hw, h24, h26]
  rfl

/-- The hidden layer's normalization, up to its shift, from the aggregated array. -/
theorem norm_apply (A : Args) (I : Fin 8 → Fin 64 → Fin 64 → EReal) (x x2 : FVec Ideal S8x64x64 .f32) (h3 : Vec Ideal S64x64x256 .f32) (g2 : Vec Ideal S1x256 .f32)
    (hx : ∀ b f q, x (ix3 b f q) = I b f q) (hx2 : ∀ b f q, x2 (ix3 b f q) = I b f q * I b f q) (hh : ∀ f q o, h3 (ix3 f q o) = A.hw f q o)
    (hg : ∀ o, g2 (ix2 0 o) = A.g2 o) (b : Fin 8) (o : Fin 256) :
    k0_pay76 x x2 h3 g2 (ix2 b o) = (hidden A I b o - mean8 (hidden A I) o) * Ideal.rsqrt (var8 (hidden A I) o + eps) * A.g2 o := by
  pointwise [k0_pay76]
  simp only [hx, hx2, hh, hg]
  rfl

/-- The result from the hidden layer's normalization. -/
theorem tail_apply (A : Args) (I : Fin 8 → Fin 64 → Fin 64 → EReal) (y : FVec Ideal S8x256 .f32) (be2 : Vec Ideal S1x256 .f32) (gw : Vec Ideal S256x256 .f32)
    (gg gb : Vec Ideal S1x256 .f32)
    (hy : ∀ b o, y (ix2 b o) = (hidden A I b o - mean8 (hidden A I) o) * Ideal.rsqrt (var8 (hidden A I) o + eps) * A.g2 o)
    (h2 : ∀ o, be2 (ix2 0 o) = A.be2 o) (hw : ∀ k o, gw (ix2 k o) = A.gw k o) (h3 : ∀ o, gg (ix2 0 o) = A.gg o) (h4 : ∀ o, gb (ix2 0 o) = A.gb o)
    (b : Fin 8) (o : Fin 256) : k0_pay77 y be2 gw gg gb (ix2 b o) = tailK A I b o := by
  pointwise [k0_pay77]
  simp only [hy, h2, hw, h3, h4]
  rfl

end Cert.KernelIdeal.Hand

end
-- ==== Proof.KernelIdealLast.lean ====
/-
  What the last point computes: the result, from the tokens' features and activations the first phase keeps.
-/
module

public import proofs.«01_k».proof.Proof.KernelIdealRegion
public import proofs.«01_k».proof.Proof.Gen.KernelIdeal.Frame
public import proofs.«01_k».proof.Proof.Gen.KernelIdeal.Points
public import Idealize.ShloMosaic.Lib.Ring
public import proofs.«01_k».proof.Proof.KernelIdealPoint
public import proofs.«01_k».proof.Proof.KernelIdealGather
public import proofs.«01_k».proof.Proof.KernelIdealTail

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.ValueMath
open Idealize.ShloMosaic.Pipeline (Dat Cfg Window BodyObligation cellOf)
open Idealize.SL.BI.BIBase Idealize.SL.BI.Laws Idealize.SL.ProofMode Idealize.SL.Sem

variable (m : (ℓ : Loc nD τ sig) → Buf (Elt Ideal) ℓ)

/-- The result. -/
def kout (c : Dev nD) : S8x256.Idx → Elt Ideal .f32 := fun y => tailK (kargs m c) (aggK (kargs m c) (kcu m c)) (y 0) (y 1)

/-- The boundary read at each place lies in the boundaries. -/
theorem inb_cu (j : Fin 9) : ∀ a, (![j.val] : Fin 1 → ℕ) a + S1.size a ≤ S9.size a := by
  intro a
  match a with
  | ⟨0, _⟩ => exact j.isLt

/-- The boundary the last point reads at a place. -/
abbrev cuAt (t : Fin cfg0.N) (X1 : BufTy.Contents (Elt Ideal) (st0_0 t).view.ty) (j : Fin 9) : BitVec 32 :=
  (st0_0 t).view.readAt (Elt Ideal) (Rect.unit (s := S9) ![j.val] S1.size (inb_cu j)).toLoadRect X1 (Shape.Idx.first (s := S1) (by decide))

/-- It is the argument's. -/
theorem cuAt_eq (c : Dev nD) (t : Fin cfg0.N) (X1 : BufTy.Contents (Elt Ideal) (st0_0 t).view.ty) (h : (st0_0 t).view.read (Elt Ideal) X1 = iblk m c 0 t)
    (j : Fin 9) : cuAt t X1 j = kcu m c j := by
  refine (congrArg ((st0_0 t).view.read (Elt Ideal) X1) (?_ : _ = (ix1 j : S9.Idx))).trans ((congrFun h _).trans (read_cu m c t j))
  funext a
  apply Fin.ext
  match a with
  | ⟨0, _⟩ => exact Nat.add_zero _

/-- The hidden weights, as the last point copies them. -/
theorem read_hw (c : Dev nD) (f q : Fin 64) (o : Fin 256) : V (F := Ideal) m c main_call0_v0 (ix3 f q o) = (kargs m c).hw f q o := by
  show _ = m ((c : Thread nD τ).loc main_arg8) (ix2 ⟨64 * f.val + q.val, _⟩ o)
  entry_read
  pointwise
  exact congrArg (m ((c : Thread nD τ).loc main_arg8)) (congrArg (fun a : Fin 4096 => ix2 a o)
    (Fin.ext (by show f.val * 64 + q.val = 64 * f.val + q.val; omega)))

/-- The hidden layer's normalization, its second operand the first one's square. -/
theorem norm_apply' (A : Args) (I : Fin 8 → Fin 64 → Fin 64 → EReal) (x x2 : FVec Ideal S8x64x64 .f32) (h3 : Vec Ideal S64x64x256 .f32) (g2 : Vec Ideal S1x256 .f32)
    (hx : ∀ b f q, x (ix3 b f q) = I b f q) (hx2 : x2 = mulf x x) (hh : ∀ f q o, h3 (ix3 f q o) = A.hw f q o)
    (hg : ∀ o, g2 (ix2 0 o) = A.g2 o) (b : Fin 8) (o : Fin 256) :
    k0_pay76 x x2 h3 g2 (ix2 b o) = (hidden A I b o - mean8 (hidden A I) o) * Ideal.rsqrt (var8 (hidden A I) o + eps) * A.g2 o :=
  norm_apply A I x x2 h3 g2 hx (fun b f q => by rw [hx2]; exact congrArg₂ (fun a b : EReal => a * b) (hx b f q) (hx b f q)) hh hg b o

/-- The last point stores the result. -/
theorem kept_last (c : Dev nD) : ∀ (t : Fin cfg0.N) (ht : t.val = 4) (X1 : BufTy.Contents (Elt Ideal) (st0_0 t).view.ty) (X8 : BufTy.Contents (Elt Ideal) (st0_7 t).view.ty) (X10 : BufTy.Contents (Elt Ideal) (st0_8 t).view.ty) (X11 : BufTy.Contents (Elt Ideal) (st0_9 t).view.ty) (X12 : BufTy.Contents (Elt Ideal) (st0_10 t).view.ty) (X13 : BufTy.Contents (Elt Ideal) (st0_11 t).view.ty) (X14 : BufTy.Contents (Elt Ideal) (st0_12 t).view.ty) (X15 : BufTy.Contents (Elt Ideal) (st0_13 t).view.ty) (X16 : BufTy.Contents (Elt Ideal) (st0_14 t).view.ty) (X17 : BufTy.Contents (Elt Ideal) (st0_15 t).view.ty) (f18 : BufTy.Contents (Elt Ideal) (Memref.whole cc0_scratch0).view.ty) (f19 : BufTy.Contents (Elt Ideal) (Memref.whole cc0_scratch1).view.ty) (f20 : BufTy.Contents (Elt Ideal) (Memref.whole cc0_scratch2).view.ty) (f21 : BufTy.Contents (Elt Ideal) (Memref.whole cc0_scratch3).view.ty) (f22 : BufTy.Contents (Elt Ideal) (Memref.whole cc0_scratch4).view.ty) (f24 : BufTy.Contents (Elt Ideal) (Memref.whole cc0_scratch6).view.ty) (f25 : BufTy.Contents (Elt Ideal) (Memref.whole cc0_scratch7).view.ty), (st0_0 t).view.read (Elt Ideal) X1 = iblk (F := Ideal) m c 0 t → (st0_7 t).view.read (Elt Ideal) X8 = iblk (F := Ideal) m c 7 t → (st0_8 t).view.read (Elt Ideal) X10 = iblk (F := Ideal) m c 8 t → (st0_9 t).view.read (Elt Ideal) X11 = iblk (F := Ideal) m c 9 t → (st0_10 t).view.read (Elt Ideal) X12 = iblk (F := Ideal) m c 10 t → (st0_11 t).view.read (Elt Ideal) X13 = iblk (F := Ideal) m c 11 t → (st0_12 t).view.read (Elt Ideal) X14 = iblk (F := Ideal) m c 12 t → (st0_13 t).view.read (Elt Ideal) X15 = iblk (F := Ideal) m c 13 t → (st0_14 t).view.read (Elt Ideal) X16 = iblk (F := Ideal) m c 14 t → Kept m c 4 f18 f19 f20 f21 →
    (fun X => X = kout m c) ((st0_15 t).view.read (Elt Ideal) ((st0_15 t).view.writes (Elt Ideal) X17 (at4 (F := Ideal) c t ht X1 X8 X10 X11 X12 X13 X14 X15 X16 f18 f19 f20 f21 (V m c main_call0_v0) f22 f24 f25).1)) := by
  intro t ht X1 X8 X10 X11 X12 X13 X14 X15 X16 X17 f18 f19 f20 f21 f22 f24 f25 h1 h8 h10 h11 h12 h13 h14 h15 h16 hP
  have hN : Nrm (kargs m c) ((Memref.whole cc0_scratch2).view.readAt (Elt Ideal) (Rect.unit (s := S1x64) ![0, 0] S1x64.size inb_S1x64_S1x64_0_0).toLoadRect f20)
      ((Memref.whole cc0_scratch3).view.readAt (Elt Ideal) (Rect.unit (s := S1x64) ![0, 0] S1x64.size inb_S1x64_S1x64_0_0).toLoadRect f21)
      ((st0_8 t).view.readAt (Elt Ideal) (Rect.unit (s := S1x64) ![0, 0] S1x64.size inb_S1x64_S1x64_0_0).toLoadRect X10)
      ((st0_9 t).view.readAt (Elt Ideal) (Rect.unit (s := S1x64) ![0, 0] S1x64.size inb_S1x64_S1x64_0_0).toLoadRect X11) :=
    ⟨fun q => (congrFun (load_whole (Memref.whole cc0_scratch2).view f20 inb_S1x64_S1x64_0_0 rfl) (ix2 0 q)).trans (hP.2.2.1 q),
     fun q => (congrFun (load_whole (Memref.whole cc0_scratch3).view f21 inb_S1x64_S1x64_0_0 rfl) (ix2 0 q)).trans (hP.2.2.2 q),
     fun q => (congrFun (load_whole (st0_8 t).view X10 inb_S1x64_S1x64_0_0 h10) (ix2 0 q)).trans (read_g1 m c t 0 q),
     fun q => (congrFun (load_whole (st0_9 t).view X11 inb_S1x64_S1x64_0_0 h11) (ix2 0 q)).trans (read_be1 m c t 0 q)⟩
  have h18 : ∀ y : S16384x64.Idx, (Memref.whole cc0_scratch0).view.read (Elt Ideal) f18 y = feat (kargs m c) (y 0).val (y 1) := fun y =>
    hP.1 y (y 0).isLt
  have h19 : ∀ y : S16384x64.Idx, (Memref.whole cc0_scratch1).view.read (Elt Ideal) f19 y = act (kargs m c) (y 0).val (y 1) := fun y =>
    hP.2.1 y (y 0).isLt
  unfold at4 runZ
  dsimp only
  funext y
  obtain ⟨b, o, rfl⟩ : ∃ (b : Fin 8) (o : Fin 256), y = ix2 b o := ⟨y 0, y 1, eq_ix2 y⟩
  refine (congrFun (View.read_writes_full (st0_15 t).view X17 inb_S8x256_S8x256_0_0 _ []) (ix2 b o)).trans ?_
  unfold runZ.sl.r_23
  refine tail_apply (kargs m c) (aggK (kargs m c) (kcu m c)) _ _ _ _ _ ?_ ?_ ?_ ?_ ?_ b o
  · intro b o
    unfold runZ.sl.r_22
    refine norm_apply' (kargs m c) (aggK (kargs m c) (kcu m c)) _ _ _ _ ?_ ?_ ?_ ?_ b o
    · intro b f q
      unfold runZ.sl.r_20
      refine agg_apply (kargs m c) (kcu m c) _ _ (fun b => k0_pay65 (F := Ideal) (cuAt t X1 b.castSucc) (cuAt t X1 b.succ)) _ _ _ _ _ _ (scale_apply hN) (bias_apply hN) ?_ ?_ ?_ ?_ ?_ b f q
      · intro u b
        refine (mask_apply _ _ u).trans ?_
        rw [cuAt_eq m c t X1 h1, cuAt_eq m c t X1 h1]
        rfl
      · rfl
      · intro u f q
        refine (congrFun (load_whole (Memref.whole cc0_scratch6).view _ inb_S32x64x64_S32x64x64_0_0_0 rfl) (ix3 u f q)).trans ?_
        refine View.read_writes_apply_of_pieces (Val := Elt Ideal) (Memref.whole cc0_scratch6).view f24 (fun y : S32x64x64.Idx => tileV (kargs m c) (y 0).val (y 1) (y 2)) _ ?_ (ix3 u f q) ?_
        · intro p hp x; apply state2_v (hN := hN) (h18 := h18) (h19 := h19) (hn := le_refl 4); exact hp
        · exact state2_cover_v (n := 4) (hn := le_refl 4) (y := ix3 u f q) (h2 := u.isLt) ..
      · intro u q
        refine (congrFun (load_whole (Memref.whole cc0_scratch7).view _ inb_S32x64_S32x64_0_0 rfl) (ix2 u q)).trans ?_
        refine View.read_writes_apply_of_pieces (Val := Elt Ideal) (Memref.whole cc0_scratch7).view f25 (fun y : S32x64.Idx => tileS (kargs m c) (y 0).val (y 1)) _ ?_ (ix2 u q) ?_
        · intro p hp x; apply state2_s (hN := hN) (h19 := h19) (hn := le_refl 4); exact hp
        · exact state2_cover_s (n := 4) (hn := le_refl 4) (y := ix2 u q) (h2 := u.isLt) ..
      · exact fun f q => (congrFun (load_whole (st0_7 t).view X8 inb_S64x64_S64x64_0_0 h8) (ix2 f q)).trans (read_cw2 m c t f q)
    · rfl
    · intro f q o
      unfold runZ.sl.v154 View.readCov
      refine (congrFun (load_whole (Memref.whole cc0_scratch4).view _ inb_S64x64x256_S64x64x256_0_0_0 rfl) (ix3 f q o)).trans ?_
      refine (congrFun (View.read_writes_whole (Memref.whole cc0_scratch4).view _ _) (ix3 f q o)).trans ?_
      exact read_hw m c f q o
    · exact fun o => (congrFun (load_whole (st0_10 t).view X12 inb_S1x256_S1x256_0_0 h12) (ix2 0 o)).trans (read_g2 m c t 0 o)
  · exact fun o => (congrFun (load_whole (st0_11 t).view X13 inb_S1x256_S1x256_0_0 h13) (ix2 0 o)).trans (read_be2 m c t 0 o)
  · exact fun k o => (congrFun (load_whole (st0_12 t).view X14 inb_S256x256_S256x256_0_0 h14) (ix2 k o)).trans (read_gw m c t k o)
  · exact fun o => (congrFun (load_whole (st0_13 t).view X15 inb_S1x256_S1x256_0_0 h15) (ix2 0 o)).trans (read_gg m c t 0 o)
  · exact fun o => (congrFun (load_whole (st0_14 t).view X16 inb_S1x256_S1x256_0_0 h16) (ix2 0 o)).trans (read_gb m c t 0 o)

end Cert.KernelIdeal.Hand

end
-- ==== Proof.KernelIdealValue.lean ====
module

public import proofs.«01_k».proof.Proof.KernelIdealLast
public import proofs.«01_k».proof.Proof.KernelIdealFrame
public import Idealize.ShloMosaic.Lib.Pipeline.ValueKit
public import Idealize.ShloMosaic.Lib.Claim
public import proofs.«01_k».proof.Proof.KernelIdealRegion
public import proofs.«01_k».proof.Proof.Gen.KernelIdeal.Frame
public import proofs.«01_k».proof.Proof.Gen.KernelIdeal.Points
public import Idealize.ShloMosaic.Lib.Ring
public import proofs.«01_k».proof.Proof.ValueMath

@[expose] public section

set_option maxRecDepth 16384
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.ValueMath
open Idealize.ShloMosaic.Pipeline (Dat Cfg Window BodyObligation cellOf)
open Idealize.SL.BI.BIBase Idealize.SL.BI.Laws Idealize.SL.ProofMode Idealize.SL.Sem

variable (m : (ℓ : Loc nD τ sig) → Buf (Elt Ideal) ℓ)

/-- After the last point the result's array is what that point left in the result's window. -/
theorem result_array (c : Dev nD) :
    (dats m (Kept m) (kout m) 0 c).arrAt 15 cfg0.N = kout m c := by
  refine (dats m (Kept m) (kout m) 0 c).arrAt_eq_of_covers 15 _ (by decide +kernel) fun t hf y => ?_
  blk_simp
  rw [after_15]
  have h0 : ∀ t : Fin cfg0.grid.N, win0_15.index t 0 = 0 ∧ win0_15.index t 1 = 0 := by decide +kernel
  exact congrArg (kout m c) (funext fun a => by fin_cases a <;> (apply Fin.ext; simp [View.emb, h0 t]))

/-- The kernel's run over the extended reals: on every device the result is `kout`, the arguments unchanged. -/
theorem run_value (g : Dev nD → PrngReg) :
    θ_run (defs (F := Ideal)) (onTc (τ := τ) (main (F := Ideal))) ⟨m, fun _ => 0, g⟩ (fun r => ∀ c : Dev nD,
      r.2.mem ((c.tc : Thread nD τ).loc main_v0) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r hr c => ?_) (run_exact (F := Ideal) m g (Kept m) (kout m) fun c => ⟨kept_first m c, kept_later m c, kept_last m c⟩)
  have h := hr.1
  let P := Kept m
  let out := kout m
  exact ⟨((h c).1 15).trans (result_array m c), (((h c).1 1).trans (((dats m P out 0 c).arrAt_in 1 rfl _).trans ((A_eq m P out c 1).trans (V_main_arg0 m c)))),
    (((h c).1 0).trans (((dats m P out 0 c).arrAt_in 0 rfl _).trans ((A_eq m P out c 0).trans (V_main_arg1 m c)))),
    (((h c).1 2).trans (((dats m P out 0 c).arrAt_in 2 rfl _).trans ((A_eq m P out c 2).trans (V_main_arg2 m c)))),
    (((h c).2 main_arg3 (Pipeline.mem_restRefs_of main_arg3 (by decide) (by decide))).trans (V_main_arg3 m c)),
    (((h c).1 4).trans (((dats m P out 0 c).arrAt_in 4 rfl _).trans ((A_eq m P out c 4).trans (V_main_arg4 m c)))),
    (((h c).2 main_arg5 (Pipeline.mem_restRefs_of main_arg5 (by decide) (by decide))).trans (V_main_arg5 m c)),
    (((h c).1 6).trans (((dats m P out 0 c).arrAt_in 6 rfl _).trans ((A_eq m P out c 6).trans (V_main_arg6 m c)))),
    (((h c).2 main_arg7 (Pipeline.mem_restRefs_of main_arg7 (by decide) (by decide))).trans (V_main_arg7 m c)),
    (((h c).2 main_arg8 (Pipeline.mem_restRefs_of main_arg8 (by decide) (by decide))).trans (V_main_arg8 m c)),
    (((h c).2 main_arg9 (Pipeline.mem_restRefs_of main_arg9 (by decide) (by decide))).trans (V_main_arg9 m c)),
    (((h c).2 main_arg10 (Pipeline.mem_restRefs_of main_arg10 (by decide) (by decide))).trans (V_main_arg10 m c)),
    (((h c).2 main_arg11 (Pipeline.mem_restRefs_of main_arg11 (by decide) (by decide))).trans (V_main_arg11 m c)),
    (((h c).2 main_arg12 (Pipeline.mem_restRefs_of main_arg12 (by decide) (by decide))).trans (V_main_arg12 m c)),
    (((h c).1 12).trans (((dats m P out 0 c).arrAt_in 12 rfl _).trans ((A_eq m P out c 12).trans (V_main_arg13 m c)))),
    (((h c).2 main_arg14 (Pipeline.mem_restRefs_of main_arg14 (by decide) (by decide))).trans (V_main_arg14 m c)),
    (((h c).2 main_arg15 (Pipeline.mem_restRefs_of main_arg15 (by decide) (by decide))).trans (V_main_arg15 m c))⟩

end Cert.KernelIdeal.Hand

end
-- ==== Proof.ValueConst.lean ====
module

public import proofs.«01_k».proof.Proof.ValueMath

@[expose] public section

set_option maxRecDepth 16384

noncomputable section

namespace Cert.ValueMath
open Idealize.ShloMosaic
/-- There are 32768 rows. -/
theorem rows_eq : rows = ((32768 : ℝ) : EReal) := by
  simp [Ideal.ofBits, Ideal.ieee]
  rw [← EReal.coe_mul]
  norm_num
/-- The number eight is 8. -/
theorem eight_eq : eight = ((8 : ℝ) : EReal) := by
  simp [Ideal.ofBits, Ideal.ieee]
  rw [← EReal.coe_mul]
  norm_num
/-- A tile has 512 rows. -/
theorem tileRows_eq : tileRows = ((512 : ℝ) : EReal) := by
  simp [Ideal.ofBits, Ideal.ieee]
  rw [← EReal.coe_mul]
  norm_num
/-- A padded segment has 4096 rows. -/
theorem segRows_eq : segRows = ((4096 : ℝ) : EReal) := by
  simp [Ideal.ofBits, Ideal.ieee]
  rw [← EReal.coe_mul]
  norm_num
/-- The word read as the least number is the bottom. -/
theorem ninf_eq : ninf = ⊥ := by
  simp [Ideal.ofBits, Ideal.ieee]
/-- The number added to a variance is positive and real. -/
theorem eps_eq : ∃ e : ℝ, 0 < e ∧ eps = (e : EReal) := by
  simp [Ideal.ofBits, Ideal.ieee]
  exact ⟨10995116 * (2 ^ 40)⁻¹, by positivity, by rw [← EReal.coe_mul]⟩
end Cert.ValueMath
end
-- ==== Proof.ValueSegments.lean ====
module

public import proofs.«01_k».proof.Proof.ValueMath

@[expose] public section

set_option maxRecDepth 16384

noncomputable section

namespace Cert.ValueMath

open Idealize.ShloMosaic

/-- The nine boundaries cut the 16384 tokens into eight segments of whole tiles, none longer than 4096 tokens. -/
structure Segs (cu : Fin 9 → BitVec 32) : Prop where
  first : (cu 0).toNat = 0
  last : (cu 8).toNat = 16384
  tile : ∀ b, 512 ∣ (cu b).toNat
  step : ∀ b : Fin 8, (cu b.castSucc).toNat ≤ (cu b.succ).toNat
  len : ∀ b : Fin 8, (cu b.succ).toNat ≤ (cu b.castSucc).toNat + 4096

variable {cu : Fin 9 → BitVec 32} (h : Segs cu)

include h

/-- The boundaries ascend. -/
theorem Segs.mono {a b : Fin 9} (hab : a ≤ b) : (cu a).toNat ≤ (cu b).toNat :=
  (Fin.monotone_iff_le_succ (f := fun b => (cu b).toNat)).mpr h.step hab

/-- No boundary passes the last token. -/
theorem Segs.le (b : Fin 9) : (cu b).toNat ≤ 16384 := h.last ▸ h.mono (Fin.le_last b)

/-- A boundary read signed is the boundary read unsigned. -/
theorem Segs.toInt (b : Fin 9) : (cu b).toInt = ((cu b).toNat : ℤ) := by
  have := h.le b
  rw [BitVec.toInt_eq_toNat_cond, if_pos (by omega)]

/-- Every token lies in a segment. -/
theorem Segs.exists_seg {n : ℕ} (hn : n < 16384) : ∃ b : Fin 8, (cu b.castSucc).toNat ≤ n ∧ n < (cu b.succ).toNat := by
  by_contra hc
  push Not at hc
  have hall : ∀ b : Fin 9, (cu b).toNat ≤ n := by
    intro b
    induction b using Fin.induction with
    | zero => rw [h.first]; exact Nat.zero_le _
    | succ b ih => exact hc b ih
  have := hall 8
  rw [h.last] at this
  omega

/-- The boundaries a token has passed are those up to its segment's first. -/
theorem Segs.passed {n : ℕ} {b : Fin 8} (hb : (cu b.castSucc).toNat ≤ n ∧ n < (cu b.succ).toNat) (q : Fin 9) :
    (cu q).toNat ≤ n ↔ q.val ≤ b.val := by
  constructor
  · intro hq
    by_contra hc
    have : (cu b.succ).toNat ≤ (cu q).toNat := h.mono (by rw [Fin.le_def]; simp; omega)
    omega
  · intro hq
    exact le_trans (h.mono (by rw [Fin.le_def]; simp; omega)) hb.1

/-- A token lies in one segment. -/
theorem Segs.unique {n : ℕ} {b b' : Fin 8} (hb : (cu b.castSucc).toNat ≤ n ∧ n < (cu b.succ).toNat)
    (hb' : (cu b'.castSucc).toNat ≤ n ∧ n < (cu b'.succ).toNat) : b = b' := by
  have h1 := (h.passed hb b'.castSucc).mp hb'.1
  have h2 := (h.passed hb' b.castSucc).mp hb.1
  simp at h1 h2
  exact Fin.ext (by omega)

/-- The number of boundaries a token has passed is one more than its segment. -/
theorem Segs.count {n : ℕ} {b : Fin 8} (hb : (cu b.castSucc).toNat ≤ n ∧ n < (cu b.succ).toNat) :
    Nat.count (fun q => ∃ hq : q < 9, (cu ⟨q, hq⟩).toNat ≤ n) 9 = b.val + 1 := by
  rw [Nat.count_eq_card_filter_range]
  have : (Finset.range 9).filter (fun q => ∃ hq : q < 9, (cu ⟨q, hq⟩).toNat ≤ n) = Finset.range (b.val + 1) := by
    ext q
    simp only [Finset.mem_filter, Finset.mem_range]
    constructor
    · rintro ⟨_, hq, hle⟩
      have := (h.passed hb ⟨q, hq⟩).mp hle
      simp at this
      omega
    · intro hq
      have h9 : q < 9 := by have := b.isLt; omega
      exact ⟨h9, h9, (h.passed hb ⟨q, h9⟩).mpr (by simp; omega)⟩
  rw [this, Finset.card_range]

end Cert.ValueMath

end
-- ==== Proof.ValueSums.lean ====
module

public import proofs.«01_k».proof.Proof.ValueMath
public import proofs.«01_k».proof.Proof.ValueConst
public import proofs.«01_k».proof.Proof.ValueSegments

@[expose] public section

set_option maxRecDepth 16384

noncomputable section

namespace Cert.ValueMath

open Idealize.ShloMosaic

/-- A padded segment's sum: its `L` tokens' summands from `s` on, and the padding rows' summand as often as there are padding rows. -/
theorem sum_padded (f : ℕ → EReal) (p : EReal) (s L : ℕ) (hL : L ≤ 4096) :
    ∑ m : Fin 4096, (if m.val < L then f (s + m.val) else p) = ∑ n ∈ Finset.Ico s (s + L), f n + (4096 - L) • p := by
  rw [Fin.sum_univ_eq_sum_range (fun m => if m < L then f (s + m) else p) 4096, Finset.range_eq_Ico,
    ← Finset.sum_Ico_consecutive _ (Nat.zero_le L) hL]
  congr 1
  · rw [← Finset.range_eq_Ico, Finset.sum_Ico_eq_sum_range f s, Nat.add_sub_cancel_left]
    exact Finset.sum_congr rfl fun m hm => if_pos (Finset.mem_range.mp hm)
  · rw [Finset.sum_congr rfl fun m hm => if_neg (not_lt.mpr (Finset.mem_Ico.mp hm).1), Finset.sum_const, Nat.card_Ico]

/-- Whole tiles' sums make up the sum over their rows. -/
theorem sum_tiles (g : ℕ → EReal) (s e : ℕ) (h : s ≤ e) :
    ∑ n ∈ Finset.Ico (512 * s) (512 * e), g n = ∑ t ∈ Finset.Ico s e, ∑ r : Fin 512, g (t * 512 + r.val) := by
  induction e, h using Nat.le_induction with
  | base => simp
  | succ e h ih =>
    rw [Finset.sum_Ico_succ_top h, ← ih, ← Finset.sum_Ico_consecutive g (Nat.mul_le_mul_left 512 h) (Nat.mul_le_mul_left 512 (Nat.le_succ e)),
      Finset.sum_Ico_eq_sum_range g (512 * e), Fin.sum_univ_eq_sum_range (fun r => g (e * 512 + r)) 512]
    have h1 : 512 * (e + 1) - 512 * e = 512 := by omega
    have h2 : 512 * e = e * 512 := Nat.mul_comm _ _
    rw [h1, h2]

variable {cu : Fin 9 → BitVec 32} (h : Segs cu)

include h

/-- A segment's length. -/
theorem Segs.add_len (b : Fin 8) : (cu b.castSucc).toNat + ((cu b.succ).toNat - (cu b.castSucc).toNat) = (cu b.succ).toNat := by
  have := h.step b
  omega

/-- The segments' sums make up the sum over all tokens. -/
theorem Segs.sum_segments (f : ℕ → EReal) :
    ∑ b : Fin 8, ∑ n ∈ Finset.Ico (cu b.castSucc).toNat (cu b.succ).toNat, f n = ∑ n ∈ Finset.range 16384, f n := by
  have hc : ∀ k : Fin 8, ∀ z : EReal, ∑ n ∈ Finset.Ico 0 (cu k.castSucc).toNat, f n + (∑ n ∈ Finset.Ico (cu k.castSucc).toNat (cu k.succ).toNat, f n)
      = ∑ n ∈ Finset.Ico 0 (cu k.succ).toNat, f n := fun k _ => Finset.sum_Ico_consecutive f (Nat.zero_le _) (h.step k)
  have h0 : ∑ n ∈ Finset.Ico 0 (cu (0 : Fin 8).castSucc).toNat, f n = 0 := by
    show ∑ n ∈ Finset.Ico 0 (cu 0).toNat, f n = 0
    rw [h.first]
    simp
  have h8 : ∑ n ∈ Finset.range 16384, f n = ∑ n ∈ Finset.Ico 0 (cu (7 : Fin 8).succ).toNat, f n := by
    show _ = ∑ n ∈ Finset.Ico 0 (cu 8).toNat, f n
    rw [h.last, Finset.range_eq_Ico]
  rw [h8, ← hc 7 0]
  show _ = ∑ n ∈ Finset.Ico 0 (cu (6 : Fin 8).succ).toNat, f n + _
  rw [← hc 6 0]
  show _ = ∑ n ∈ Finset.Ico 0 (cu (5 : Fin 8).succ).toNat, f n + _ + _
  rw [← hc 5 0]
  show _ = ∑ n ∈ Finset.Ico 0 (cu (4 : Fin 8).succ).toNat, f n + _ + _ + _
  rw [← hc 4 0]
  show _ = ∑ n ∈ Finset.Ico 0 (cu (3 : Fin 8).succ).toNat, f n + _ + _ + _ + _
  rw [← hc 3 0]
  show _ = ∑ n ∈ Finset.Ico 0 (cu (2 : Fin 8).succ).toNat, f n + _ + _ + _ + _ + _
  rw [← hc 2 0]
  show _ = ∑ n ∈ Finset.Ico 0 (cu (1 : Fin 8).succ).toNat, f n + _ + _ + _ + _ + _ + _
  rw [← hc 1 0]
  show _ = ∑ n ∈ Finset.Ico 0 (cu (0 : Fin 8).succ).toNat, f n + _ + _ + _ + _ + _ + _ + _
  rw [← hc 0 0, h0, zero_add]
  exact Fin.sum_univ_eight _

/-- A sum over every row of the padded array, its padding rows' summands zero, is the sum over the tokens. -/
theorem Segs.sum_rows (f : ℕ → EReal) :
    ∑ b : Fin 8, ∑ m : Fin 4096, (if m.val < (cu b.succ).toNat - (cu b.castSucc).toNat then f ((cu b.castSucc).toNat + m.val) else 0)
      = ∑ n ∈ Finset.range 16384, f n := by
  rw [← h.sum_segments f]
  refine Finset.sum_congr rfl fun b _ => ?_
  rw [sum_padded f 0 _ _ (by have := h.len b; omega), h.add_len b, smul_zero, add_zero]

/-- The masked tiles' sums make up the sum over a segment's tokens. -/
theorem Segs.sum_masked (G : ℕ → EReal) (b : Fin 8) :
    ∑ t : Fin 32, mask cu t.val b * G t.val = ∑ t ∈ Finset.Ico ((cu b.castSucc).toNat / 512) ((cu b.succ).toNat / 512), G t := by
  have hm : ∀ t : ℕ, mask cu t b * G t = if t ∈ Finset.Ico ((cu b.castSucc).toNat / 512) ((cu b.succ).toNat / 512) then G t else 0 := by
    intro t
    unfold mask
    rw [h.toInt, h.toInt]
    have h1 := h.tile b.castSucc
    have h2 := h.tile b.succ
    have hiff : (512 * (t : ℤ) ≥ ((cu b.castSucc).toNat : ℤ) ∧ 512 * (t : ℤ) < ((cu b.succ).toNat : ℤ))
        ↔ t ∈ Finset.Ico ((cu b.castSucc).toNat / 512) ((cu b.succ).toNat / 512) := by
      rw [Finset.mem_Ico]
      omega
    by_cases ht : t ∈ Finset.Ico ((cu b.castSucc).toNat / 512) ((cu b.succ).toNat / 512)
    · rw [if_pos (hiff.mpr ht), if_pos ht, one_mul]
    · rw [if_neg (mt hiff.mp ht), if_neg ht, zero_mul]
  rw [Finset.sum_congr rfl fun t _ => hm t.val,
    Fin.sum_univ_eq_sum_range (fun t => if t ∈ Finset.Ico ((cu b.castSucc).toNat / 512) ((cu b.succ).toNat / 512) then G t else 0) 32,
    ← Finset.sum_filter]
  refine Finset.sum_congr ?_ fun _ _ => rfl
  ext t
  have := h.le b.succ
  simp only [Finset.mem_filter, Finset.mem_range, Finset.mem_Ico]
  omega

/-- The masked tiles' sums of a summand over their rows make up the sum over a segment's tokens. -/
theorem Segs.sum_tokens (g : ℕ → EReal) (b : Fin 8) :
    ∑ t : Fin 32, mask cu t.val b * ∑ r : Fin 512, g (t.val * 512 + r.val) = ∑ n ∈ Finset.Ico (cu b.castSucc).toNat (cu b.succ).toNat, g n := by
  rw [h.sum_masked (fun t => ∑ r : Fin 512, g (t * 512 + r.val)) b, ← sum_tiles g _ _ (Nat.div_le_div_right (h.step b)),
    Nat.mul_div_cancel' (h.tile _), Nat.mul_div_cancel' (h.tile _)]

/-- The number of padding rows as the kernel computes it. -/
theorem Segs.padding (b : Fin 8) :
    segRows - tileRows * ∑ t : Fin 32, mask cu t.val b = ((4096 - ((cu b.succ).toNat - (cu b.castSucc).toNat) : ℕ) : EReal) := by
  have h0 := h.sum_masked (fun _ => 1) b
  simp only [mul_one, Finset.sum_const, Nat.card_Ico] at h0
  rw [h0, segRows_eq, tileRows_eq, EReal.nsmul_eq_mul, mul_one]
  have h1 := h.tile b.castSucc
  have h2 := h.tile b.succ
  have h3 := h.len b
  have h4 := h.step b
  obtain ⟨s, hs⟩ := h1
  obtain ⟨e, he⟩ := h2
  have e1 : (cu b.succ).toNat / 512 - (cu b.castSucc).toNat / 512 = e - s := by omega
  have e2 : 4096 - ((cu b.succ).toNat - (cu b.castSucc).toNat) = 4096 - 512 * (e - s) := by omega
  have e3 : 512 * (e - s) ≤ 4096 := by omega
  rw [e1, e2]
  generalize e - s = k at e3 ⊢
  have : ((4096 - 512 * k : ℕ) : ℝ) = 4096 - 512 * (k : ℝ) := by rw [Nat.cast_sub e3]; push_cast; ring
  rw [← EReal.coe_coe_eq_natCast, ← EReal.coe_coe_eq_natCast, this, ← EReal.coe_mul, ← EReal.coe_sub]

end Cert.ValueMath

end
-- ==== Proof.ValueTail.lean ====
module

public import proofs.«01_k».proof.Proof.ValueMath
public import proofs.«01_k».proof.Proof.ValueConst

@[expose] public section

set_option maxRecDepth 16384

noncomputable section

namespace Cert.ValueMath

open Idealize.ShloMosaic

/-- A square of an extended real is not negative. -/
theorem square_nonneg (x : EReal) : 0 ≤ x * x := by
  induction x using EReal.rec with
  | bot => simp
  | coe r => rw [← EReal.coe_mul]; exact_mod_cast mul_self_nonneg r
  | top => simp

/-- Dividing by a positive number's square root is multiplying by its reciprocal square root. -/
theorem div_sqrt (x : EReal) {y : EReal} (hy : 0 < y) : Ideal.div x (Ideal.sqrt y) = x * Ideal.rsqrt y := by
  induction y using EReal.rec with
  | bot => simp at hy
  | coe r =>
    have hr : 0 < r := by exact_mod_cast hy
    have hs : Real.sqrt r ≠ 0 := (Real.sqrt_pos.mpr hr).ne'
    have e1 : Ideal.sqrt (r : EReal) = (Real.sqrt r : EReal) := if_neg (not_lt.mpr hr.le)
    have e2 : Ideal.rsqrt (r : EReal) = ((Real.sqrt r)⁻¹ : ℝ) := (if_neg (not_lt.mpr hr.le)).trans (if_neg hr.ne')
    rw [e1, e2, Ideal.div_coe hs, one_div]
  | top =>
    have e1 : Ideal.sqrt ⊤ = ⊤ := rfl
    have e2 : Ideal.rsqrt ⊤ = 0 := rfl
    rw [e1, e2, Ideal.div, if_neg (by simp)]
    simp

/-- A variance over the segments is not negative. -/
theorem var8_nonneg (X : Fin 8 → Fin 256 → EReal) (o : Fin 256) : 0 ≤ var8 X o := by
  unfold var8
  rw [eight_eq, Ideal.div_coe (by norm_num)]
  exact mul_nonneg (Finset.sum_nonneg fun b _ => square_nonneg _) (by exact_mod_cast (by norm_num : (0 : ℝ) ≤ 1 / 8))

/-- A number that is not negative stays positive when the small number is added. -/
theorem add_eps_pos {v : EReal} (hv : 0 ≤ v) : 0 < v + eps := by
  obtain ⟨e, he, heq⟩ := eps_eq
  rw [heq]
  exact lt_of_lt_of_le (by exact_mod_cast he) (le_add_of_nonneg_left hv)

/-- The two forms of the normalization over the segments agree. -/
theorem bnK_eq_bnR (X : Fin 8 → Fin 256 → EReal) (g be : Fin 256 → EReal) : bnK X g be = bnR X g be := by
  funext b o
  unfold bnK bnR
  rw [div_sqrt _ (add_eps_pos (var8_nonneg X o))]

/-- From the same aggregated array the kernel and the reference have the same result. -/
theorem tailK_eq_tailR (A : Args) (I : Fin 8 → Fin 64 → Fin 64 → EReal) (b : Fin 8) (o : Fin 256) : tailK A I b o = tailR A I b o := by
  unfold tailK tailR
  simp only [bnK_eq_bnR, zero_sub]

end Cert.ValueMath

end
-- ==== Proof.ValueEquation.lean ====
module

public import proofs.«01_k».proof.Proof.ValueMath
public import proofs.«01_k».proof.Proof.ValueConst
public import proofs.«01_k».proof.Proof.ValueSegments
public import proofs.«01_k».proof.Proof.ValueSums
public import proofs.«01_k».proof.Proof.ValueTail

@[expose] public section

set_option maxRecDepth 16384

noncomputable section

namespace Cert.ValueMath

open Idealize.ShloMosaic

/-! ## Real values -/

/-- An extended real that is a real number. -/
def IsReal (x : EReal) : Prop := ∃ r : ℝ, x = (r : EReal)

/-- An extended real whose magnitude is less than the top is a real number. -/
theorem IsReal.of_abs {x : EReal} (h : max x (-x) < ⊤) : IsReal x := by
  induction x using EReal.rec with
  | bot => simp at h
  | coe r => exact ⟨r, rfl⟩
  | top => simp at h

theorem IsReal.zero : IsReal 0 := ⟨0, rfl⟩

theorem IsReal.add {x y : EReal} : IsReal x → IsReal y → IsReal (x + y) := by
  rintro ⟨r, rfl⟩ ⟨s, rfl⟩
  exact ⟨r + s, (EReal.coe_add r s).symm⟩

theorem IsReal.mul {x y : EReal} : IsReal x → IsReal y → IsReal (x * y) := by
  rintro ⟨r, rfl⟩ ⟨s, rfl⟩
  exact ⟨r * s, (EReal.coe_mul r s).symm⟩

theorem IsReal.max {x y : EReal} (hx : IsReal x) (hy : IsReal y) : IsReal (max x y) := by
  rcases max_choice x y with h | h <;> rw [h] <;> assumption

theorem IsReal.sum {ι : Type} (s : Finset ι) {f : ι → EReal} (hf : ∀ i, IsReal (f i)) : IsReal (∑ i ∈ s, f i) := by
  classical
  induction s using Finset.induction_on with
  | empty => simpa using IsReal.zero
  | insert a s ha ih => rw [Finset.sum_insert ha]; exact (hf a).add ih

/-- A sum of real numbers is the real number their sum is. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The arguments the activations and the first normalization's scale are made of are real numbers. -/
structure Finite (A : Args) : Prop where
  flat : ∀ n d, IsReal (A.flat n d)
  W1 : ∀ d j, IsReal (A.W1 d j)
  b1 : ∀ j, IsReal (A.b1 j)
  W2 : ∀ j k, IsReal (A.W2 j k)
  b2 : ∀ k, IsReal (A.b2 k)
  cw : ∀ k c, IsReal (A.cw k c)
  g1 : ∀ c, IsReal (A.g1 c)

/-- Then the activations are real numbers. -/
theorem Finite.act {A : Args} (hA : Finite A) (n : ℕ) (c : Fin 64) : IsReal (act A n c) := by
  refine IsReal.sum _ fun k => IsReal.mul ?_ (hA.cw k c)
  refine IsReal.max (IsReal.add (IsReal.sum _ fun j => IsReal.mul ?_ (hA.W2 j k)) (hA.b2 k)) IsReal.zero
  exact IsReal.max (IsReal.add (IsReal.sum _ fun d => IsReal.mul (hA.flat n d) (hA.W1 d j)) (hA.b1 j)) IsReal.zero

/-! ## The normalization -/

/-- The mean of the squared deviations is the mean of the squares less the square of the mean. -/
theorem variance_identity {ι : Type} (s : Finset ι) (y : ι → ℝ) (N : ℝ) (hN : N ≠ 0) (hs : ∑ _i ∈ s, (1 : ℝ) = N) :
    (∑ i ∈ s, (y i - (∑ i ∈ s, y i) / N) * (y i - (∑ i ∈ s, y i) / N)) / N
      = (∑ i ∈ s, y i * y i) / N - (∑ i ∈ s, y i) / N * ((∑ i ∈ s, y i) / N) := by
  set μ := (∑ i ∈ s, y i) / N with hμ
  have hS : ∑ i ∈ s, y i = μ * N := by rw [hμ]; field_simp
  have : ∑ i ∈ s, (y i - μ) * (y i - μ) = ∑ i ∈ s, y i * y i - 2 * μ * (∑ i ∈ s, y i) + μ * μ * N := by
    rw [← hs, Finset.mul_sum, Finset.mul_sum, ← Finset.sum_sub_distrib, ← Finset.sum_add_distrib]
    exact Finset.sum_congr rfl fun i _ => by ring
  rw [this, hS]
  field_simp
  ring

/-- The scale and shift applied to a real activation give the normalized activation, whatever the shift. -/
theorem scale_shift (a μ v g : ℝ) (be : EReal) (hv : 0 < v) :
    (a : EReal) * (Ideal.rsqrt (v : EReal) * (g : EReal)) + (be - (μ : EReal) * (Ideal.rsqrt (v : EReal) * (g : EReal)))
      = Ideal.div ((a : EReal) - (μ : EReal)) (Ideal.sqrt (v : EReal)) * (g : EReal) + be := by
  have hr : Ideal.rsqrt (v : EReal) = ((Real.sqrt v)⁻¹ : ℝ) := (if_neg (not_lt.mpr hv.le)).trans (if_neg hv.ne')
  rw [div_sqrt _ (by exact_mod_cast hv), hr]
  generalize (Real.sqrt v)⁻¹ = k
  rw [← EReal.coe_sub, ← EReal.coe_mul, ← EReal.coe_mul, ← EReal.coe_mul, ← EReal.coe_mul, ← EReal.coe_mul, sub_eq_add_neg, ← EReal.coe_neg,
    add_left_comm, ← EReal.coe_add, add_comm]
  congr 2
  ring

section

variable {A : Args} (hA : Finite A) {cu : Fin 9 → BitVec 32} (h : Segs cu)

/-- The padded activations: a segment's tokens' activations, then zeros. -/
theorem actR_padded (A : Args) (cu : Fin 9 → BitVec 32) (b : Fin 8) (m : ℕ) (c : Fin 64) :
    actR A (padded A cu) b m c
      = if m < (cu b.succ).toNat - (cu b.castSucc).toNat then act A ((cu b.castSucc).toNat + m) c else 0 := by
  unfold actR padded act
  split
  · rfl
  · simp

include h

/-- The padding changes no mean. -/
theorem meanR_padded (c : Fin 64) : meanR A (padded A cu) c = meanK A c := by
  unfold meanR meanK sum1
  simp only [actR_padded]
  rw [h.sum_rows fun n => act A n c]

include hA

/-- The statistics of the activations as real numbers, and the variance in both its forms. -/
theorem statistics (c : Fin 64) : ∃ μ v : ℝ, 0 ≤ v ∧ meanK A c = (μ : EReal)
    ∧ varR A (padded A cu) c = (v : EReal) ∧ Ideal.div (sum2 A 16384 c) rows - meanK A c * meanK A c = (v : EReal) := by
  choose a ha using fun n => hA.act n c
  let y : Fin 8 × Fin 4096 → ℝ := fun i =>
    if i.2.val < (cu i.1.succ).toNat - (cu i.1.castSucc).toNat then a ((cu i.1.castSucc).toNat + i.2.val) else 0
  have hy : ∀ b (m : Fin 4096), actR A (padded A cu) b m.val c = ((y (b, m) : ℝ) : EReal) := by
    intro b m
    rw [actR_padded]
    show _ = ((ite _ _ _ : ℝ) : EReal)
    split
    · exact ha _
    · rfl
  have hN : ∑ _i : Fin 8 × Fin 4096, (1 : ℝ) = 32768 := by simp
  have hmean : meanK A c = (((∑ i, y i) / 32768 : ℝ) : EReal) := by
    rw [← meanR_padded h, meanR, rows_eq, Ideal.div_coe (by norm_num)]
    simp only [hy]
    rw [← Fintype.sum_prod_type' fun b m => ((y (b, m) : ℝ) : EReal), coe_sum, ← EReal.coe_mul, mul_one_div]
  have hsq : sum2 A 16384 c = ((∑ i, y i * y i : ℝ) : EReal) := by
    unfold sum2
    rw [← h.sum_rows fun n => act A n c * act A n c, ← coe_sum, Fintype.sum_prod_type]
    refine Finset.sum_congr rfl fun b _ => Finset.sum_congr rfl fun m _ => ?_
    rw [EReal.coe_mul, ← hy, actR_padded]
    split
    · rfl
    · simp
  refine ⟨(∑ i, y i) / 32768, (∑ i, (y i - (∑ i, y i) / 32768) * (y i - (∑ i, y i) / 32768)) / 32768, ?_, hmean, ?_, ?_⟩
  · exact div_nonneg (Finset.sum_nonneg fun i _ => mul_self_nonneg _) (by norm_num)
  · rw [varR, rows_eq, Ideal.div_coe (by norm_num), meanR_padded h, hmean]
    simp only [hy, ← EReal.coe_sub, ← EReal.coe_mul]
    rw [← Fintype.sum_prod_type' fun b m => (((y (b, m) - (∑ i, y i) / 32768) * (y (b, m) - (∑ i, y i) / 32768) : ℝ) : EReal), coe_sum,
      ← EReal.coe_mul, mul_one_div]
  · rw [hsq, hmean, rows_eq, Ideal.div_coe (by norm_num), ← EReal.coe_mul, ← EReal.coe_mul, ← EReal.coe_sub, mul_one_div,
      variance_identity Finset.univ y 32768 (by norm_num) hN]

/-- The kernel's logit of a real activation is the reference's. -/
theorem logit (c : Fin 64) {x : EReal} (hx : IsReal x) :
    x * scaleK A c + biasK A c
      = Ideal.div (x - meanR A (padded A cu) c) (Ideal.sqrt (varR A (padded A cu) c + eps)) * A.g1 c + A.be1 c := by
  obtain ⟨μ, v, hv, e1, e2, e3⟩ := statistics hA h c
  obtain ⟨e, he, heq⟩ := eps_eq
  obtain ⟨g, hg⟩ := hA.g1 c
  obtain ⟨a, rfl⟩ := hx
  rw [meanR_padded h, biasK, scaleK, e3, e2, e1, hg, heq, ← EReal.coe_add]
  exact scale_shift a μ (v + e) g _ (by positivity)

/-- The padded rows' soft assignments: a segment's tokens' soft assignments, then the padding row's. -/
theorem assignR_padded (b : Fin 8) (m : ℕ) (c : Fin 64) :
    assignR A (padded A cu) b m c
      = if m < (cu b.succ).toNat - (cu b.castSucc).toNat then assignK A ((cu b.castSucc).toNat + m) c else padK A c := by
  unfold assignR assignK padK
  simp only [actR_padded]
  split
  · exact congrArg (fun z => smax z c) (funext fun c' => (logit hA h c' (hA.act _ c')).symm)
  · exact congrArg (fun z => smax z c) (funext fun c' => (logit hA h c' IsReal.zero).symm)

/-- The kernel's aggregated array is the reference's. -/
theorem aggK_eq_aggR : aggK A cu = aggR A (padded A cu) := by
  funext b f c
  have hlen : (cu b.succ).toNat - (cu b.castSucc).toNat ≤ 4096 := by have := h.len b; omega
  have e1 : ∑ m : Fin 4096, assignR A (padded A cu) b m.val c * padded A cu b m.val f
      = ∑ t : Fin 32, mask cu t.val b * tileV A t.val f c := by
    unfold tileV
    rw [h.sum_tokens (fun n => feat A n f * assignK A n c) b, ← h.add_len b]
    have := sum_padded (fun n => feat A n f * assignK A n c) 0 (cu b.castSucc).toNat _ hlen
    rw [smul_zero, add_zero] at this
    rw [← this]
    refine Finset.sum_congr rfl fun m _ => ?_
    rw [assignR_padded hA h, padded]
    split
    · exact mul_comm _ _
    · exact mul_zero _
  have e2 : ∑ m : Fin 4096, assignR A (padded A cu) b m.val c
      = (∑ t : Fin 32, mask cu t.val b * tileS A t.val c) + (segRows - tileRows * ∑ t : Fin 32, mask cu t.val b) * padK A c := by
    unfold tileS
    rw [h.sum_tokens (fun n => assignK A n c) b, h.padding b, ← EReal.nsmul_eq_mul, ← h.add_len b, Nat.add_sub_cancel_left,
      ← sum_padded (fun n => assignK A n c) (padK A c) (cu b.castSucc).toNat _ hlen]
    exact Finset.sum_congr rfl fun m _ => assignR_padded hA h b m.val c
  unfold aggK aggR
  rw [e1, e2]

/-- The kernel's result is the reference's. -/
theorem value_equation (b : Fin 8) (o : Fin 256) : tailK A (aggK A cu) b o = tailR A (aggR A (padded A cu)) b o := by
  rw [tailK_eq_tailR, aggK_eq_aggR hA h]

end

end Cert.ValueMath

end
-- ==== Proof.ReferenceRead.lean ====
module

public import proofs.«01_k».proof.Proof.Gen.ReferenceIdeal.Read
public import proofs.«01_k».proof.Proof.Gen.ReferenceIdeal
public import proofs.«01_k».proof.Proof.ValueMath
public import Idealize.ShloMosaic.Lib.Pipeline.ValueKit
public import Idealize.ShloMosaic.Lib.Claim
public import proofs.«01_k».proof.Proof.ValueConst

@[expose] public section

set_option maxRecDepth 16384
set_option maxHeartbeats 0

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.ValueMath

/-- A sum over the 32768 rows is the sum over the segments of the sums over a segment's 4096 rows. -/
theorem sum_rows (f : Fin 8 → ℕ → EReal) :
    ∑ r : Fin 32768, f ⟨r.val / 4096, by have := r.isLt; omega⟩ (r.val % 4096) = ∑ b, ∑ m : Fin 4096, f b m.val := by
  rw [← Fintype.sum_prod_type' (fun (b : Fin 8) (m : Fin 4096) => f b m.val)]
  exact Fintype.sum_equiv (finProdFinEquiv (m := 8) (n := 4096)).symm _ _ fun r => rfl

/-- A sum over the 4096 columns is the sum over the features of the sums over the clusters. -/
theorem sum_cols (f : ℕ → ℕ → EReal) :
    ∑ k : Fin 4096, f (k.val / 64) (k.val % 64) = ∑ p : Fin 64, ∑ q : Fin 64, f p.val q.val := by
  rw [← Fintype.sum_prod_type' (fun (p : Fin 64) (q : Fin 64) => f p.val q.val)]
  exact Fintype.sum_equiv (finProdFinEquiv (m := 64) (n := 64)).symm _ _ fun r => rfl

/-- The number the reference divides a variance of the rows by. -/
theorem call2_v8_apply (i : S_.Idx) : (val_main_call2_v8 (F := Ideal) ) i = rows := by
  pointwise [val_main_call2_v8, val_main_call2_cst_1, val_main_call2_v7, val_main_c_9]
  show rows - (((0#32 : BitVec 32).toInt : ℝ) : EReal) = rows
  simp

/-- That number is positive. -/
theorem call2_v12_apply (i : S_.Idx) : (val_main_call2_v12 (F := Ideal) ) i = 1#1 := by
  unfold val_main_call2_v12
  show Ideal.cmp .ogt ((val_main_call2_v8 (F := Ideal) ) i) (Ideal.ofBits .f32 0x00000000#32) = 1#1
  rw [call2_v8_apply, rows_eq, Ideal.ofBits_zero_f32]
  have h : (0 : EReal) < ((32768 : ℝ) : EReal) := by exact_mod_cast (by norm_num : (0 : ℝ) < 32768)
  simp [Ideal.cmp, h]

/-- The number the reference divides a variance over the segments by. -/
theorem call3_v8_apply (i : S_.Idx) : (val_main_call3_v8 (F := Ideal) ) i = eight := by
  pointwise [val_main_call3_v8, val_main_call3_cst_1, val_main_call3_v7, val_main_c_21]
  show eight - (((0#32 : BitVec 32).toInt : ℝ) : EReal) = eight
  simp

/-- That number is positive. -/
theorem call3_v12_apply (i : S_.Idx) : (val_main_call3_v12 (F := Ideal) ) i = 1#1 := by
  unfold val_main_call3_v12
  show Ideal.cmp .ogt ((val_main_call3_v8 (F := Ideal) ) i) (Ideal.ofBits .f32 0x00000000#32) = 1#1
  rw [call3_v8_apply, eight_eq, Ideal.ofBits_zero_f32]
  have h : (0 : EReal) < ((8 : ℝ) : EReal) := by exact_mod_cast (by norm_num : (0 : ℝ) < 8)
  simp [Ideal.cmp, h]

/-- The number the reference divides a variance over the segments by. -/
theorem call4_v8_apply (i : S_.Idx) : (val_main_call4_v8 (F := Ideal) ) i = eight := by
  pointwise [val_main_call4_v8, val_main_call4_cst_1, val_main_call4_v7, val_main_c_25]
  show eight - (((0#32 : BitVec 32).toInt : ℝ) : EReal) = eight
  simp

/-- That number is positive. -/
theorem call4_v12_apply (i : S_.Idx) : (val_main_call4_v12 (F := Ideal) ) i = 1#1 := by
  unfold val_main_call4_v12
  show Ideal.cmp .ogt ((val_main_call4_v8 (F := Ideal) ) i) (Ideal.ofBits .f32 0x00000000#32) = 1#1
  rw [call4_v8_apply, eight_eq, Ideal.ofBits_zero_f32]
  have h : (0 : EReal) < ((8 : ℝ) : EReal) := by exact_mod_cast (by norm_num : (0 : ℝ) < 8)
  simp [Ideal.cmp, h]

variable (x0 : (⟨S16384x4, .f32⟩ : BufTy).Contents (Elt Ideal))
    (x1 : (⟨S9, .i32⟩ : BufTy).Contents (Elt Ideal))
    (x2 : (⟨S4x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x64, .f32⟩ : BufTy).Contents (Elt Ideal))
    (x7 : (⟨S1x64x64, .f32⟩ : BufTy).Contents (Elt Ideal))
    (x8 : (⟨S4096x256, .f32⟩ : BufTy).Contents (Elt Ideal))
    (x9 : (⟨S64, .f32⟩ : BufTy).Contents (Elt Ideal))
    (x10 : (⟨S64, .f32⟩ : BufTy).Contents (Elt Ideal))
    (x11 : (⟨S256, .f32⟩ : BufTy).Contents (Elt Ideal))
    (x12 : (⟨S256, .f32⟩ : BufTy).Contents (Elt Ideal))
    (x13 : (⟨S256x256, .f32⟩ : BufTy).Contents (Elt Ideal))
    (x14 : (⟨S256, .f32⟩ : BufTy).Contents (Elt Ideal))
    (x15 : (⟨S256, .f32⟩ : BufTy).Contents (Elt Ideal))

/-- The reference's features of a token. -/
theorem v9_apply (n : Fin 16384) (k : Fin 64) : (val_main_v9 (F := Ideal) x0 x2 x3 x4 x5) (ix2 n k) = feat (mkArgs x0 x2 x3 x4 x5 x6 x7 x8 x9 x10 x11 x12 x13 x14 x15) n.val k := by
  pointwise [val_main_v9, val_main_v8, val_main_v5, val_main_v4, val_main_v3, val_main_v0, val_main_v2, val_main_v1, val_main_call0_v0, val_main_call0_cst, val_main_v7, val_main_v6, val_main_call1_v0, val_main_call1_cst]
  simp only [feat, mkArgs, n.isLt, dif_pos]

/-- A padded row's activations are its features applied to the cluster weights. -/
theorem v43_apply (b : Fin 8) (m : Fin 4096) (c : Fin 64) : (val_main_v43 (F := Ideal) x0 x1 x2 x3 x4 x5 x6) (ix3 b m c) = ∑ k, (val_main_v42 (F := Ideal) x0 x1 x2 x3 x4 x5) (ix3 b m k) * x6 (ix2 k c) := by
  pointwise [val_main_v43]

/-- The activations read as one matrix. -/
theorem v44_apply (r : Fin 32768) (c : Fin 64) : (val_main_v44 (F := Ideal) x0 x1 x2 x3 x4 x5 x6) (ix2 r c) = (val_main_v43 (F := Ideal) x0 x1 x2 x3 x4 x5 x6) (ix3 ⟨r.val / 4096, by have := r.isLt; omega⟩ ⟨r.val % 4096, by omega⟩ c) := by
  rw [val_main_v44_apply]
  congr 1
  funext a
  match a with
  | ⟨0, _⟩ => apply Fin.ext; show (r.val * 64 + c.val) / 262144 = r.val / 4096; have := c.isLt; omega
  | ⟨1, _⟩ => apply Fin.ext; show (r.val * 64 + c.val) / 64 % 4096 = r.val % 4096; have := c.isLt; omega
  | ⟨2, _⟩ => apply Fin.ext; show (r.val * 64 + c.val) % 64 = c.val; have := c.isLt; omega

/-- The activations' mean. -/
theorem v47_apply (c : Fin 64) : (val_main_v47 (F := Ideal) x0 x1 x2 x3 x4 x5 x6) (ix1 c) = Ideal.div (∑ r : Fin 32768, (val_main_v44 (F := Ideal) x0 x1 x2 x3 x4 x5 x6) (ix2 r c)) rows := by
  pointwise [val_main_v47, val_main_v45, val_main_cst_7, val_main_v46, val_main_cst_8]

/-- The mean the variance subtracts. -/
theorem call2_v3_apply (c : Fin 64) : (val_main_call2_v3 (F := Ideal) x0 x1 x2 x3 x4 x5 x6) (ix2 0 c) = Ideal.div (∑ r : Fin 32768, (val_main_v44 (F := Ideal) x0 x1 x2 x3 x4 x5 x6) (ix2 r c)) rows := by
  pointwise [val_main_call2_v3, val_main_call2_v1, val_main_call2_v0, val_main_call2_cst, val_main_call2_v2, val_main_call2_cst_0]

/-- The squares the variance sums. -/
theorem call2_v6_apply (r : Fin 32768) (c : Fin 64) : (val_main_call2_v6 (F := Ideal) x0 x1 x2 x3 x4 x5 x6) (ix2 r c) = ((val_main_v44 (F := Ideal) x0 x1 x2 x3 x4 x5 x6) (ix2 r c) - (val_main_call2_v3 (F := Ideal) x0 x1 x2 x3 x4 x5 x6) (ix2 0 c)) * ((val_main_v44 (F := Ideal) x0 x1 x2 x3 x4 x5 x6) (ix2 r c) - (val_main_call2_v3 (F := Ideal) x0 x1 x2 x3 x4 x5 x6) (ix2 0 c)) := by
  rw [val_main_call2_v6_apply, val_main_call2_v5_apply, val_main_call2_v4_apply]
  have h : idx_main_call2_v4 (ix2 r c) = ix2 0 c := by
    funext a
    match a with
    | ⟨0, _⟩ => rfl
    | ⟨1, _⟩ => rfl
  rw [h]
  generalize (val_main_v44 (F := Ideal) x0 x1 x2 x3 x4 x5 x6) (ix2 r c) = p
  generalize (val_main_call2_v3 (F := Ideal) x0 x1 x2 x3 x4 x5 x6) (ix2 0 c) = q
  rfl

/-- The mean of the squares. -/
theorem call2_v11_apply (c : Fin 64) : (val_main_call2_v11 (F := Ideal) x0 x1 x2 x3 x4 x5 x6) (ix1 c) = Ideal.div (∑ r : Fin 32768, (val_main_call2_v6 (F := Ideal) x0 x1 x2 x3 x4 x5 x6) (ix2 r c)) ((val_main_call2_v8 (F := Ideal) ) ix0) := by
  pointwise [val_main_call2_v11, val_main_call2_v9, val_main_call2_cst_2, val_main_call2_v10]

/-- The variance is the mean of the squares, its divisor being positive. -/
theorem v48_apply (c : Fin 64) : (val_main_v48 (F := Ideal) x0 x1 x2 x3 x4 x5 x6) (ix1 c) = (val_main_call2_v11 (F := Ideal) x0 x1 x2 x3 x4 x5 x6) (ix1 c) := by
  pointwise [val_main_v48]
  rw [call2_v12_apply]
  rfl

/-- The normalized activations. -/
theorem v63_apply (r : Fin 32768) (c : Fin 64) : (val_main_v63 (F := Ideal) x0 x1 x2 x3 x4 x5 x6 x9 x10) (ix2 r c) = Ideal.div ((val_main_v44 (F := Ideal) x0 x1 x2 x3 x4 x5 x6) (ix2 r c) - (val_main_v47 (F := Ideal) x0 x1 x2 x3 x4 x5 x6) (ix1 c)) (Ideal.sqrt ((val_main_v48 (F := Ideal) x0 x1 x2 x3 x4 x5 x6) (ix1 c) + eps)) * x9 (ix1 c) + x10 (ix1 c) := by
  rw [val_main_v63_apply, val_main_v60_apply, val_main_v57_apply, val_main_v51_apply, val_main_v50_apply, val_main_v49_apply, val_main_v56_apply, val_main_v55_apply, val_main_v54_apply, val_main_v53_apply, val_main_v52_apply, val_main_cst_10_apply, val_main_v59_apply, val_main_v58_apply, val_main_v62_apply, val_main_v61_apply]
  have h1 : idx_main_v49 (idx_main_v50 (ix2 r c)) = ix1 c := by
    funext a
    match a with
    | ⟨0, _⟩ => rfl
  have h2 : idx_main_v55 (idx_main_v56 (ix2 r c)) = ix1 c := by
    funext a
    match a with
    | ⟨0, _⟩ => rfl
  have h3 : idx_main_v58 (idx_main_v59 (ix2 r c)) = ix1 c := by
    funext a
    match a with
    | ⟨0, _⟩ => rfl
  have h4 : idx_main_v61 (idx_main_v62 (ix2 r c)) = ix1 c := by
    funext a
    match a with
    | ⟨0, _⟩ => rfl
  rw [h1, h2, h3, h4]
  generalize (val_main_v44 (F := Ideal) x0 x1 x2 x3 x4 x5 x6) (ix2 r c) = p
  generalize (val_main_v47 (F := Ideal) x0 x1 x2 x3 x4 x5 x6) (ix1 c) = q
  generalize (val_main_v48 (F := Ideal) x0 x1 x2 x3 x4 x5 x6) (ix1 c) = s
  rfl

/-- The normalized activations read by segment and row. -/
theorem v64_apply (b : Fin 8) (m : Fin 4096) (c : Fin 64) : (val_main_v64 (F := Ideal) x0 x1 x2 x3 x4 x5 x6 x9 x10) (ix3 b m c) = (val_main_v63 (F := Ideal) x0 x1 x2 x3 x4 x5 x6 x9 x10) (ix2 ⟨m.val + 4096 * b.val, by have := b.isLt; have := m.isLt; omega⟩ c) := by
  rw [val_main_v64_apply]
  congr 1
  funext a
  match a with
  | ⟨0, _⟩ => apply Fin.ext; show ((b.val * 4096 + m.val) * 64 + c.val) / 64 = m.val + 4096 * b.val; have := c.isLt; omega
  | ⟨1, _⟩ => apply Fin.ext; show ((b.val * 4096 + m.val) * 64 + c.val) % 64 = c.val; have := c.isLt; omega

/-- A row's largest logit. -/
theorem v65_apply (b : Fin 8) (m : Fin 4096) : (val_main_v65 (F := Ideal) x0 x1 x2 x3 x4 x5 x6 x9 x10) (ix2 b m) = Finset.fold max ninf (fun c : Fin 64 => (val_main_v64 (F := Ideal) x0 x1 x2 x3 x4 x5 x6 x9 x10) (ix3 b m c)) Finset.univ := by
  pointwise [val_main_v65, val_main_cst_11]

/-- The exponentials of a row. -/
theorem v71_apply (b : Fin 8) (m : Fin 4096) (c : Fin 64) : (val_main_v71 (F := Ideal) x0 x1 x2 x3 x4 x5 x6 x9 x10) (ix3 b m c) = Ideal.exp ((val_main_v64 (F := Ideal) x0 x1 x2 x3 x4 x5 x6 x9 x10) (ix3 b m c) - max ninf ((val_main_v65 (F := Ideal) x0 x1 x2 x3 x4 x5 x6 x9 x10) (ix2 b m))) := by
  rw [val_main_v71_apply, val_main_v70_apply, val_main_v69_apply, val_main_v68_apply, val_main_v67_apply, val_main_v66_apply, val_main_cst_12_apply]
  have h1 : idx_main_v68 (idx_main_v69 (ix3 b m c)) = ix2 b m := by
    funext a
    match a with
    | ⟨0, _⟩ => rfl
    | ⟨1, _⟩ => rfl
  rw [h1]
  generalize (val_main_v64 (F := Ideal) x0 x1 x2 x3 x4 x5 x6 x9 x10) (ix3 b m c) = p
  generalize (val_main_v65 (F := Ideal) x0 x1 x2 x3 x4 x5 x6 x9 x10) (ix2 b m) = q
  rfl

/-- A row's soft assignment. -/
theorem v75_apply (b : Fin 8) (m : Fin 4096) (c : Fin 64) : (val_main_v75 (F := Ideal) x0 x1 x2 x3 x4 x5 x6 x9 x10) (ix3 b m c) = Ideal.div ((val_main_v71 (F := Ideal) x0 x1 x2 x3 x4 x5 x6 x9 x10) (ix3 b m c)) (∑ j, (val_main_v71 (F := Ideal) x0 x1 x2 x3 x4 x5 x6 x9 x10) (ix3 b m j)) := by
  rw [val_main_v75_apply, val_main_v74_apply, val_main_v73_apply, val_main_v72_apply, val_main_cst_13_apply]
  have h1 : ∀ k, idx_main_v72 (idx_main_v73 (idx_main_v74 (ix3 b m c))) k = ix3 b m k := by
    intro k
    funext a
    match a with
    | ⟨0, _⟩ => rfl
    | ⟨1, _⟩ => rfl
    | ⟨2, _⟩ => rfl
  simp only [h1]
  generalize (val_main_v71 (F := Ideal) x0 x1 x2 x3 x4 x5 x6 x9 x10) = p
  show Ideal.div (p (ix3 b m c)) (Ideal.ofBits .f32 0x00000000#32 + ∑ k : Fin 64, (p (ix3 b m k) : EReal)) = _
  rw [Ideal.ofBits_zero_f32, zero_add]

/-- The aggregated array. -/
theorem v83_apply (b : Fin 8) (f c : Fin 64) : (val_main_v83 (F := Ideal) x0 x1 x2 x3 x4 x5 x6 x7 x9 x10) (ix3 b f c) = (∑ m : Fin 4096, (val_main_v75 (F := Ideal) x0 x1 x2 x3 x4 x5 x6 x9 x10) (ix3 b m c) * (val_main_v42 (F := Ideal) x0 x1 x2 x3 x4 x5) (ix3 b m f)) - (∑ m : Fin 4096, (val_main_v75 (F := Ideal) x0 x1 x2 x3 x4 x5 x6 x9 x10) (ix3 b m c)) * x7 (ix3 0 f c) := by
  pointwise [val_main_v83, val_main_v82, val_main_v81, val_main_v80, val_main_v78, val_main_v77, val_main_v76, val_main_cst_14, val_main_v79]

/-- The array with its columns normalized. -/
theorem v91_apply (b : Fin 8) (f c : Fin 64) : (val_main_v91 (F := Ideal) x0 x1 x2 x3 x4 x5 x6 x7 x9 x10) (ix3 b f c) = unit1 (fun b f c => (val_main_v83 (F := Ideal) x0 x1 x2 x3 x4 x5 x6 x7 x9 x10) (ix3 b f c)) b f c := by
  pointwise [val_main_v91, val_main_v90, val_main_v89, val_main_v87, val_main_v86, val_main_v85, val_main_v84, val_main_cst_15, val_main_v88, val_main_cst_16]
  rfl

/-- The normalized array read as a row of 4096 numbers. -/
theorem v92_apply (b : Fin 8) (k : Fin 4096) : (val_main_v92 (F := Ideal) x0 x1 x2 x3 x4 x5 x6 x7 x9 x10) (ix2 b k) = (val_main_v91 (F := Ideal) x0 x1 x2 x3 x4 x5 x6 x7 x9 x10) (ix3 b ⟨k.val / 64, by have := k.isLt; omega⟩ ⟨k.val % 64, by omega⟩) := by
  rw [val_main_v92_apply]
  congr 1
  funext a
  match a with
  | ⟨0, _⟩ => apply Fin.ext; show (b.val * 4096 + k.val) / 4096 = b.val; have := k.isLt; omega
  | ⟨1, _⟩ => apply Fin.ext; show (b.val * 4096 + k.val) / 64 % 64 = k.val / 64; have := k.isLt; omega
  | ⟨2, _⟩ => apply Fin.ext; show (b.val * 4096 + k.val) % 64 = k.val % 64; have := k.isLt; omega

/-- The row divided by its norm. -/
theorem v100_apply (b : Fin 8) (k : Fin 4096) : (val_main_v100 (F := Ideal) x0 x1 x2 x3 x4 x5 x6 x7 x9 x10) (ix2 b k) = Ideal.div ((val_main_v92 (F := Ideal) x0 x1 x2 x3 x4 x5 x6 x7 x9 x10) (ix2 b k)) (max (Ideal.sqrt (∑ k, (val_main_v92 (F := Ideal) x0 x1 x2 x3 x4 x5 x6 x7 x9 x10) (ix2 b k) * (val_main_v92 (F := Ideal) x0 x1 x2 x3 x4 x5 x6 x7 x9 x10) (ix2 b k))) tiny) := by
  pointwise [val_main_v100, val_main_v99, val_main_v98, val_main_v96, val_main_v95, val_main_v94, val_main_v93, val_main_cst_17, val_main_v97, val_main_cst_18]

/-- The row applied to the hidden weights. -/
theorem v101_apply (b : Fin 8) (o : Fin 256) : (val_main_v101 (F := Ideal) x0 x1 x2 x3 x4 x5 x6 x7 x8 x9 x10) (ix2 b o) = ∑ k : Fin 4096, (val_main_v100 (F := Ideal) x0 x1 x2 x3 x4 x5 x6 x7 x9 x10) (ix2 b k) * x8 (ix2 k o) := by
  pointwise [val_main_v101]

/-- The gates before their normalization. -/
theorem v121_apply (b : Fin 8) (o : Fin 256) : (val_main_v121 (F := Ideal) x0 x1 x2 x3 x4 x5 x6 x7 x8 x9 x10 x11 x12 x13) (ix2 b o) = ∑ k : Fin 256, (val_main_v120 (F := Ideal) x0 x1 x2 x3 x4 x5 x6 x7 x8 x9 x10 x11 x12) (ix2 b k) * x13 (ix2 k o) := by
  pointwise [val_main_v121]

/-- A column's mean over the segments. -/
theorem v104_apply (o : Fin 256) : (val_main_v104 (F := Ideal) x0 x1 x2 x3 x4 x5 x6 x7 x8 x9 x10) (ix1 o) = mean8 (fun b o => (val_main_v101 (F := Ideal) x0 x1 x2 x3 x4 x5 x6 x7 x8 x9 x10) (ix2 b o)) o := by
  pointwise [val_main_v104, val_main_v102, val_main_cst_19, val_main_v103, val_main_cst_20]
  rfl

/-- The mean of the squares over the segments. -/
theorem call3_v11_apply (o : Fin 256) : (val_main_call3_v11 (F := Ideal) x0 x1 x2 x3 x4 x5 x6 x7 x8 x9 x10) (ix1 o) = Ideal.div (∑ b : Fin 8, ((val_main_v101 (F := Ideal) x0 x1 x2 x3 x4 x5 x6 x7 x8 x9 x10) (ix2 b o) - Ideal.div (∑ b : Fin 8, (val_main_v101 (F := Ideal) x0 x1 x2 x3 x4 x5 x6 x7 x8 x9 x10) (ix2 b o)) eight) * ((val_main_v101 (F := Ideal) x0 x1 x2 x3 x4 x5 x6 x7 x8 x9 x10) (ix2 b o) - Ideal.div (∑ b : Fin 8, (val_main_v101 (F := Ideal) x0 x1 x2 x3 x4 x5 x6 x7 x8 x9 x10) (ix2 b o)) eight)) ((val_main_call3_v8 (F := Ideal) ) ix0) := by
  pointwise [val_main_call3_v11, val_main_call3_v9, val_main_call3_v6, val_main_call3_v5, val_main_call3_v4, val_main_call3_v3, val_main_call3_v1, val_main_call3_v0, val_main_call3_cst, val_main_call3_v2, val_main_call3_cst_0, val_main_call3_cst_2, val_main_call3_v10]

/-- A column's variance over the segments. -/
theorem v105_apply (o : Fin 256) : (val_main_v105 (F := Ideal) x0 x1 x2 x3 x4 x5 x6 x7 x8 x9 x10) (ix1 o) = var8 (fun b o => (val_main_v101 (F := Ideal) x0 x1 x2 x3 x4 x5 x6 x7 x8 x9 x10) (ix2 b o)) o := by
  have h : (val_main_v105 (F := Ideal) x0 x1 x2 x3 x4 x5 x6 x7 x8 x9 x10) (ix1 o) = (val_main_call3_v11 (F := Ideal) x0 x1 x2 x3 x4 x5 x6 x7 x8 x9 x10) (ix1 o) := by
    pointwise [val_main_v105]
    rw [call3_v12_apply]
    rfl
  rw [h, call3_v11_apply, call3_v8_apply]
  rfl

/-- The columns normalized over the segments. -/
theorem v120_apply (b : Fin 8) (o : Fin 256) : (val_main_v120 (F := Ideal) x0 x1 x2 x3 x4 x5 x6 x7 x8 x9 x10 x11 x12) (ix2 b o) = Ideal.div ((val_main_v101 (F := Ideal) x0 x1 x2 x3 x4 x5 x6 x7 x8 x9 x10) (ix2 b o) - (val_main_v104 (F := Ideal) x0 x1 x2 x3 x4 x5 x6 x7 x8 x9 x10) (ix1 o)) (Ideal.sqrt ((val_main_v105 (F := Ideal) x0 x1 x2 x3 x4 x5 x6 x7 x8 x9 x10) (ix1 o) + eps)) * x11 (ix1 o) + x12 (ix1 o) := by
  pointwise [val_main_v120, val_main_v117, val_main_v114, val_main_v108, val_main_v107, val_main_v106, val_main_v113, val_main_v112, val_main_v111, val_main_v110, val_main_v109, val_main_cst_22, val_main_v116, val_main_v115, val_main_v119, val_main_v118]

/-- A column's mean over the segments. -/
theorem v124_apply (o : Fin 256) : (val_main_v124 (F := Ideal) x0 x1 x2 x3 x4 x5 x6 x7 x8 x9 x10 x11 x12 x13) (ix1 o) = mean8 (fun b o => (val_main_v121 (F := Ideal) x0 x1 x2 x3 x4 x5 x6 x7 x8 x9 x10 x11 x12 x13) (ix2 b o)) o := by
  pointwise [val_main_v124, val_main_v122, val_main_cst_23, val_main_v123, val_main_cst_24]
  rfl

/-- The mean of the squares over the segments. -/
theorem call4_v11_apply (o : Fin 256) : (val_main_call4_v11 (F := Ideal) x0 x1 x2 x3 x4 x5 x6 x7 x8 x9 x10 x11 x12 x13) (ix1 o) = Ideal.div (∑ b : Fin 8, ((val_main_v121 (F := Ideal) x0 x1 x2 x3 x4 x5 x6 x7 x8 x9 x10 x11 x12 x13) (ix2 b o) - Ideal.div (∑ b : Fin 8, (val_main_v121 (F := Ideal) x0 x1 x2 x3 x4 x5 x6 x7 x8 x9 x10 x11 x12 x13) (ix2 b o)) eight) * ((val_main_v121 (F := Ideal) x0 x1 x2 x3 x4 x5 x6 x7 x8 x9 x10 x11 x12 x13) (ix2 b o) - Ideal.div (∑ b : Fin 8, (val_main_v121 (F := Ideal) x0 x1 x2 x3 x4 x5 x6 x7 x8 x9 x10 x11 x12 x13) (ix2 b o)) eight)) ((val_main_call4_v8 (F := Ideal) ) ix0) := by
  pointwise [val_main_call4_v11, val_main_call4_v9, val_main_call4_v6, val_main_call4_v5, val_main_call4_v4, val_main_call4_v3, val_main_call4_v1, val_main_call4_v0, val_main_call4_cst, val_main_call4_v2, val_main_call4_cst_0, val_main_call4_cst_2, val_main_call4_v10]

/-- A column's variance over the segments. -/
theorem v125_apply (o : Fin 256) : (val_main_v125 (F := Ideal) x0 x1 x2 x3 x4 x5 x6 x7 x8 x9 x10 x11 x12 x13) (ix1 o) = var8 (fun b o => (val_main_v121 (F := Ideal) x0 x1 x2 x3 x4 x5 x6 x7 x8 x9 x10 x11 x12 x13) (ix2 b o)) o := by
  have h : (val_main_v125 (F := Ideal) x0 x1 x2 x3 x4 x5 x6 x7 x8 x9 x10 x11 x12 x13) (ix1 o) = (val_main_call4_v11 (F := Ideal) x0 x1 x2 x3 x4 x5 x6 x7 x8 x9 x10 x11 x12 x13) (ix1 o) := by
    pointwise [val_main_v125]
    rw [call4_v12_apply]
    rfl
  rw [h, call4_v11_apply, call4_v8_apply]
  rfl

/-- The columns normalized over the segments. -/
theorem v140_apply (b : Fin 8) (o : Fin 256) : (val_main_v140 (F := Ideal) x0 x1 x2 x3 x4 x5 x6 x7 x8 x9 x10 x11 x12 x13 x14 x15) (ix2 b o) = Ideal.div ((val_main_v121 (F := Ideal) x0 x1 x2 x3 x4 x5 x6 x7 x8 x9 x10 x11 x12 x13) (ix2 b o) - (val_main_v124 (F := Ideal) x0 x1 x2 x3 x4 x5 x6 x7 x8 x9 x10 x11 x12 x13) (ix1 o)) (Ideal.sqrt ((val_main_v125 (F := Ideal) x0 x1 x2 x3 x4 x5 x6 x7 x8 x9 x10 x11 x12 x13) (ix1 o) + eps)) * x14 (ix1 o) + x15 (ix1 o) := by
  pointwise [val_main_v140, val_main_v137, val_main_v134, val_main_v128, val_main_v127, val_main_v126, val_main_v133, val_main_v132, val_main_v131, val_main_v130, val_main_v129, val_main_cst_26, val_main_v136, val_main_v135, val_main_v139, val_main_v138]

/-- The result is the normalized array times the logistic function of the normalized gates. -/
theorem v147_apply (b : Fin 8) (o : Fin 256) : (val_main_v147 (F := Ideal) x0 x1 x2 x3 x4 x5 x6 x7 x8 x9 x10 x11 x12 x13 x14 x15) (ix2 b o) = (val_main_v120 (F := Ideal) x0 x1 x2 x3 x4 x5 x6 x7 x8 x9 x10 x11 x12) (ix2 b o) * Ideal.div 1 (1 + Ideal.exp (- (val_main_v140 (F := Ideal) x0 x1 x2 x3 x4 x5 x6 x7 x8 x9 x10 x11 x12 x13 x14 x15) (ix2 b o))) := by
  pointwise [val_main_v147, val_main_v146, val_main_v145, val_main_cst_28, val_main_v144, val_main_v143, val_main_cst_27, val_main_v142, val_main_v141]

end Cert.ReferenceIdeal.Hand

end
-- ==== Proof.ReferenceTail.lean ====
module

public import proofs.«01_k».proof.Proof.Gen.ReferenceIdeal.Read
public import proofs.«01_k».proof.Proof.Gen.ReferenceIdeal
public import proofs.«01_k».proof.Proof.ValueMath
public import Idealize.ShloMosaic.Lib.Pipeline.ValueKit
public import Idealize.ShloMosaic.Lib.Claim
public import proofs.«01_k».proof.Proof.ReferenceRead

@[expose] public section

set_option maxRecDepth 16384
set_option maxHeartbeats 0

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.ValueMath

/-- A row's largest number is at least the least number. -/
theorem max_fold (z : Fin 64 → EReal) : max ninf (Finset.fold max ninf z Finset.univ) = Finset.fold max ninf z Finset.univ :=
  max_eq_right ((Finset.le_fold_max _).mpr (Or.inl le_rfl))

variable (x0 : (⟨S16384x4, .f32⟩ : BufTy).Contents (Elt Ideal))
    (x1 : (⟨S9, .i32⟩ : BufTy).Contents (Elt Ideal))
    (x2 : (⟨S4x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x64, .f32⟩ : BufTy).Contents (Elt Ideal))
    (x7 : (⟨S1x64x64, .f32⟩ : BufTy).Contents (Elt Ideal))
    (x8 : (⟨S4096x256, .f32⟩ : BufTy).Contents (Elt Ideal))
    (x9 : (⟨S64, .f32⟩ : BufTy).Contents (Elt Ideal))
    (x10 : (⟨S64, .f32⟩ : BufTy).Contents (Elt Ideal))
    (x11 : (⟨S256, .f32⟩ : BufTy).Contents (Elt Ideal))
    (x12 : (⟨S256, .f32⟩ : BufTy).Contents (Elt Ideal))
    (x13 : (⟨S256x256, .f32⟩ : BufTy).Contents (Elt Ideal))
    (x14 : (⟨S256, .f32⟩ : BufTy).Contents (Elt Ideal))
    (x15 : (⟨S256, .f32⟩ : BufTy).Contents (Elt Ideal))
    (x : Fin 8 → ℕ → Fin 64 → EReal)
    (hx : ∀ (b : Fin 8) (m : Fin 4096) (f : Fin 64), (val_main_v42 (F := Ideal) x0 x1 x2 x3 x4 x5) (ix3 b m f) = x b m.val f)

include hx

/-- The padded activations. -/
theorem act_value (b : Fin 8) (m : Fin 4096) (c : Fin 64) : (val_main_v43 (F := Ideal) x0 x1 x2 x3 x4 x5 x6) (ix3 b m c) = actR (mkArgs x0 x2 x3 x4 x5 x6 x7 x8 x9 x10 x11 x12 x13 x14 x15) x b m.val c := by
  rw [v43_apply]
  simp only [hx]
  rfl

/-- The padded activations read as one matrix. -/
theorem row_value (r : Fin 32768) (c : Fin 64) :
    (val_main_v44 (F := Ideal) x0 x1 x2 x3 x4 x5 x6) (ix2 r c) = actR (mkArgs x0 x2 x3 x4 x5 x6 x7 x8 x9 x10 x11 x12 x13 x14 x15) x ⟨r.val / 4096, by have := r.isLt; omega⟩ (r.val % 4096) c := by
  rw [v44_apply, (act_value x0 x1 x2 x3 x4 x5 x6 x7 x8 x9 x10 x11 x12 x13 x14 x15 x hx)]

/-- The padded activations' mean. -/
theorem mean_value (c : Fin 64) : (val_main_v47 (F := Ideal) x0 x1 x2 x3 x4 x5 x6) (ix1 c) = meanR (mkArgs x0 x2 x3 x4 x5 x6 x7 x8 x9 x10 x11 x12 x13 x14 x15) x c := by
  rw [v47_apply]
  simp only [(row_value x0 x1 x2 x3 x4 x5 x6 x7 x8 x9 x10 x11 x12 x13 x14 x15 x hx)]
  rw [sum_rows fun b m => actR (mkArgs x0 x2 x3 x4 x5 x6 x7 x8 x9 x10 x11 x12 x13 x14 x15) x b m c]
  rfl

/-- The padded activations' variance. -/
theorem var_value (c : Fin 64) : (val_main_v48 (F := Ideal) x0 x1 x2 x3 x4 x5 x6) (ix1 c) = varR (mkArgs x0 x2 x3 x4 x5 x6 x7 x8 x9 x10 x11 x12 x13 x14 x15) x c := by
  rw [v48_apply, call2_v11_apply, call2_v8_apply]
  have h3 : (val_main_call2_v3 (F := Ideal) x0 x1 x2 x3 x4 x5 x6) (ix2 0 c) = meanR (mkArgs x0 x2 x3 x4 x5 x6 x7 x8 x9 x10 x11 x12 x13 x14 x15) x c := by
    rw [call2_v3_apply, ← v47_apply]
    exact (mean_value x0 x1 x2 x3 x4 x5 x6 x7 x8 x9 x10 x11 x12 x13 x14 x15 x hx c)
  simp only [call2_v6_apply, h3, (row_value x0 x1 x2 x3 x4 x5 x6 x7 x8 x9 x10 x11 x12 x13 x14 x15 x hx)]
  rw [sum_rows fun b m => (actR (mkArgs x0 x2 x3 x4 x5 x6 x7 x8 x9 x10 x11 x12 x13 x14 x15) x b m c - meanR (mkArgs x0 x2 x3 x4 x5 x6 x7 x8 x9 x10 x11 x12 x13 x14 x15) x c) * (actR (mkArgs x0 x2 x3 x4 x5 x6 x7 x8 x9 x10 x11 x12 x13 x14 x15) x b m c - meanR (mkArgs x0 x2 x3 x4 x5 x6 x7 x8 x9 x10 x11 x12 x13 x14 x15) x c)]
  rfl

/-- The normalized activations. -/
theorem norm_value (b : Fin 8) (m : Fin 4096) (c : Fin 64) :
    (val_main_v64 (F := Ideal) x0 x1 x2 x3 x4 x5 x6 x9 x10) (ix3 b m c) = Ideal.div (actR (mkArgs x0 x2 x3 x4 x5 x6 x7 x8 x9 x10 x11 x12 x13 x14 x15) x b m.val c - meanR (mkArgs x0 x2 x3 x4 x5 x6 x7 x8 x9 x10 x11 x12 x13 x14 x15) x c) (Ideal.sqrt (varR (mkArgs x0 x2 x3 x4 x5 x6 x7 x8 x9 x10 x11 x12 x13 x14 x15) x c + eps)) * (mkArgs x0 x2 x3 x4 x5 x6 x7 x8 x9 x10 x11 x12 x13 x14 x15).g1 c + (mkArgs x0 x2 x3 x4 x5 x6 x7 x8 x9 x10 x11 x12 x13 x14 x15).be1 c := by
  rw [v64_apply, v63_apply, (row_value x0 x1 x2 x3 x4 x5 x6 x7 x8 x9 x10 x11 x12 x13 x14 x15 x hx), (mean_value x0 x1 x2 x3 x4 x5 x6 x7 x8 x9 x10 x11 x12 x13 x14 x15 x hx), (var_value x0 x1 x2 x3 x4 x5 x6 x7 x8 x9 x10 x11 x12 x13 x14 x15 x hx)]
  have h1 : (⟨(m.val + 4096 * b.val) / 4096, by have := b.isLt; have := m.isLt; omega⟩ : Fin 8) = b := by
    apply Fin.ext
    show (m.val + 4096 * b.val) / 4096 = b.val
    have := m.isLt
    omega
  have h2 : (m.val + 4096 * b.val) % 4096 = m.val := by have := m.isLt; omega
  simp only [h1, h2]
  rfl

/-- The soft assignments. -/
theorem assign_value (b : Fin 8) (m : Fin 4096) (c : Fin 64) : (val_main_v75 (F := Ideal) x0 x1 x2 x3 x4 x5 x6 x9 x10) (ix3 b m c) = assignR (mkArgs x0 x2 x3 x4 x5 x6 x7 x8 x9 x10 x11 x12 x13 x14 x15) x b m.val c := by
  rw [v75_apply]
  simp only [v71_apply, v65_apply, max_fold, (norm_value x0 x1 x2 x3 x4 x5 x6 x7 x8 x9 x10 x11 x12 x13 x14 x15 x hx)]
  rfl

/-- The aggregated array. -/
theorem agg_value (b : Fin 8) (f c : Fin 64) : (val_main_v83 (F := Ideal) x0 x1 x2 x3 x4 x5 x6 x7 x9 x10) (ix3 b f c) = aggR (mkArgs x0 x2 x3 x4 x5 x6 x7 x8 x9 x10 x11 x12 x13 x14 x15) x b f c := by
  rw [v83_apply]
  simp only [(assign_value x0 x1 x2 x3 x4 x5 x6 x7 x8 x9 x10 x11 x12 x13 x14 x15 x hx), hx]
  rfl

/-- The aggregated array with its columns normalized. -/
theorem unit_value (b : Fin 8) (f c : Fin 64) : (val_main_v91 (F := Ideal) x0 x1 x2 x3 x4 x5 x6 x7 x9 x10) (ix3 b f c) = unit1 (aggR (mkArgs x0 x2 x3 x4 x5 x6 x7 x8 x9 x10 x11 x12 x13 x14 x15) x) b f c := by
  rw [v91_apply]
  simp only [(agg_value x0 x1 x2 x3 x4 x5 x6 x7 x8 x9 x10 x11 x12 x13 x14 x15 x hx)]

/-- The normalized array applied to the hidden weights. -/
theorem hidden_value (b : Fin 8) (o : Fin 256) : (val_main_v101 (F := Ideal) x0 x1 x2 x3 x4 x5 x6 x7 x8 x9 x10) (ix2 b o) = hidden (mkArgs x0 x2 x3 x4 x5 x6 x7 x8 x9 x10 x11 x12 x13 x14 x15) (aggR (mkArgs x0 x2 x3 x4 x5 x6 x7 x8 x9 x10 x11 x12 x13 x14 x15) x) b o := by
  have hn : ∀ k : Fin 4096, (val_main_v92 (F := Ideal) x0 x1 x2 x3 x4 x5 x6 x7 x9 x10) (ix2 b k)
      = (fun p q : ℕ => if h : p < 64 ∧ q < 64 then unit1 (aggR (mkArgs x0 x2 x3 x4 x5 x6 x7 x8 x9 x10 x11 x12 x13 x14 x15) x) b ⟨p, h.1⟩ ⟨q, h.2⟩ else 0) (k.val / 64) (k.val % 64) := by
    intro k
    have hk := k.isLt
    have h : k.val / 64 < 64 ∧ k.val % 64 < 64 := by omega
    rw [v92_apply, (unit_value x0 x1 x2 x3 x4 x5 x6 x7 x8 x9 x10 x11 x12 x13 x14 x15 x hx)]
    beta_reduce
    rw [dif_pos h]
  have hw : ∀ k : Fin 4096, x8 (ix2 k o)
      = (fun p q : ℕ => if h : p < 64 ∧ q < 64 then (mkArgs x0 x2 x3 x4 x5 x6 x7 x8 x9 x10 x11 x12 x13 x14 x15).hw ⟨p, h.1⟩ ⟨q, h.2⟩ o else 0) (k.val / 64) (k.val % 64) := by
    intro k
    have hk := k.isLt
    have h : k.val / 64 < 64 ∧ k.val % 64 < 64 := by omega
    refine Eq.trans ?_ (dif_pos h).symm
    refine congrArg (fun z => x8 (ix2 z o)) (Fin.ext ?_)
    show k.val = 64 * (k.val / 64) + k.val % 64
    omega
  have hs : ∀ b', b' = b → (∑ k : Fin 4096, (val_main_v92 (F := Ideal) x0 x1 x2 x3 x4 x5 x6 x7 x9 x10) (ix2 b' k) * (val_main_v92 (F := Ideal) x0 x1 x2 x3 x4 x5 x6 x7 x9 x10) (ix2 b' k) : EReal) = ∑ f, ∑ c, unit1 (aggR (mkArgs x0 x2 x3 x4 x5 x6 x7 x8 x9 x10 x11 x12 x13 x14 x15) x) b f c * unit1 (aggR (mkArgs x0 x2 x3 x4 x5 x6 x7 x8 x9 x10 x11 x12 x13 x14 x15) x) b f c := by
    rintro _ rfl
    simp only [hn]
    refine (sum_cols fun p q => (fun p q : ℕ => if h : p < 64 ∧ q < 64 then unit1 (aggR (mkArgs x0 x2 x3 x4 x5 x6 x7 x8 x9 x10 x11 x12 x13 x14 x15) x) _ ⟨p, h.1⟩ ⟨q, h.2⟩ else 0) p q * (fun p q : ℕ => if h : p < 64 ∧ q < 64 then unit1 (aggR (mkArgs x0 x2 x3 x4 x5 x6 x7 x8 x9 x10 x11 x12 x13 x14 x15) x) _ ⟨p, h.1⟩ ⟨q, h.2⟩ else 0) p q).trans ?_
    refine Finset.sum_congr rfl fun p _ => Finset.sum_congr rfl fun q _ => ?_
    simp only [p.isLt, q.isLt, and_self, dif_pos]
  rw [v101_apply]
  simp only [v100_apply]
  rw [hs b rfl]
  simp only [hn, hw]
  refine (sum_cols fun p q => Ideal.div (if h : p < 64 ∧ q < 64 then unit1 (aggR (mkArgs x0 x2 x3 x4 x5 x6 x7 x8 x9 x10 x11 x12 x13 x14 x15) x) b ⟨p, h.1⟩ ⟨q, h.2⟩ else 0) (norm2 (aggR (mkArgs x0 x2 x3 x4 x5 x6 x7 x8 x9 x10 x11 x12 x13 x14 x15) x) b) * (if h : p < 64 ∧ q < 64 then (mkArgs x0 x2 x3 x4 x5 x6 x7 x8 x9 x10 x11 x12 x13 x14 x15).hw ⟨p, h.1⟩ ⟨q, h.2⟩ o else 0)).trans ?_
  refine Finset.sum_congr rfl fun p _ => Finset.sum_congr rfl fun q _ => ?_
  simp only [p.isLt, q.isLt, and_self, dif_pos]

/-- The hidden array normalized over the segments. -/
theorem bn_value (b : Fin 8) (o : Fin 256) : (val_main_v120 (F := Ideal) x0 x1 x2 x3 x4 x5 x6 x7 x8 x9 x10 x11 x12) (ix2 b o) = bnR (hidden (mkArgs x0 x2 x3 x4 x5 x6 x7 x8 x9 x10 x11 x12 x13 x14 x15) (aggR (mkArgs x0 x2 x3 x4 x5 x6 x7 x8 x9 x10 x11 x12 x13 x14 x15) x)) (mkArgs x0 x2 x3 x4 x5 x6 x7 x8 x9 x10 x11 x12 x13 x14 x15).g2 (mkArgs x0 x2 x3 x4 x5 x6 x7 x8 x9 x10 x11 x12 x13 x14 x15).be2 b o := by
  rw [v120_apply, v104_apply, v105_apply]
  simp only [(hidden_value x0 x1 x2 x3 x4 x5 x6 x7 x8 x9 x10 x11 x12 x13 x14 x15 x hx)]
  rfl

/-- The gates. -/
theorem gates_value (b : Fin 8) (o : Fin 256) :
    (val_main_v121 (F := Ideal) x0 x1 x2 x3 x4 x5 x6 x7 x8 x9 x10 x11 x12 x13) (ix2 b o) = gates (mkArgs x0 x2 x3 x4 x5 x6 x7 x8 x9 x10 x11 x12 x13 x14 x15) (bnR (hidden (mkArgs x0 x2 x3 x4 x5 x6 x7 x8 x9 x10 x11 x12 x13 x14 x15) (aggR (mkArgs x0 x2 x3 x4 x5 x6 x7 x8 x9 x10 x11 x12 x13 x14 x15) x)) (mkArgs x0 x2 x3 x4 x5 x6 x7 x8 x9 x10 x11 x12 x13 x14 x15).g2 (mkArgs x0 x2 x3 x4 x5 x6 x7 x8 x9 x10 x11 x12 x13 x14 x15).be2) b o := by
  rw [v121_apply]
  simp only [(bn_value x0 x1 x2 x3 x4 x5 x6 x7 x8 x9 x10 x11 x12 x13 x14 x15 x hx)]
  rfl

/-- The gates normalized over the segments. -/
theorem bn_gates_value (b : Fin 8) (o : Fin 256) :
    (val_main_v140 (F := Ideal) x0 x1 x2 x3 x4 x5 x6 x7 x8 x9 x10 x11 x12 x13 x14 x15) (ix2 b o) = bnR (gates (mkArgs x0 x2 x3 x4 x5 x6 x7 x8 x9 x10 x11 x12 x13 x14 x15) (bnR (hidden (mkArgs x0 x2 x3 x4 x5 x6 x7 x8 x9 x10 x11 x12 x13 x14 x15) (aggR (mkArgs x0 x2 x3 x4 x5 x6 x7 x8 x9 x10 x11 x12 x13 x14 x15) x)) (mkArgs x0 x2 x3 x4 x5 x6 x7 x8 x9 x10 x11 x12 x13 x14 x15).g2 (mkArgs x0 x2 x3 x4 x5 x6 x7 x8 x9 x10 x11 x12 x13 x14 x15).be2)) (mkArgs x0 x2 x3 x4 x5 x6 x7 x8 x9 x10 x11 x12 x13 x14 x15).gg (mkArgs x0 x2 x3 x4 x5 x6 x7 x8 x9 x10 x11 x12 x13 x14 x15).gb b o := by
  rw [v140_apply, v124_apply, v125_apply]
  simp only [(gates_value x0 x1 x2 x3 x4 x5 x6 x7 x8 x9 x10 x11 x12 x13 x14 x15 x hx)]
  rfl

/-- The reference's result from its padded array. -/
theorem result_value (b : Fin 8) (o : Fin 256) : (val_main_v147 (F := Ideal) x0 x1 x2 x3 x4 x5 x6 x7 x8 x9 x10 x11 x12 x13 x14 x15) (ix2 b o) = tailR (mkArgs x0 x2 x3 x4 x5 x6 x7 x8 x9 x10 x11 x12 x13 x14 x15) (aggR (mkArgs x0 x2 x3 x4 x5 x6 x7 x8 x9 x10 x11 x12 x13 x14 x15) x) b o := by
  rw [v147_apply, (bn_value x0 x1 x2 x3 x4 x5 x6 x7 x8 x9 x10 x11 x12 x13 x14 x15 x hx), (bn_gates_value x0 x1 x2 x3 x4 x5 x6 x7 x8 x9 x10 x11 x12 x13 x14 x15 x hx)]
  rfl

end Cert.ReferenceIdeal.Hand

end
-- ==== Proof.ReferenceSegments.lean ====
module

public import proofs.«01_k».proof.Proof.Gen.ReferenceIdeal.Read
public import proofs.«01_k».proof.Proof.Gen.ReferenceIdeal
public import proofs.«01_k».proof.Proof.ValueMath
public import Idealize.ShloMosaic.Lib.Pipeline.ValueKit
public import Idealize.ShloMosaic.Lib.Claim
public import proofs.«01_k».proof.Proof.ReferenceTail
public import proofs.«01_k».proof.Proof.ValueSegments
public import Idealize.ShloMosaic.Lib.Routing.Ops
public import Idealize.ShloMosaic.Lib.Routing.OpsSet
public import Idealize.ShloMosaic.Lib.Routing.OpsPair

@[expose] public section

set_option maxRecDepth 16384
set_option maxHeartbeats 0

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.ValueMath

variable (x0 : (⟨S16384x4, .f32⟩ : BufTy).Contents (Elt Ideal))
    (x1 : (⟨S9, .i32⟩ : BufTy).Contents (Elt Ideal))
    (x2 : (⟨S4x64, .f32⟩ : BufTy).Contents (Elt Ideal))
    (x3 : (⟨S64, .f32⟩ : BufTy).Contents (Elt Ideal))
    (x4 : (⟨S64x64, .f32⟩ : BufTy).Contents (Elt Ideal))
    (x5 : (⟨S64, .f32⟩ : BufTy).Contents (Elt Ideal))
    (x6 : (⟨S64x64, .f32⟩ : BufTy).Contents (Elt Ideal))
    (x7 : (⟨S1x64x64, .f32⟩ : BufTy).Contents (Elt Ideal))
    (x8 : (⟨S4096x256, .f32⟩ : BufTy).Contents (Elt Ideal))
    (x9 : (⟨S64, .f32⟩ : BufTy).Contents (Elt Ideal))
    (x10 : (⟨S64, .f32⟩ : BufTy).Contents (Elt Ideal))
    (x11 : (⟨S256, .f32⟩ : BufTy).Contents (Elt Ideal))
    (x12 : (⟨S256, .f32⟩ : BufTy).Contents (Elt Ideal))
    (x13 : (⟨S256x256, .f32⟩ : BufTy).Contents (Elt Ideal))
    (x14 : (⟨S256, .f32⟩ : BufTy).Contents (Elt Ideal))
    (x15 : (⟨S256, .f32⟩ : BufTy).Contents (Elt Ideal))

/-- Whether a boundary is at most a token. -/
theorem v15_apply (n : Fin 16384) (q : Fin 9) : (val_main_v15 (F := Ideal) x1) (ix2 n q) = IntOp.cmpi .sle (x1 (ix1 q)) (BitVec.ofNat 32 n.val) := by
  pointwise [val_main_v15, val_main_v13, val_main_v11, val_main_v14, val_main_v12, val_main_v10]

/-- The segment read as a position among the boundaries. -/
theorem v24_apply (n : Fin 16384) : (val_main_v24 (F := Ideal) x1) (ix1 n) = Scalar.select (IntOp.cmpi .slt ((val_main_v19 (F := Ideal) x1) (ix1 n)) 0#32) (IntOp.addi ((val_main_v19 (F := Ideal) x1) (ix1 n)) 9#32) ((val_main_v19 (F := Ideal) x1) (ix1 n)) := by
  pointwise [val_main_v24, val_main_v21, val_main_v20, val_main_c_1, val_main_v23, val_main_v22, val_main_c_2]

/-- The segment is the number of boundaries passed, less one. -/
theorem v19_apply (n : Fin 16384) : (val_main_v19 (F := Ideal) x1) (ix1 n) = IntOp.subi ((val_main_v17 (F := Ideal) x1) (ix1 n)) 1#32 := by
  pointwise [val_main_v19, val_main_v18, val_main_c_0]

/-- The token's place in its segment. -/
theorem v27_apply (n : Fin 16384) : (val_main_v27 (F := Ideal) x1) (ix1 n) = IntOp.subi (BitVec.ofNat 32 n.val) ((val_main_v26 (F := Ideal) x1) (ix1 n)) := by
  pointwise [val_main_v27, val_main_v10]

/-- The segment as the scatter reads it. -/
theorem v41_0_apply (n : Fin 16384) : (val_main_v41 (F := Ideal) x1) (ix2 n 0) = Scalar.select (IntOp.cmpi .slt ((val_main_v19 (F := Ideal) x1) (ix1 n)) 0#32) (IntOp.addi ((val_main_v19 (F := Ideal) x1) (ix1 n)) 8#32) ((val_main_v19 (F := Ideal) x1) (ix1 n)) := by
  pointwise [val_main_v41, val_main_v39, val_main_v33, val_main_v30, val_main_v29, val_main_c_3, val_main_v32, val_main_v31, val_main_c_4, val_main_v40, val_main_v38, val_main_v35, val_main_v34, val_main_c_5, val_main_v37, val_main_v36, val_main_c_6]

/-- The place as the scatter reads it. -/
theorem v41_1_apply (n : Fin 16384) : (val_main_v41 (F := Ideal) x1) (ix2 n 1) = Scalar.select (IntOp.cmpi .slt ((val_main_v27 (F := Ideal) x1) (ix1 n)) 0#32) (IntOp.addi ((val_main_v27 (F := Ideal) x1) (ix1 n)) 4096#32) ((val_main_v27 (F := Ideal) x1) (ix1 n)) := by
  pointwise [val_main_v41, val_main_v39, val_main_v33, val_main_v30, val_main_v29, val_main_c_3, val_main_v32, val_main_v31, val_main_c_4, val_main_v40, val_main_v38, val_main_v35, val_main_v34, val_main_c_5, val_main_v37, val_main_v36, val_main_c_6]

/-- The positions the boundaries are gathered at. -/
theorem v25_apply (n : Fin 16384) : (val_main_v25 (F := Ideal) x1) (ix2 n 0) = (val_main_v24 (F := Ideal) x1) (ix1 n) := by
  pointwise [val_main_v25]

/-- The array scattered into is zero. -/
theorem v28_apply (b : Fin 8) (m : Fin 4096) (f : Fin 64) : (val_main_v28 (F := Ideal) ) (ix3 b m f) = 0 := by
  pointwise [val_main_v28, val_main_cst]

/-- An update lands at the segment, place and feature its two words and its column name. -/
theorem lands (idx : IVec S16384x2 32) (k : Fin 16384) (g : Fin 64) (b : Fin 8) (m : Fin 4096) (f : Fin 64) :
    scatter_S8x4096x64_S16384x2_S16384x64_1_01_01_1.resultIdx? (ix2 k g) idx = some (ix3 b m f)
      ↔ (idx (ix2 k 0)).toInt = b.val ∧ (idx (ix2 k 1)).toInt = m.val ∧ g = f := by
  have hs : ∀ q : Fin 2, scatter_S8x4096x64_S16384x2_S16384x64_1_01_01_1.start (ix2 k g) idx (q.castSucc) = (idx (ix2 k q)).toInt := by
    intro q
    have hm : q.castSucc ∈ scatter_S8x4096x64_S16384x2_S16384x64_1_01_01_1.scatterDimsToOperandDims := by fin_cases q <;> simp [scatter_S8x4096x64_S16384x2_S16384x64_1_01_01_1]
    have hsi : scatter_S8x4096x64_S16384x2_S16384x64_1_01_01_1.siIdx (ix2 k g) ⟨scatter_S8x4096x64_S16384x2_S16384x64_1_01_01_1.scatterDimsToOperandDims.idxOf q.castSucc, List.idxOf_lt_length_iff.2 hm⟩ = ix2 k q := by
      funext a
      apply Fin.ext
      match a with
      | ⟨0, _⟩ => rfl
      | ⟨1, _⟩ => fin_cases q <;> rfl
    unfold ScatterDims.start
    rw [dif_pos hm, hsi]
  have hs2 : scatter_S8x4096x64_S16384x2_S16384x64_1_01_01_1.start (ix2 k g) idx 2 = 0 := rfl
  have hw0 : scatter_S8x4096x64_S16384x2_S16384x64_1_01_01_1.window (ix2 k g) 0 = 0 := rfl
  have hw1 : scatter_S8x4096x64_S16384x2_S16384x64_1_01_01_1.window (ix2 k g) 1 = 0 := rfl
  have hw2 : scatter_S8x4096x64_S16384x2_S16384x64_1_01_01_1.window (ix2 k g) 2 = g.val := rfl
  rw [Idealize.ShloMosaic.Routing.resultIdx?_eq_some]
  have h0 := hs 0
  have h1 := hs 1
  constructor
  · intro h
    have e0 := h 0
    have e1 := h 1
    have e2 := h 2
    rw [hw0] at e0
    rw [hw1] at e1
    rw [hw2, hs2] at e2
    refine ⟨?_, ?_, ?_⟩
    · rw [← h0]; simpa using e0
    · rw [← h1]; simpa using e1
    · apply Fin.ext; have : ((g.val : ℕ) : ℤ) = f.val := by simpa using e2
      exact_mod_cast this
  · rintro ⟨e0, e1, rfl⟩ a
    match a with
    | ⟨0, _⟩ => exact (congrArg₂ (· + ·) (h0.trans e0) (congrArg Nat.cast hw0)).trans (by simp)
    | ⟨1, _⟩ => exact (congrArg₂ (· + ·) (h1.trans e1) (congrArg Nat.cast hw1)).trans (by simp)
    | ⟨2, _⟩ => exact (congrArg₂ (· + ·) hs2 (congrArg Nat.cast hw2)).trans (by simp)

/-- The boundaries as the reference reads them. -/
def bounds (x1 : (⟨S9, .i32⟩ : BufTy).Contents (Elt Ideal)) : Fin 9 → BitVec 32 := fun b => x1 (ix1 b)

/-- A small number as a word, read signed. -/
theorem toInt_small {n : ℕ} (hn : n < 2 ^ 31) : (BitVec.ofNat 32 n).toInt = (n : ℤ) := by
  rw [BitVec.toInt_eq_toNat_cond, BitVec.toNat_ofNat, Nat.mod_eq_of_lt (by omega), if_pos (by omega)]

/-- A small number as a word is not wrapped. -/
theorem wrap_small {n : ℕ} (hn : n < 2 ^ 31) (a : BitVec 32) :
    Scalar.select (IntOp.cmpi .slt (BitVec.ofNat 32 n) 0#32) a (BitVec.ofNat 32 n) = BitVec.ofNat 32 n :=
  Idealize.ShloMosaic.Routing.wrap_of_lt _ _ (by rw [BitVec.toNat_ofNat, Nat.mod_eq_of_lt (by omega)]; exact hn)

variable (hcu : Segs (bounds x1)) (n : Fin 16384) (b : Fin 8)
    (hb : (bounds x1 b.castSucc).toNat ≤ n.val ∧ n.val < (bounds x1 b.succ).toNat)

include hcu hb

/-- A token's segment. -/
theorem segment_value : (val_main_v19 (F := Ideal) x1) (ix1 n) = BitVec.ofNat 32 b.val := by
  have hc : (val_main_v17 (F := Ideal) x1) (ix1 n) = BitVec.ofNat 32 (b.val + 1) := by
    rw [← hcu.count hb]
    refine Idealize.ShloMosaic.Routing.reduce_count (by norm_num) (val_main_v15 (F := Ideal) x1) natLt_1_32 reducesTo_S16384x9_S16384_d1 h_S_ n _ fun q => ?_
    refine (iff_of_eq (congrArg (· = 1#1) (v15_apply x1 n q))).trans ?_
    have hq := hcu.toInt q
    have hn : (BitVec.ofNat 32 n.val).toInt = (n.val : ℤ) := toInt_small (by have := n.isLt; omega)
    have : IntOp.cmpi .sle (x1 (ix1 q)) (BitVec.ofNat 32 n.val) = 1#1 ↔ (x1 (ix1 q)).toInt ≤ (BitVec.ofNat 32 n.val).toInt := by
      by_cases hd : (x1 (ix1 q)).toInt ≤ (BitVec.ofNat 32 n.val).toInt <;> simp [IntOp.cmpi, BitVec.sle, hd]
    rw [this, hn]
    change (bounds x1 q).toInt ≤ _ ↔ _
    rw [hq]
    constructor
    · intro h
      exact ⟨q.isLt, by exact_mod_cast h⟩
    · rintro ⟨_, h⟩
      exact_mod_cast h
  rw [v19_apply, hc]
  have := b.isLt
  apply BitVec.eq_of_toNat_eq
  show (BitVec.ofNat 32 (b.val + 1) - 1#32).toNat = _
  simp [BitVec.toNat_sub]
  omega

/-- A token's place in its segment. -/
theorem place_value : (val_main_v27 (F := Ideal) x1) (ix1 n) = BitVec.ofNat 32 (n.val - (bounds x1 b.castSucc).toNat) := by
  have hg : (val_main_v26 (F := Ideal) x1) (ix1 n) = x1 (ix1 b.castSucc) := by
    refine Idealize.ShloMosaic.Routing.gather_take1 gather_S9_S16384x1_S16384_n_0_n_n_0_1_1 rfl rfl rfl rfl x1 (val_main_v25 (F := Ideal) x1) n b.castSucc ?_ (by norm_num)
    refine (v25_apply x1 n).trans ?_
    rw [v24_apply, segment_value x1 hcu n b hb, wrap_small (by have := b.isLt; omega)]
    rfl
  rw [v27_apply, hg]
  have h1 := hb.1
  have hle := hcu.le b.castSucc
  have hn := n.isLt
  have hx : (x1 (ix1 b.castSucc)).toNat = (bounds x1 b.castSucc).toNat := rfl
  apply BitVec.eq_of_toNat_eq
  show (BitVec.ofNat 32 n.val - x1 (ix1 b.castSucc)).toNat = _
  rw [BitVec.toNat_sub, BitVec.toNat_ofNat, BitVec.toNat_ofNat, hx]
  omega

/-- The two words the scatter reads for a token. -/
theorem words_value : ((val_main_v41 (F := Ideal) x1) (ix2 n 0)).toInt = (b.val : ℤ)
    ∧ ((val_main_v41 (F := Ideal) x1) (ix2 n 1)).toInt = ((n.val - (bounds x1 b.castSucc).toNat : ℕ) : ℤ) := by
  have hn := n.isLt
  have hbl := b.isLt
  constructor
  · rw [v41_0_apply, segment_value x1 hcu n b hb, wrap_small (by omega), toInt_small (by omega)]
  · rw [v41_1_apply, place_value x1 hcu n b hb, wrap_small (by omega), toInt_small (by omega)]

omit hb n b

/-- The padded array holds, in every segment, the segment's tokens' features and then zeros. -/
theorem padded_value (b : Fin 8) (m : Fin 4096) (f : Fin 64) :
    (val_main_v42 (F := Ideal) x0 x1 x2 x3 x4 x5) (ix3 b m f) = padded (mkArgs x0 x2 x3 x4 x5 x6 x7 x8 x9 x10 x11 x12 x13 x14 x15) (bounds x1) b m.val f := by
  unfold val_main_v42
  have hseg : ∀ k : Fin 16384, ∃ b' : Fin 8, (bounds x1 b'.castSucc).toNat ≤ k.val ∧ k.val < (bounds x1 b'.succ).toNat :=
    fun k => hcu.exists_seg k.isLt
  have hland : ∀ (k : Fin 16384) (g : Fin 64), scatter_S8x4096x64_S16384x2_S16384x64_1_01_01_1.resultIdx? (ix2 k g) (val_main_v41 (F := Ideal) x1) = some (ix3 b m f)
      → k.val = (bounds x1 b.castSucc).toNat + m.val ∧ m.val < (bounds x1 b.succ).toNat - (bounds x1 b.castSucc).toNat ∧ g = f := by
    intro k g hk
    obtain ⟨e0, e1, e2⟩ := (lands _ k g b m f).mp hk
    obtain ⟨b', hb'⟩ := hseg k
    obtain ⟨w0, w1⟩ := words_value x1 hcu k b' hb'
    have hbb : b' = b := Fin.ext (by rw [w0] at e0; exact_mod_cast e0)
    subst hbb
    rw [w1] at e1
    have e1' : k.val - (bounds x1 b'.castSucc).toNat = m.val := by exact_mod_cast e1
    exact ⟨by omega, by omega, e2⟩
  by_cases hm : m.val < (bounds x1 b.succ).toNat - (bounds x1 b.castSucc).toNat
  · have hle := hcu.le b.succ
    have hk : (bounds x1 b.castSucc).toNat + m.val < 16384 := by omega
    have hval : padded (mkArgs x0 x2 x3 x4 x5 x6 x7 x8 x9 x10 x11 x12 x13 x14 x15) (bounds x1) b m.val f = (val_main_v9 (F := Ideal) x0 x2 x3 x4 x5) (ix2 ⟨(bounds x1 b.castSucc).toNat + m.val, hk⟩ f) := by
      rw [v9_apply x0 x2 x3 x4 x5 x6 x7 x8 x9 x10 x11 x12 x13 x14 x15]
      exact if_pos hm
    rw [hval]
    refine Idealize.ShloMosaic.Routing.scatter_set_hit scatter_S8x4096x64_S16384x2_S16384x64_1_01_01_1 (val_main_v28 (F := Ideal) ) (val_main_v41 (F := Ideal) x1) (val_main_v9 (F := Ideal) x0 x2 x3 x4 x5) (ix3 b m f) _ ?_ (ix2 ⟨(bounds x1 b.castSucc).toNat + m.val, hk⟩ f) ?_
    · intro k hk'
      have hkk : k = ix2 (k 0) (k 1) := by
        funext a
        match a with
        | ⟨0, _⟩ => rfl
        | ⟨1, _⟩ => rfl
      rw [hkk] at hk' ⊢
      obtain ⟨e0, _, e2⟩ := hland (k 0) (k 1) hk'
      rw [e2]
      exact congrArg (fun z => (val_main_v9 (F := Ideal) x0 x2 x3 x4 x5) (ix2 z f)) (Fin.ext e0)
    · refine (lands _ _ _ _ _ _).mpr ?_
      have hb : (bounds x1 b.castSucc).toNat ≤ (⟨(bounds x1 b.castSucc).toNat + m.val, hk⟩ : Fin 16384).val
          ∧ (⟨(bounds x1 b.castSucc).toNat + m.val, hk⟩ : Fin 16384).val < (bounds x1 b.succ).toNat := by
        constructor
        · show _ ≤ (bounds x1 b.castSucc).toNat + m.val
          omega
        · show (bounds x1 b.castSucc).toNat + m.val < _
          omega
      obtain ⟨w0, w1⟩ := words_value x1 hcu ⟨_, hk⟩ b hb
      refine ⟨w0, w1.trans ?_, rfl⟩
      show (((bounds x1 b.castSucc).toNat + m.val - (bounds x1 b.castSucc).toNat : ℕ) : ℤ) = _
      rw [Nat.add_sub_cancel_left]
  · have hval : padded (mkArgs x0 x2 x3 x4 x5 x6 x7 x8 x9 x10 x11 x12 x13 x14 x15) (bounds x1) b m.val f = 0 := if_neg hm
    rw [hval]
    refine (Idealize.ShloMosaic.Routing.scatter_set_miss scatter_S8x4096x64_S16384x2_S16384x64_1_01_01_1 (val_main_v28 (F := Ideal) ) (val_main_v41 (F := Ideal) x1) (val_main_v9 (F := Ideal) x0 x2 x3 x4 x5) (ix3 b m f) ?_).trans (v28_apply b m f)
    intro k hk'
    have hkk : k = ix2 (k 0) (k 1) := by
      funext a
      match a with
      | ⟨0, _⟩ => rfl
      | ⟨1, _⟩ => rfl
    rw [hkk] at hk'
    exact hm (hland (k 0) (k 1) hk').2.1

/-- The reference's result. -/
theorem reference_value (b : Fin 8) (o : Fin 256) :
    (val_main_v147 (F := Ideal) x0 x1 x2 x3 x4 x5 x6 x7 x8 x9 x10 x11 x12 x13 x14 x15) (ix2 b o) = tailR (mkArgs x0 x2 x3 x4 x5 x6 x7 x8 x9 x10 x11 x12 x13 x14 x15) (aggR (mkArgs x0 x2 x3 x4 x5 x6 x7 x8 x9 x10 x11 x12 x13 x14 x15) (padded (mkArgs x0 x2 x3 x4 x5 x6 x7 x8 x9 x10 x11 x12 x13 x14 x15) (bounds x1))) b o :=
  result_value x0 x1 x2 x3 x4 x5 x6 x7 x8 x9 x10 x11 x12 x13 x14 x15 (padded (mkArgs x0 x2 x3 x4 x5 x6 x7 x8 x9 x10 x11 x12 x13 x14 x15) (bounds x1))
    (fun b m f => padded_value x0 x1 x2 x3 x4 x5 x6 x7 x8 x9 x10 x11 x12 x13 x14 x15 hcu b m f) b o

end Cert.ReferenceIdeal.Hand

end
-- ==== Proof.PreFacts.lean ====
module

public import proofs.«01_k».proof.Pre_tiles_and_finite
public import proofs.«01_k».proof.Proof.ValueEquation
public import Idealize.ShloMosaic.Lib.Pipeline.ValueKit
public import Idealize.ShloMosaic.Lib.Claim

@[expose] public section

set_option maxRecDepth 16384
set_option maxHeartbeats 0

noncomputable section

namespace Cert.Pre_tiles_and_finite.Hand

open Cert.Pre_tiles_and_finite
open Idealize.ShloMosaic Idealize.ShloMosaic.TcCoe Idealize.ShloMosaic.Tactic
open Cert.ValueMath

/-- The side conditions of the precondition's operations hold. -/
theorem facts : Facts := ⟨by decide, by decide, by decide, by decide, by decide, by decide, by decide, by decide, by decide, by decide, by decide⟩

/-- A comparison's word is one exactly when the compared numbers are so related. -/
theorem bit_iff (p : Prop) [Decidable p] : BitVec.ofBool (decide p) = 1#1 ↔ p := by
  by_cases h : p <;> simp [h]

/-- Two words whose comparison's word is one are equal. -/
theorem eq_of_bit {x y : BitVec 32} (h : BitVec.ofBool (x == y) = 1#1) : x = y := by
  by_cases hxy : x = y
  · exact hxy
  · rw [beq_eq_false_iff_ne.mpr hxy] at h
    exact absurd h (by decide)

variable [Facts]

variable (x0 : FVec Ideal S16384x4 .f32)
    (x1 : IVec S9 32)
    (x2 : FVec Ideal S4x64 .f32)
    (x3 : FVec Ideal S64 .f32)
    (x4 : FVec Ideal S64x64 .f32)
    (x5 : FVec Ideal S64 .f32)
    (x6 : FVec Ideal S64x64 .f32)
    (x7 : FVec Ideal S1x64x64 .f32)
    (x8 : FVec Ideal S4096x256 .f32)
    (x9 : FVec Ideal S64 .f32)
    (x10 : FVec Ideal S64 .f32)
    (x11 : FVec Ideal S256 .f32)
    (x12 : FVec Ideal S256 .f32)
    (x13 : FVec Ideal S256x256 .f32)
    (x14 : FVec Ideal S256 .f32)
    (x15 : FVec Ideal S256 .f32)

/-- The precondition's first condition: the first boundary is zero. -/
theorem read_first : (fn (F := Ideal) x0 x1 x2 x3 x4 x5 x6 x7 x8 x9 x10 x11 x12 x13 x14 x15).1 (ix1 0) = IntOp.cmpi .eq (x1 (ix1 0)) 0#32 := by
  dsimp only [fn, fn_part1, fn_part2]
  pointwise []

/-- Its second: the last boundary is 16384. -/
theorem read_last : (fn (F := Ideal) x0 x1 x2 x3 x4 x5 x6 x7 x8 x9 x10 x11 x12 x13 x14 x15).2.1 (ix1 0) = IntOp.cmpi .eq (x1 (ix1 8)) 16384#32 := by
  dsimp only [fn, fn_part1, fn_part2]
  pointwise []

/-- Its third: a boundary is a multiple of 512. -/
theorem read_tile (b : Fin 9) : (fn (F := Ideal) x0 x1 x2 x3 x4 x5 x6 x7 x8 x9 x10 x11 x12 x13 x14 x15).2.2.1 (ix1 b) = IntOp.cmpi .eq (IntOp.andi (x1 (ix1 b)) 511#32) 0#32 := by
  dsimp only [fn, fn_part1, fn_part2]
  pointwise []

/-- Its fourth: the boundaries ascend. -/
theorem read_step (b : Fin 8) : (fn (F := Ideal) x0 x1 x2 x3 x4 x5 x6 x7 x8 x9 x10 x11 x12 x13 x14 x15).2.2.2.1 (ix1 b) = IntOp.cmpi .sge (x1 (ix1 b.succ)) (x1 (ix1 b.castSucc)) := by
  have e : b.succ = ⟨1 + b.val, by have := b.isLt; omega⟩ := Fin.ext (Nat.add_comm _ _)
  rw [e]
  dsimp only [fn, fn_part1, fn_part2]
  pointwise []
  rfl

/-- Its fifth: a segment has at most 4096 tokens. -/
theorem read_len (b : Fin 8) : (fn (F := Ideal) x0 x1 x2 x3 x4 x5 x6 x7 x8 x9 x10 x11 x12 x13 x14 x15).2.2.2.2.1 (ix1 b) = IntOp.cmpi .sle (IntOp.subi (x1 (ix1 b.succ)) (x1 (ix1 b.castSucc))) 4096#32 := by
  have e : b.succ = ⟨1 + b.val, by have := b.isLt; omega⟩ := Fin.ext (Nat.add_comm _ _)
  rw [e]
  dsimp only [fn, fn_part1, fn_part2]
  pointwise []
  rfl

/-- The tokens are finite. -/
theorem read_flat (n : Fin 16384) (d : Fin 4) : (fn (F := Ideal) x0 x1 x2 x3 x4 x5 x6 x7 x8 x9 x10 x11 x12 x13 x14 x15).2.2.2.2.2.1 (ix2 n d) = Ideal.cmp .olt (max (x0 (ix2 n d)) (-x0 (ix2 n d))) (Ideal.ofBits .f32 0x7F800000#32) := by
  dsimp only [fn, fn_part1, fn_part2]
  pointwise []
  rfl

/-- The first layer's weights are finite. -/
theorem read_W1 (d : Fin 4) (j : Fin 64) : (fn (F := Ideal) x0 x1 x2 x3 x4 x5 x6 x7 x8 x9 x10 x11 x12 x13 x14 x15).2.2.2.2.2.2.1 (ix2 d j) = Ideal.cmp .olt (max (x2 (ix2 d j)) (-x2 (ix2 d j))) (Ideal.ofBits .f32 0x7F800000#32) := by
  dsimp only [fn, fn_part1, fn_part2]
  pointwise []
  rfl

/-- The first layer's bias are finite. -/
theorem read_b1 (j : Fin 64) : (fn (F := Ideal) x0 x1 x2 x3 x4 x5 x6 x7 x8 x9 x10 x11 x12 x13 x14 x15).2.2.2.2.2.2.2.1 (ix1 j) = Ideal.cmp .olt (max (x3 (ix1 j)) (-x3 (ix1 j))) (Ideal.ofBits .f32 0x7F800000#32) := by
  dsimp only [fn, fn_part1, fn_part2]
  pointwise []
  rfl

/-- The second layer's weights are finite. -/
theorem read_W2 (j k : Fin 64) : (fn (F := Ideal) x0 x1 x2 x3 x4 x5 x6 x7 x8 x9 x10 x11 x12 x13 x14 x15).2.2.2.2.2.2.2.2.1 (ix2 j k) = Ideal.cmp .olt (max (x4 (ix2 j k)) (-x4 (ix2 j k))) (Ideal.ofBits .f32 0x7F800000#32) := by
  dsimp only [fn, fn_part1, fn_part2]
  pointwise []
  rfl

/-- The second layer's bias are finite. -/
theorem read_b2 (k : Fin 64) : (fn (F := Ideal) x0 x1 x2 x3 x4 x5 x6 x7 x8 x9 x10 x11 x12 x13 x14 x15).2.2.2.2.2.2.2.2.2.1 (ix1 k) = Ideal.cmp .olt (max (x5 (ix1 k)) (-x5 (ix1 k))) (Ideal.ofBits .f32 0x7F800000#32) := by
  dsimp only [fn, fn_part1, fn_part2]
  pointwise []
  rfl

/-- The cluster weights are finite. -/
theorem read_cw (k c : Fin 64) : (fn (F := Ideal) x0 x1 x2 x3 x4 x5 x6 x7 x8 x9 x10 x11 x12 x13 x14 x15).2.2.2.2.2.2.2.2.2.2.1 (ix2 k c) = Ideal.cmp .olt (max (x6 (ix2 k c)) (-x6 (ix2 k c))) (Ideal.ofBits .f32 0x7F800000#32) := by
  dsimp only [fn, fn_part1, fn_part2]
  pointwise []
  rfl

/-- The first normalization's scale are finite. -/
theorem read_g1 (c : Fin 64) : (fn (F := Ideal) x0 x1 x2 x3 x4 x5 x6 x7 x8 x9 x10 x11 x12 x13 x14 x15).2.2.2.2.2.2.2.2.2.2.2 (ix1 c) = Ideal.cmp .olt (max (x9 (ix1 c)) (-x9 (ix1 c))) (Ideal.ofBits .f32 0x7F800000#32) := by
  dsimp only [fn, fn_part1, fn_part2]
  pointwise []
  rfl

/-- What the precondition says of the boundaries: they cut the tokens into segments of whole tiles. -/
theorem segs_of (cu : Fin 9 → BitVec 32) (h0 : cu 0 = 0#32) (h8 : cu 8 = 16384#32) (ht : ∀ b, cu b &&& 511#32 = 0#32)
    (hs : ∀ b : Fin 8, (cu b.castSucc).toInt ≤ (cu b.succ).toInt) (hl : ∀ b : Fin 8, (cu b.succ - cu b.castSucc).toInt ≤ 4096) : Segs cu := by
  have hmono : Monotone fun b => (cu b).toInt := Fin.monotone_iff_le_succ.mpr hs
  have hlo : ∀ b, 0 ≤ (cu b).toInt := fun b => by
    have := hmono (Fin.zero_le b)
    simp only [h0] at this
    exact this
  have hhi : ∀ b, (cu b).toInt ≤ 16384 := fun b => by
    have := hmono (Fin.le_last b)
    have e : (cu (Fin.last 8)).toInt = 16384 := by
      show (cu 8).toInt = 16384
      rw [h8]
      rfl
    simp only [e] at this
    exact this
  have hnat : ∀ b, (cu b).toInt = ((cu b).toNat : ℤ) := fun b => by
    have h1 := hlo b
    have h2 := hhi b
    have h3 := (cu b).isLt
    rw [BitVec.toInt_eq_toNat_cond] at h1 h2 ⊢
    split at h1 <;> rename_i hc
    · rw [if_pos hc]
    · omega
  have hstep : ∀ b : Fin 8, (cu b.castSucc).toNat ≤ (cu b.succ).toNat := fun b => by
    have := hs b
    rw [hnat, hnat] at this
    exact_mod_cast this
  have hle : ∀ b, (cu b).toNat ≤ 16384 := fun b => by
    have := hhi b
    rw [hnat] at this
    exact_mod_cast this
  refine ⟨by rw [h0]; rfl, by rw [h8]; rfl, fun b => ?_, hstep, fun b => ?_⟩
  · have := congrArg BitVec.toNat (ht b)
    rw [BitVec.toNat_and] at this
    have e : (cu b).toNat &&& 511 = (cu b).toNat % 512 := Nat.and_two_pow_sub_one_eq_mod (cu b).toNat 9
    have e2 : (511#32).toNat = 511 := rfl
    rw [e2, e] at this
    exact Nat.dvd_of_mod_eq_zero this
  · have h1 := hl b
    have h2 := hstep b
    have h3 := hle b.succ
    have h4 : (cu b.succ - cu b.castSucc).toNat = (cu b.succ).toNat - (cu b.castSucc).toNat := by
      rw [BitVec.toNat_sub]
      omega
    rw [BitVec.toInt_eq_toNat_cond, h4, if_pos (by omega)] at h1
    omega

variable (h0 : (fn (F := Ideal) x0 x1 x2 x3 x4 x5 x6 x7 x8 x9 x10 x11 x12 x13 x14 x15).1 = fun _ => 1#1)
    (h1 : (fn (F := Ideal) x0 x1 x2 x3 x4 x5 x6 x7 x8 x9 x10 x11 x12 x13 x14 x15).2.1 = fun _ => 1#1)
    (h2 : (fn (F := Ideal) x0 x1 x2 x3 x4 x5 x6 x7 x8 x9 x10 x11 x12 x13 x14 x15).2.2.1 = fun _ => 1#1)
    (h3 : (fn (F := Ideal) x0 x1 x2 x3 x4 x5 x6 x7 x8 x9 x10 x11 x12 x13 x14 x15).2.2.2.1 = fun _ => 1#1)
    (h4 : (fn (F := Ideal) x0 x1 x2 x3 x4 x5 x6 x7 x8 x9 x10 x11 x12 x13 x14 x15).2.2.2.2.1 = fun _ => 1#1)
    (h5 : (fn (F := Ideal) x0 x1 x2 x3 x4 x5 x6 x7 x8 x9 x10 x11 x12 x13 x14 x15).2.2.2.2.2.1 = fun _ => 1#1)
    (h6 : (fn (F := Ideal) x0 x1 x2 x3 x4 x5 x6 x7 x8 x9 x10 x11 x12 x13 x14 x15).2.2.2.2.2.2.1 = fun _ => 1#1)
    (h7 : (fn (F := Ideal) x0 x1 x2 x3 x4 x5 x6 x7 x8 x9 x10 x11 x12 x13 x14 x15).2.2.2.2.2.2.2.1 = fun _ => 1#1)
    (h8 : (fn (F := Ideal) x0 x1 x2 x3 x4 x5 x6 x7 x8 x9 x10 x11 x12 x13 x14 x15).2.2.2.2.2.2.2.2.1 = fun _ => 1#1)
    (h9 : (fn (F := Ideal) x0 x1 x2 x3 x4 x5 x6 x7 x8 x9 x10 x11 x12 x13 x14 x15).2.2.2.2.2.2.2.2.2.1 = fun _ => 1#1)
    (h10 : (fn (F := Ideal) x0 x1 x2 x3 x4 x5 x6 x7 x8 x9 x10 x11 x12 x13 x14 x15).2.2.2.2.2.2.2.2.2.2.1 = fun _ => 1#1)
    (h11 : (fn (F := Ideal) x0 x1 x2 x3 x4 x5 x6 x7 x8 x9 x10 x11 x12 x13 x14 x15).2.2.2.2.2.2.2.2.2.2.2 = fun _ => 1#1)

include h0 h1 h2 h3 h4 in
/-- The precondition's boundaries cut the tokens into segments of whole tiles. -/
theorem segs : Segs fun b => x1 (ix1 b) := by
  refine segs_of _ ?_ ?_ (fun b => ?_) (fun b => ?_) fun b => ?_
  · have := (read_first x0 x1 x2 x3 x4 x5 x6 x7 x8 x9 x10 x11 x12 x13 x14 x15).symm.trans (congrFun h0 (ix1 0))
    exact eq_of_bit this
  · have := (read_last x0 x1 x2 x3 x4 x5 x6 x7 x8 x9 x10 x11 x12 x13 x14 x15).symm.trans (congrFun h1 (ix1 0))
    exact eq_of_bit this
  · have := (read_tile x0 x1 x2 x3 x4 x5 x6 x7 x8 x9 x10 x11 x12 x13 x14 x15 b).symm.trans (congrFun h2 (ix1 b))
    exact eq_of_bit this
  · have := (read_step x0 x1 x2 x3 x4 x5 x6 x7 x8 x9 x10 x11 x12 x13 x14 x15 b).symm.trans (congrFun h3 (ix1 b))
    simpa [IntOp.cmpi, BitVec.sle, bit_iff] using this
  · have := (read_len x0 x1 x2 x3 x4 x5 x6 x7 x8 x9 x10 x11 x12 x13 x14 x15 b).symm.trans (congrFun h4 (ix1 b))
    simpa [IntOp.cmpi, IntOp.subi, BitVec.sle, bit_iff] using this

/-- A number whose magnitude compares less than infinity is a real number. -/
theorem real_of {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  exact IsReal.of_abs ((bit_iff _).mp h)

include h5 h6 h7 h8 h9 h10 h11 in
/-- The precondition's finite arguments are real numbers. -/
theorem finite : Finite (mkArgs x0 x2 x3 x4 x5 x6 x7 x8 x9 x10 x11 x12 x13 x14 x15) where
  flat n d := by
    by_cases hn : n < 16384
    · have : (mkArgs x0 x2 x3 x4 x5 x6 x7 x8 x9 x10 x11 x12 x13 x14 x15).flat n d = x0 (ix2 ⟨n, hn⟩ d) := dif_pos hn
      rw [this]
      exact real_of ((read_flat x0 x1 x2 x3 x4 x5 x6 x7 x8 x9 x10 x11 x12 x13 x14 x15 ⟨n, hn⟩ d).symm.trans (congrFun h5 _))
    · have : (mkArgs x0 x2 x3 x4 x5 x6 x7 x8 x9 x10 x11 x12 x13 x14 x15).flat n d = 0 := dif_neg hn
      rw [this]
      exact IsReal.zero
  W1 d j := real_of ((read_W1 x0 x1 x2 x3 x4 x5 x6 x7 x8 x9 x10 x11 x12 x13 x14 x15 d j).symm.trans (congrFun h6 _))
  b1 j := real_of ((read_b1 x0 x1 x2 x3 x4 x5 x6 x7 x8 x9 x10 x11 x12 x13 x14 x15 j).symm.trans (congrFun h7 _))
  W2 j k := real_of ((read_W2 x0 x1 x2 x3 x4 x5 x6 x7 x8 x9 x10 x11 x12 x13 x14 x15 j k).symm.trans (congrFun h8 _))
  b2 k := real_of ((read_b2 x0 x1 x2 x3 x4 x5 x6 x7 x8 x9 x10 x11 x12 x13 x14 x15 k).symm.trans (congrFun h9 _))
  cw k c := real_of ((read_cw x0 x1 x2 x3 x4 x5 x6 x7 x8 x9 x10 x11 x12 x13 x14 x15 k c).symm.trans (congrFun h10 _))
  g1 c := real_of ((read_g1 x0 x1 x2 x3 x4 x5 x6 x7 x8 x9 x10 x11 x12 x13 x14 x15 c).symm.trans (congrFun h11 _))

end Cert.Pre_tiles_and_finite.Hand

end
-- ==== Proof.ValueClaim.lean ====
module

public import proofs.«01_k».proof.Defs
public import proofs.«01_k».proof.Proof.KernelIdealValue
public import proofs.«01_k».proof.Proof.ValueEquation
public import proofs.«01_k».proof.Proof.ReferenceSegments
public import proofs.«01_k».proof.Proof.PreFacts
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem
open Cert.ValueMath

/-- The reference ends with its result at the composed reading of its arguments, the arguments as they were. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v147) = Cert.ReferenceIdeal.Read.val_main_v147 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)) :=
  (θ_run Cert.ReferenceIdeal.defs _ _).mono
    (fun r h c => ⟨(h c).1.trans (Cert.ReferenceIdeal.Read.val_main_v147_eq (StableHlo.launchContents m c)), (h c).2⟩)
    (Cert.ReferenceIdeal.Value.run (F := Ideal) m g)

/-- The reference's reading of the kernel's arguments is the kernel's result, under the precondition. -/
theorem result_eq [Cert.Pre_tiles_and_finite.Facts]
    (m : (ℓ : Loc Cert.KernelIdeal.nD Cert.KernelIdeal.τ Cert.KernelIdeal.sig) → Buf (Elt Ideal) ℓ) (hpre : Cert.Pre_KernelIdeal_tiles_and_finite m) (c : Dev Cert.KernelIdeal.nD) :
    Cert.ReferenceIdeal.Read.val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) = Cert.KernelIdeal.Hand.kout m c := by
  obtain ⟨h0, h1, h2, h3, h4, h5, h6, h7, h8, h9, h10, h11⟩ := hpre c
  have hcu := Cert.Pre_tiles_and_finite.Hand.segs _ _ _ _ _ _ _ _ _ _ _ _ _ _ _ _ h0 h1 h2 h3 h4
  have hA := Cert.Pre_tiles_and_finite.Hand.finite _ _ _ _ _ _ _ _ _ _ _ _ _ _ _ _ h5 h6 h7 h8 h9 h10 h11
  funext y
  obtain ⟨b, o, rfl⟩ : ∃ (b : Fin 8) (o : Fin 256), y = ix2 b o := ⟨y 0, y 1, by funext i; fin_cases i <;> rfl⟩
  exact (Cert.ReferenceIdeal.Hand.reference_value _ _ _ _ _ _ _ _ _ _ _ _ _ _ _ _ hcu b o).trans (value_equation hA hcu b o).symm

/-- The idealized kernel and the reference end with one result on the same arguments, under the precondition. -/
theorem algebraic : Cert.algebraic_KernelIdeal_ReferenceIdeal_pre_tiles_and_finite (hKernelIdeal := Cert.KernelIdeal.Gen.facts)
    (hReferenceIdeal := Cert.ReferenceIdeal.Gen.facts) (hPre_tiles_and_finite := Cert.Pre_tiles_and_finite.Hand.facts) := by
  letI : Cert.Pre_tiles_and_finite.Facts := Cert.Pre_tiles_and_finite.Hand.facts
  intro m g m' g' hpre hagree
  refine ⟨fun c => Cert.KernelIdeal.Hand.kout m c, Cert.KernelIdeal.Hand.run_value m g, ?_⟩
  refine (θ_run Cert.ReferenceIdeal.defs _ _).mono (fun r h c => ⟨(h c).1.trans ?_, (h c).2⟩) (run_reference m' g')
  obtain ⟨e0, e1, e2, e3, e4, e5, e6, e7, e8, e9, e10, e11, e12, e13, e14, e15⟩ := hagree c
  rw [e0, e1, e2, e3, e4, e5, e6, e7, e8, e9, e10, e11, e12, e13, e14, e15]
  exact result_eq m hpre c

end Cert.Proof

end
-- ==== Proof.lean ====
/-
  The claims: the kernel's frame at its own values and at exact arithmetic, the reference's frame, that the
  idealized kernel is the kernel's own text, and that at exact arithmetic kernel and reference have one result.
-/
module

public import proofs.«01_k».proof.Defs
public import proofs.«01_k».proof.Proof.KernelFrame
public import proofs.«01_k».proof.Proof.KernelIdealFrame
public import proofs.«01_k».proof.Proof.ValueClaim
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.ShloMosaic.TcCoe Idealize.SL.Sem

/-- The reference's executions end, its arguments as they were; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The same of the reference under the precondition. -/
theorem frame_reference_pre : Cert.quiescent_ReferenceIdeal_pre_tiles_and_finite (hReferenceIdeal := Cert.ReferenceIdeal.Gen.facts)
    (hPre_tiles_and_finite := Cert.Pre_tiles_and_finite.Hand.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- All the claims. -/
theorem claim : Cert.Claim := ⟨Cert.Kernel.Gen.facts, Cert.KernelIdeal.Gen.facts, Cert.ReferenceIdeal.Gen.facts,
  Cert.Pre_tiles_and_finite.Hand.facts,
  fun m g _ => Cert.Kernel.Hand.frame (F := Bits) m g,
  fun m g _ => Cert.KernelIdeal.Hand.frame (F := Ideal) m g,
  fun m g _ => Cert.KernelIdeal.Hand.frame (F := Ideal) m g,
  frame_reference, frame_reference_pre, trivial, algebraic⟩

end Cert.Proof

end
